-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxReferenceIdeal (m : (ℓ : Loc Cert.InProjCtxReferenceIdeal.nD Cert.InProjCtxReferenceIdeal.τ Cert.InProjCtxReferenceIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxReferenceIdeal (m : (ℓ : Loc Cert.MergeCtxReferenceIdeal.nD Cert.MergeCtxReferenceIdeal.τ Cert.MergeCtxReferenceIdeal.sig) → Buf (Elt Ideal) ℓ) : Prop :=
  True

def Pre_OutProjCtx (m : (ℓ : Loc Cert.OutProjCtx.nD Cert.OutProjCtx.τ Cert.OutProjCtx.sig) → Buf (Elt Bits) ℓ) : Prop :=
  True

def Pre_OutProjCtxIdeal (m : (ℓ : Loc Cert.OutProjCtxIdeal.nD Cert.OutProjCtxIdeal.τ Cert.OutProjCtxIdeal.sig) → Buf (Elt Ideal) ℓ) : Prop :=
  True

def Pre_OutProjCtxReferenceIdeal (m : (ℓ : Loc Cert.OutProjCtxReferenceIdeal.nD Cert.OutProjCtxReferenceIdeal.τ Cert.OutProjCtxReferenceIdeal.sig) → Buf (Elt Ideal) ℓ) : Prop :=
  True

def Pre_InProjLast (m : (ℓ : Loc Cert.InProjLast.nD Cert.InProjLast.τ Cert.InProjLast.sig) → Buf (Elt Bits) ℓ) : Prop :=
  True

def Pre_InProjLastIdeal (m : (ℓ : Loc Cert.InProjLastIdeal.nD Cert.InProjLastIdeal.τ Cert.InProjLastIdeal.sig) → Buf (Elt Ideal) ℓ) : Prop :=
  True

def Pre_InProjLastReferenceIdeal (m : (ℓ : Loc Cert.InProjLastReferenceIdeal.nD Cert.InProjLastReferenceIdeal.τ Cert.InProjLastReferenceIdeal.sig) → Buf (Elt Ideal) ℓ) : Prop :=
  True

def Pre_SguCtx (m : (ℓ : Loc Cert.SguCtx.nD Cert.SguCtx.τ Cert.SguCtx.sig) → Buf (Elt Bits) ℓ) : Prop :=
  True

def Pre_SguCtxIdeal (m : (ℓ : Loc Cert.SguCtxIdeal.nD Cert.SguCtxIdeal.τ Cert.SguCtxIdeal.sig) → Buf (Elt Ideal) ℓ) : Prop :=
  True

def Pre_SguCtxReferenceIdeal (m : (ℓ : Loc Cert.SguCtxReferenceIdeal.nD Cert.SguCtxReferenceIdeal.τ Cert.SguCtxReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ r.2.sem = fun _ => 0)

def quiescent_InProjCtxReferenceIdeal [hInProjCtxReferenceIdeal : Cert.InProjCtxReferenceIdeal.Facts] : Prop :=
  ∀ (m : (ℓ : Loc Cert.InProjCtxReferenceIdeal.nD Cert.InProjCtxReferenceIdeal.τ Cert.InProjCtxReferenceIdeal.sig) → Buf (Elt Ideal) ℓ) (g : Dev Cert.InProjCtxReferenceIdeal.nD → PrngReg), Pre_InProjCtxReferenceIdeal m →
    θ_run (Cert.InProjCtxReferenceIdeal.defs (F := Ideal)) (onTc (τ := Cert.InProjCtxReferenceIdeal.τ) (Cert.InProjCtxReferenceIdeal.main (F := Ideal))) ⟨m, fun _ => 0, g⟩ (fun r => (∀ c : Dev Cert.InProjCtxReferenceIdeal.nD,
      r.2.mem ((c.tc : Thread Cert.InProjCtxReferenceIdeal.nD Cert.InProjCtxReferenceIdeal.τ).loc Cert.InProjCtxReferenceIdeal.main_arg0) = m ((c.tc : Thread Cert.InProjCtxReferenceIdeal.nD Cert.InProjCtxReferenceIdeal.τ).loc Cert.InProjCtxReferenceIdeal.main_arg0)
      ∧ r.2.mem ((c.tc : Thread Cert.InProjCtxReferenceIdeal.nD Cert.InProjCtxReferenceIdeal.τ).loc Cert.InProjCtxReferenceIdeal.main_arg1) = m ((c.tc : Thread Cert.InProjCtxReferenceIdeal.nD Cert.InProjCtxReferenceIdeal.τ).loc Cert.InProjCtxReferenceIdeal.main_arg1)
      ∧ r.2.mem ((c.tc : Thread Cert.InProjCtxReferenceIdeal.nD Cert.InProjCtxReferenceIdeal.τ).loc Cert.InProjCtxReferenceIdeal.main_arg2) = m ((c.tc : Thread Cert.InProjCtxReferenceIdeal.nD Cert.InProjCtxReferenceIdeal.τ).loc Cert.InProjCtxReferenceIdeal.main_arg2)
      ∧ r.2.mem ((c.tc : Thread Cert.InProjCtxReferenceIdeal.nD Cert.InProjCtxReferenceIdeal.τ).loc Cert.InProjCtxReferenceIdeal.main_arg3) = m ((c.tc : Thread Cert.InProjCtxReferenceIdeal.nD Cert.InProjCtxReferenceIdeal.τ).loc Cert.InProjCtxReferenceIdeal.main_arg3))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4)
      ∧ r.2.mem ((c.tc : Thread Cert.MergeCtx.nD Cert.MergeCtx.τ).loc Cert.MergeCtx.main_arg5) = m ((c.tc : Thread Cert.MergeCtx.nD Cert.MergeCtx.τ).loc Cert.MergeCtx.main_arg5)
      ∧ r.2.mem ((c.tc : Thread Cert.MergeCtx.nD Cert.MergeCtx.τ).loc Cert.MergeCtx.main_arg6) = m ((c.tc : Thread Cert.MergeCtx.nD Cert.MergeCtx.τ).loc Cert.MergeCtx.main_arg6)
      ∧ r.2.mem ((c.tc : Thread Cert.MergeCtx.nD Cert.MergeCtx.τ).loc Cert.MergeCtx.main_arg7) = m ((c.tc : Thread Cert.MergeCtx.nD Cert.MergeCtx.τ).loc Cert.MergeCtx.main_arg7)
      ∧ r.2.mem ((c.tc : Thread Cert.MergeCtx.nD Cert.MergeCtx.τ).loc Cert.MergeCtx.main_arg8) = m ((c.tc : Thread Cert.MergeCtx.nD Cert.MergeCtx.τ).loc Cert.MergeCtx.main_arg8))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
      ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
      ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
      ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
      ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8))
      ∧ r.2.sem = fun _ => 0)

def quiescent_MergeCtxReferenceIdeal [hMergeCtxReferenceIdeal : Cert.MergeCtxReferenceIdeal.Facts] : Prop :=
  ∀ (m : (ℓ : Loc Cert.MergeCtxReferenceIdeal.nD Cert.MergeCtxReferenceIdeal.τ Cert.MergeCtxReferenceIdeal.sig) → Buf (Elt Ideal) ℓ) (g : Dev Cert.MergeCtxReferenceIdeal.nD → PrngReg), Pre_MergeCtxReferenceIdeal m →
    θ_run (Cert.MergeCtxReferenceIdeal.defs (F := Ideal)) (onTc (τ := Cert.MergeCtxReferenceIdeal.τ) (Cert.MergeCtxReferenceIdeal.main (F := Ideal))) ⟨m, fun _ => 0, g⟩ (fun r => (∀ c : Dev Cert.MergeCtxReferenceIdeal.nD,
      r.2.mem ((c.tc : Thread Cert.MergeCtxReferenceIdeal.nD Cert.MergeCtxReferenceIdeal.τ).loc Cert.MergeCtxReferenceIdeal.main_arg0) = m ((c.tc : Thread Cert.MergeCtxReferenceIdeal.nD Cert.MergeCtxReferenceIdeal.τ).loc Cert.MergeCtxReferenceIdeal.main_arg0)
      ∧ r.2.mem ((c.tc : Thread Cert.MergeCtxReferenceIdeal.nD Cert.MergeCtxReferenceIdeal.τ).loc Cert.MergeCtxReferenceIdeal.main_arg1) = m ((c.tc : Thread Cert.MergeCtxReferenceIdeal.nD Cert.MergeCtxReferenceIdeal.τ).loc Cert.MergeCtxReferenceIdeal.main_arg1)
      ∧ r.2.mem ((c.tc : Thread Cert.MergeCtxReferenceIdeal.nD Cert.MergeCtxReferenceIdeal.τ).loc Cert.MergeCtxReferenceIdeal.main_arg2) = m ((c.tc : Thread Cert.MergeCtxReferenceIdeal.nD Cert.MergeCtxReferenceIdeal.τ).loc Cert.MergeCtxReferenceIdeal.main_arg2)
      ∧ r.2.mem ((c.tc : Thread Cert.MergeCtxReferenceIdeal.nD Cert.MergeCtxReferenceIdeal.τ).loc Cert.MergeCtxReferenceIdeal.main_arg3) = m ((c.tc : Thread Cert.MergeCtxReferenceIdeal.nD Cert.MergeCtxReferenceIdeal.τ).loc Cert.MergeCtxReferenceIdeal.main_arg3)
      ∧ r.2.mem ((c.tc : Thread Cert.MergeCtxReferenceIdeal.nD Cert.MergeCtxReferenceIdeal.τ).loc Cert.MergeCtxReferenceIdeal.main_arg4) = m ((c.tc : Thread Cert.MergeCtxReferenceIdeal.nD Cert.MergeCtxReferenceIdeal.τ).loc Cert.MergeCtxReferenceIdeal.main_arg4)
      ∧ r.2.mem ((c.tc : Thread Cert.MergeCtxReferenceIdeal.nD Cert.MergeCtxReferenceIdeal.τ).loc Cert.MergeCtxReferenceIdeal.main_arg5) = m ((c.tc : Thread Cert.MergeCtxReferenceIdeal.nD Cert.MergeCtxReferenceIdeal.τ).loc Cert.MergeCtxReferenceIdeal.main_arg5)
      ∧ r.2.mem ((c.tc : Thread Cert.MergeCtxReferenceIdeal.nD Cert.MergeCtxReferenceIdeal.τ).loc Cert.MergeCtxReferenceIdeal.main_arg6) = m ((c.tc : Thread Cert.MergeCtxReferenceIdeal.nD Cert.MergeCtxReferenceIdeal.τ).loc Cert.MergeCtxReferenceIdeal.main_arg6)
      ∧ r.2.mem ((c.tc : Thread Cert.MergeCtxReferenceIdeal.nD Cert.MergeCtxReferenceIdeal.τ).loc Cert.MergeCtxReferenceIdeal.main_arg7) = m ((c.tc : Thread Cert.MergeCtxReferenceIdeal.nD Cert.MergeCtxReferenceIdeal.τ).loc Cert.MergeCtxReferenceIdeal.main_arg7)
      ∧ r.2.mem ((c.tc : Thread Cert.MergeCtxReferenceIdeal.nD Cert.MergeCtxReferenceIdeal.τ).loc Cert.MergeCtxReferenceIdeal.main_arg8) = m ((c.tc : Thread Cert.MergeCtxReferenceIdeal.nD Cert.MergeCtxReferenceIdeal.τ).loc Cert.MergeCtxReferenceIdeal.main_arg8))
      ∧ r.2.sem = fun _ => 0)

def quiescent_OutProjCtx [hOutProjCtx : Cert.OutProjCtx.Facts] : Prop :=
  ∀ (m : (ℓ : Loc Cert.OutProjCtx.nD Cert.OutProjCtx.τ Cert.OutProjCtx.sig) → Buf (Elt Bits) ℓ) (g : Dev Cert.OutProjCtx.nD → PrngReg), Pre_OutProjCtx m →
    θ_run (Cert.OutProjCtx.defs (F := Bits)) (onTc (τ := Cert.OutProjCtx.τ) (Cert.OutProjCtx.main (F := Bits))) ⟨m, fun _ => 0, g⟩ (fun r => (∀ c : Dev Cert.OutProjCtx.nD,
      r.2.mem ((c.tc : Thread Cert.OutProjCtx.nD Cert.OutProjCtx.τ).loc Cert.OutProjCtx.main_arg0) = m ((c.tc : Thread Cert.OutProjCtx.nD Cert.OutProjCtx.τ).loc Cert.OutProjCtx.main_arg0)
      ∧ r.2.mem ((c.tc : Thread Cert.OutProjCtx.nD Cert.OutProjCtx.τ).loc Cert.OutProjCtx.main_arg1) = m ((c.tc : Thread Cert.OutProjCtx.nD Cert.OutProjCtx.τ).loc Cert.OutProjCtx.main_arg1)
      ∧ r.2.mem ((c.tc : Thread Cert.OutProjCtx.nD Cert.OutProjCtx.τ).loc Cert.OutProjCtx.main_arg2) = m ((c.tc : Thread Cert.OutProjCtx.nD Cert.OutProjCtx.τ).loc Cert.OutProjCtx.main_arg2)
      ∧ r.2.mem ((c.tc : Thread Cert.OutProjCtx.nD Cert.OutProjCtx.τ).loc Cert.OutProjCtx.main_arg3) = m ((c.tc : Thread Cert.OutProjCtx.nD Cert.OutProjCtx.τ).loc Cert.OutProjCtx.main_arg3)
      ∧ r.2.mem ((c.tc : Thread Cert.OutProjCtx.nD Cert.OutProjCtx.τ).loc Cert.OutProjCtx.main_arg4) = m ((c.tc : Thread Cert.OutProjCtx.nD Cert.OutProjCtx.τ).loc Cert.OutProjCtx.main_arg4)
      ∧ r.2.mem ((c.tc : Thread Cert.OutProjCtx.nD Cert.OutProjCtx.τ).loc Cert.OutProjCtx.main_arg5) = m ((c.tc : Thread Cert.OutProjCtx.nD Cert.OutProjCtx.τ).loc Cert.OutProjCtx.main_arg5))
      ∧ r.2.sem = fun _ => 0)

def quiescent_OutProjCtxIdeal [hOutProjCtxIdeal : Cert.OutProjCtxIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg), Pre_OutProjCtxIdeal m →
    θ_run (Cert.OutProjCtxIdeal.defs (F := Ideal)) (onTc (τ := Cert.OutProjCtxIdeal.τ) (Cert.OutProjCtxIdeal.main (F := Ideal))) ⟨m, fun _ => 0, g⟩ (fun r => (∀ c : Dev Cert.OutProjCtxIdeal.nD,
      r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
      ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
      ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
      ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
      ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4)
      ∧ r.2.mem ((c.tc : Thread Cert.OutProjCtxIdeal.nD Cert.OutProjCtxIdeal.τ).loc Cert.OutProjCtxIdeal.main_arg5) = m ((c.tc : Thread Cert.OutProjCtxIdeal.nD Cert.OutProjCtxIdeal.τ).loc Cert.OutProjCtxIdeal.main_arg5))
      ∧ r.2.sem = fun _ => 0)

def quiescent_OutProjCtxReferenceIdeal [hOutProjCtxReferenceIdeal : Cert.OutProjCtxReferenceIdeal.Facts] : Prop :=
  ∀ (m : (ℓ : Loc Cert.OutProjCtxReferenceIdeal.nD Cert.OutProjCtxReferenceIdeal.τ Cert.OutProjCtxReferenceIdeal.sig) → Buf (Elt Ideal) ℓ) (g : Dev Cert.OutProjCtxReferenceIdeal.nD → PrngReg), Pre_OutProjCtxReferenceIdeal m →
    θ_run (Cert.OutProjCtxReferenceIdeal.defs (F := Ideal)) (onTc (τ := Cert.OutProjCtxReferenceIdeal.τ) (Cert.OutProjCtxReferenceIdeal.main (F := Ideal))) ⟨m, fun _ => 0, g⟩ (fun r => (∀ c : Dev Cert.OutProjCtxReferenceIdeal.nD,
      r.2.mem ((c.tc : Thread Cert.OutProjCtxReferenceIdeal.nD Cert.OutProjCtxReferenceIdeal.τ).loc Cert.OutProjCtxReferenceIdeal.main_arg0) = m ((c.tc : Thread Cert.OutProjCtxReferenceIdeal.nD Cert.OutProjCtxReferenceIdeal.τ).loc Cert.OutProjCtxReferenceIdeal.main_arg0)
      ∧ r.2.mem ((c.tc : Thread Cert.OutProjCtxReferenceIdeal.nD Cert.OutProjCtxReferenceIdeal.τ).loc Cert.OutProjCtxReferenceIdeal.main_arg1) = m ((c.tc : Thread Cert.OutProjCtxReferenceIdeal.nD Cert.OutProjCtxReferenceIdeal.τ).loc Cert.OutProjCtxReferenceIdeal.main_arg1)
      ∧ r.2.mem ((c.tc : Thread Cert.OutProjCtxReferenceIdeal.nD Cert.OutProjCtxReferenceIdeal.τ).loc Cert.OutProjCtxReferenceIdeal.main_arg2) = m ((c.tc : Thread Cert.OutProjCtxReferenceIdeal.nD Cert.OutProjCtxReferenceIdeal.τ).loc Cert.OutProjCtxReferenceIdeal.main_arg2)
      ∧ r.2.mem ((c.tc : Thread Cert.OutProjCtxReferenceIdeal.nD Cert.OutProjCtxReferenceIdeal.τ).loc Cert.OutProjCtxReferenceIdeal.main_arg3) = m ((c.tc : Thread Cert.OutProjCtxReferenceIdeal.nD Cert.OutProjCtxReferenceIdeal.τ).loc Cert.OutProjCtxReferenceIdeal.main_arg3)
      ∧ r.2.mem ((c.tc : Thread Cert.OutProjCtxReferenceIdeal.nD Cert.OutProjCtxReferenceIdeal.τ).loc Cert.OutProjCtxReferenceIdeal.main_arg4) = m ((c.tc : Thread Cert.OutProjCtxReferenceIdeal.nD Cert.OutProjCtxReferenceIdeal.τ).loc Cert.OutProjCtxReferenceIdeal.main_arg4)
      ∧ r.2.mem ((c.tc : Thread Cert.OutProjCtxReferenceIdeal.nD Cert.OutProjCtxReferenceIdeal.τ).loc Cert.OutProjCtxReferenceIdeal.main_arg5) = m ((c.tc : Thread Cert.OutProjCtxReferenceIdeal.nD Cert.OutProjCtxReferenceIdeal.τ).loc Cert.OutProjCtxReferenceIdeal.main_arg5))
      ∧ r.2.sem = fun _ => 0)

def quiescent_InProjLast [hInProjLast : Cert.InProjLast.Facts] : Prop :=
  ∀ (m : (ℓ : Loc Cert.InProjLast.nD Cert.InProjLast.τ Cert.InProjLast.sig) → Buf (Elt Bits) ℓ) (g : Dev Cert.InProjLast.nD → PrngReg), Pre_InProjLast m →
    θ_run (Cert.InProjLast.defs (F := Bits)) (onTc (τ := Cert.InProjLast.τ) (Cert.InProjLast.main (F := Bits))) ⟨m, fun _ => 0, g⟩ (fun r => (∀ c : Dev Cert.InProjLast.nD,
      r.2.mem ((c.tc : Thread Cert.InProjLast.nD Cert.InProjLast.τ).loc Cert.InProjLast.main_arg0) = m ((c.tc : Thread Cert.InProjLast.nD Cert.InProjLast.τ).loc Cert.InProjLast.main_arg0)
      ∧ r.2.mem ((c.tc : Thread Cert.InProjLast.nD Cert.InProjLast.τ).loc Cert.InProjLast.main_arg1) = m ((c.tc : Thread Cert.InProjLast.nD Cert.InProjLast.τ).loc Cert.InProjLast.main_arg1)
      ∧ r.2.mem ((c.tc : Thread Cert.InProjLast.nD Cert.InProjLast.τ).loc Cert.InProjLast.main_arg2) = m ((c.tc : Thread Cert.InProjLast.nD Cert.InProjLast.τ).loc Cert.InProjLast.main_arg2)
      ∧ r.2.mem ((c.tc : Thread Cert.InProjLast.nD Cert.InProjLast.τ).loc Cert.InProjLast.main_arg3) = m ((c.tc : Thread Cert.InProjLast.nD Cert.InProjLast.τ).loc Cert.InProjLast.main_arg3))
      ∧ r.2.sem = fun _ => 0)

def quiescent_InProjLastIdeal [hInProjLastIdeal : Cert.InProjLastIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg), Pre_InProjLastIdeal m →
    θ_run (Cert.InProjLastIdeal.defs (F := Ideal)) (onTc (τ := Cert.InProjLastIdeal.τ) (Cert.InProjLastIdeal.main (F := Ideal))) ⟨m, fun _ => 0, g⟩ (fun r => (∀ c : Dev Cert.InProjLastIdeal.nD,
      r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
      ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
      ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
      ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3))
      ∧ r.2.sem = fun _ => 0)

def quiescent_InProjLastReferenceIdeal [hInProjLastReferenceIdeal : Cert.InProjLastReferenceIdeal.Facts] : Prop :=
  ∀ (m : (ℓ : Loc Cert.InProjLastReferenceIdeal.nD Cert.InProjLastReferenceIdeal.τ Cert.InProjLastReferenceIdeal.sig) → Buf (Elt Ideal) ℓ) (g : Dev Cert.InProjLastReferenceIdeal.nD → PrngReg), Pre_InProjLastReferenceIdeal m →
    θ_run (Cert.InProjLastReferenceIdeal.defs (F := Ideal)) (onTc (τ := Cert.InProjLastReferenceIdeal.τ) (Cert.InProjLastReferenceIdeal.main (F := Ideal))) ⟨m, fun _ => 0, g⟩ (fun r => (∀ c : Dev Cert.InProjLastReferenceIdeal.nD,
      r.2.mem ((c.tc : Thread Cert.InProjLastReferenceIdeal.nD Cert.InProjLastReferenceIdeal.τ).loc Cert.InProjLastReferenceIdeal.main_arg0) = m ((c.tc : Thread Cert.InProjLastReferenceIdeal.nD Cert.InProjLastReferenceIdeal.τ).loc Cert.InProjLastReferenceIdeal.main_arg0)
      ∧ r.2.mem ((c.tc : Thread Cert.InProjLastReferenceIdeal.nD Cert.InProjLastReferenceIdeal.τ).loc Cert.InProjLastReferenceIdeal.main_arg1) = m ((c.tc : Thread Cert.InProjLastReferenceIdeal.nD Cert.InProjLastReferenceIdeal.τ).loc Cert.InProjLastReferenceIdeal.main_arg1)
      ∧ r.2.mem ((c.tc : Thread Cert.InProjLastReferenceIdeal.nD Cert.InProjLastReferenceIdeal.τ).loc Cert.InProjLastReferenceIdeal.main_arg2) = m ((c.tc : Thread Cert.InProjLastReferenceIdeal.nD Cert.InProjLastReferenceIdeal.τ).loc Cert.InProjLastReferenceIdeal.main_arg2)
      ∧ r.2.mem ((c.tc : Thread Cert.InProjLastReferenceIdeal.nD Cert.InProjLastReferenceIdeal.τ).loc Cert.InProjLastReferenceIdeal.main_arg3) = m ((c.tc : Thread Cert.InProjLastReferenceIdeal.nD Cert.InProjLastReferenceIdeal.τ).loc Cert.InProjLastReferenceIdeal.main_arg3))
      ∧ r.2.sem = fun _ => 0)

def quiescent_SguCtx [hSguCtx : Cert.SguCtx.Facts] : Prop :=
  ∀ (m : (ℓ : Loc Cert.SguCtx.nD Cert.SguCtx.τ Cert.SguCtx.sig) → Buf (Elt Bits) ℓ) (g : Dev Cert.SguCtx.nD → PrngReg), Pre_SguCtx m →
    θ_run (Cert.SguCtx.defs (F := Bits)) (onTc (τ := Cert.SguCtx.τ) (Cert.SguCtx.main (F := Bits))) ⟨m, fun _ => 0, g⟩ (fun r => (∀ c : Dev Cert.SguCtx.nD,
      r.2.mem ((c.tc : Thread Cert.SguCtx.nD Cert.SguCtx.τ).loc Cert.SguCtx.main_arg0) = m ((c.tc : Thread Cert.SguCtx.nD Cert.SguCtx.τ).loc Cert.SguCtx.main_arg0)
      ∧ r.2.mem ((c.tc : Thread Cert.SguCtx.nD Cert.SguCtx.τ).loc Cert.SguCtx.main_arg1) = m ((c.tc : Thread Cert.SguCtx.nD Cert.SguCtx.τ).loc Cert.SguCtx.main_arg1)
      ∧ r.2.mem ((c.tc : Thread Cert.SguCtx.nD Cert.SguCtx.τ).loc Cert.SguCtx.main_arg2) = m ((c.tc : Thread Cert.SguCtx.nD Cert.SguCtx.τ).loc Cert.SguCtx.main_arg2))
      ∧ r.2.sem = fun _ => 0)

def quiescent_SguCtxIdeal [hSguCtxIdeal : Cert.SguCtxIdeal.Facts] : Prop :=
  ∀ (m : (ℓ : Loc Cert.SguCtxIdeal.nD Cert.SguCtxIdeal.τ Cert.SguCtxIdeal.sig) → Buf (Elt Ideal) ℓ) (g : Dev Cert.SguCtxIdeal.nD → PrngReg), Pre_SguCtxIdeal m →
    θ_run (Cert.SguCtxIdeal.defs (F := Ideal)) (onTc (τ := Cert.SguCtxIdeal.τ) (Cert.SguCtxIdeal.main (F := Ideal))) ⟨m, fun _ => 0, g⟩ (fun r => (∀ c : Dev Cert.SguCtxIdeal.nD,
      r.2.mem ((c.tc : Thread Cert.SguCtxIdeal.nD Cert.SguCtxIdeal.τ).loc Cert.SguCtxIdeal.main_arg0) = m ((c.tc : Thread Cert.SguCtxIdeal.nD Cert.SguCtxIdeal.τ).loc Cert.SguCtxIdeal.main_arg0)
      ∧ r.2.mem ((c.tc : Thread Cert.SguCtxIdeal.nD Cert.SguCtxIdeal.τ).loc Cert.SguCtxIdeal.main_arg1) = m ((c.tc : Thread Cert.SguCtxIdeal.nD Cert.SguCtxIdeal.τ).loc Cert.SguCtxIdeal.main_arg1)
      ∧ r.2.mem ((c.tc : Thread Cert.SguCtxIdeal.nD Cert.SguCtxIdeal.τ).loc Cert.SguCtxIdeal.main_arg2) = m ((c.tc : Thread Cert.SguCtxIdeal.nD Cert.SguCtxIdeal.τ).loc Cert.SguCtxIdeal.main_arg2))
      ∧ r.2.sem = fun _ => 0)

def quiescent_SguCtxReferenceIdeal [hSguCtxReferenceIdeal : Cert.SguCtxReferenceIdeal.Facts] : Prop :=
  ∀ (m : (ℓ : Loc Cert.SguCtxReferenceIdeal.nD Cert.SguCtxReferenceIdeal.τ Cert.SguCtxReferenceIdeal.sig) → Buf (Elt Ideal) ℓ) (g : Dev Cert.SguCtxReferenceIdeal.nD → PrngReg), Pre_SguCtxReferenceIdeal m →
    θ_run (Cert.SguCtxReferenceIdeal.defs (F := Ideal)) (onTc (τ := Cert.SguCtxReferenceIdeal.τ) (Cert.SguCtxReferenceIdeal.main (F := Ideal))) ⟨m, fun _ => 0, g⟩ (fun r => (∀ c : Dev Cert.SguCtxReferenceIdeal.nD,
      r.2.mem ((c.tc : Thread Cert.SguCtxReferenceIdeal.nD Cert.SguCtxReferenceIdeal.τ).loc Cert.SguCtxReferenceIdeal.main_arg0) = m ((c.tc : Thread Cert.SguCtxReferenceIdeal.nD Cert.SguCtxReferenceIdeal.τ).loc Cert.SguCtxReferenceIdeal.main_arg0)
      ∧ r.2.mem ((c.tc : Thread Cert.SguCtxReferenceIdeal.nD Cert.SguCtxReferenceIdeal.τ).loc Cert.SguCtxReferenceIdeal.main_arg1) = m ((c.tc : Thread Cert.SguCtxReferenceIdeal.nD Cert.SguCtxReferenceIdeal.τ).loc Cert.SguCtxReferenceIdeal.main_arg1)
      ∧ r.2.mem ((c.tc : Thread Cert.SguCtxReferenceIdeal.nD Cert.SguCtxReferenceIdeal.τ).loc Cert.SguCtxReferenceIdeal.main_arg2) = m ((c.tc : Thread Cert.SguCtxReferenceIdeal.nD Cert.SguCtxReferenceIdeal.τ).loc Cert.SguCtxReferenceIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v32) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v93) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v36) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5))

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)) →
    ∃ (v0 : (c : Dev Cert.SguIdeal.nD) → Buf (Elt Ideal) ((c.tc : Thread Cert.SguIdeal.nD Cert.SguIdeal.τ).loc Cert.SguIdeal.main_v2)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v2) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v47) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2))

def preserves_InProjCtx_InProjCtxIdeal : Prop :=
  True

def algebraic_InProjCtxIdeal_InProjCtxReferenceIdeal [hInProjCtxIdeal : Cert.InProjCtxIdeal.Facts] [hInProjCtxReferenceIdeal : Cert.InProjCtxReferenceIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxReferenceIdeal.nD Cert.InProjCtxReferenceIdeal.τ Cert.InProjCtxReferenceIdeal.sig) → Buf (Elt Ideal) ℓ) (g' : Dev Cert.InProjCtxReferenceIdeal.nD → PrngReg), Pre_InProjCtxIdeal m →
    (∀ c : Dev Cert.InProjCtxIdeal.nD,
      m' ((c.tc : Thread Cert.InProjCtxReferenceIdeal.nD Cert.InProjCtxReferenceIdeal.τ).loc Cert.InProjCtxReferenceIdeal.main_arg0) = m ((c.tc : Thread Cert.InProjCtxIdeal.nD Cert.InProjCtxIdeal.τ).loc Cert.InProjCtxIdeal.main_arg0)
      ∧ m' ((c.tc : Thread Cert.InProjCtxReferenceIdeal.nD Cert.InProjCtxReferenceIdeal.τ).loc Cert.InProjCtxReferenceIdeal.main_arg1) = m ((c.tc : Thread Cert.InProjCtxIdeal.nD Cert.InProjCtxIdeal.τ).loc Cert.InProjCtxIdeal.main_arg1)
      ∧ m' ((c.tc : Thread Cert.InProjCtxReferenceIdeal.nD Cert.InProjCtxReferenceIdeal.τ).loc Cert.InProjCtxReferenceIdeal.main_arg2) = m ((c.tc : Thread Cert.InProjCtxIdeal.nD Cert.InProjCtxIdeal.τ).loc Cert.InProjCtxIdeal.main_arg2)
      ∧ m' ((c.tc : Thread Cert.InProjCtxReferenceIdeal.nD Cert.InProjCtxReferenceIdeal.τ).loc Cert.InProjCtxReferenceIdeal.main_arg3) = m ((c.tc : Thread Cert.InProjCtxIdeal.nD Cert.InProjCtxIdeal.τ).loc Cert.InProjCtxIdeal.main_arg3)) →
    ∃ (v0 : (c : Dev Cert.InProjCtxIdeal.nD) → Buf (Elt Ideal) ((c.tc : Thread Cert.InProjCtxIdeal.nD Cert.InProjCtxIdeal.τ).loc Cert.InProjCtxIdeal.main_v1)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v1) = v0 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ θ_run (Cert.InProjCtxReferenceIdeal.defs (F := Ideal)) (onTc (τ := Cert.InProjCtxReferenceIdeal.τ) (Cert.InProjCtxReferenceIdeal.main (F := Ideal))) ⟨m', fun _ => 0, g'⟩ (fun r => ∀ c : Dev Cert.InProjCtxReferenceIdeal.nD,
          r.2.mem ((c.tc : Thread Cert.InProjCtxReferenceIdeal.nD Cert.InProjCtxReferenceIdeal.τ).loc Cert.InProjCtxReferenceIdeal.main_v32) = v0 c
          ∧ r.2.mem ((c.tc : Thread Cert.InProjCtxReferenceIdeal.nD Cert.InProjCtxReferenceIdeal.τ).loc Cert.InProjCtxReferenceIdeal.main_arg0) = m' ((c.tc : Thread Cert.InProjCtxReferenceIdeal.nD Cert.InProjCtxReferenceIdeal.τ).loc Cert.InProjCtxReferenceIdeal.main_arg0)
          ∧ r.2.mem ((c.tc : Thread Cert.InProjCtxReferenceIdeal.nD Cert.InProjCtxReferenceIdeal.τ).loc Cert.InProjCtxReferenceIdeal.main_arg1) = m' ((c.tc : Thread Cert.InProjCtxReferenceIdeal.nD Cert.InProjCtxReferenceIdeal.τ).loc Cert.InProjCtxReferenceIdeal.main_arg1)
          ∧ r.2.mem ((c.tc : Thread Cert.InProjCtxReferenceIdeal.nD Cert.InProjCtxReferenceIdeal.τ).loc Cert.InProjCtxReferenceIdeal.main_arg2) = m' ((c.tc : Thread Cert.InProjCtxReferenceIdeal.nD Cert.InProjCtxReferenceIdeal.τ).loc Cert.InProjCtxReferenceIdeal.main_arg2)
          ∧ r.2.mem ((c.tc : Thread Cert.InProjCtxReferenceIdeal.nD Cert.InProjCtxReferenceIdeal.τ).loc Cert.InProjCtxReferenceIdeal.main_arg3) = m' ((c.tc : Thread Cert.InProjCtxReferenceIdeal.nD Cert.InProjCtxReferenceIdeal.τ).loc Cert.InProjCtxReferenceIdeal.main_arg3))

def preserves_MergeCtx_MergeCtxIdeal : Prop :=
  True

def algebraic_MergeCtxIdeal_MergeCtxReferenceIdeal [hMergeCtxIdeal : Cert.MergeCtxIdeal.Facts] [hMergeCtxReferenceIdeal : Cert.MergeCtxReferenceIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxReferenceIdeal.nD Cert.MergeCtxReferenceIdeal.τ Cert.MergeCtxReferenceIdeal.sig) → Buf (Elt Ideal) ℓ) (g' : Dev Cert.MergeCtxReferenceIdeal.nD → PrngReg), Pre_MergeCtxIdeal m →
    (∀ c : Dev Cert.MergeCtxIdeal.nD,
      m' ((c.tc : Thread Cert.MergeCtxReferenceIdeal.nD Cert.MergeCtxReferenceIdeal.τ).loc Cert.MergeCtxReferenceIdeal.main_arg0) = m ((c.tc : Thread Cert.MergeCtxIdeal.nD Cert.MergeCtxIdeal.τ).loc Cert.MergeCtxIdeal.main_arg0)
      ∧ m' ((c.tc : Thread Cert.MergeCtxReferenceIdeal.nD Cert.MergeCtxReferenceIdeal.τ).loc Cert.MergeCtxReferenceIdeal.main_arg1) = m ((c.tc : Thread Cert.MergeCtxIdeal.nD Cert.MergeCtxIdeal.τ).loc Cert.MergeCtxIdeal.main_arg1)
      ∧ m' ((c.tc : Thread Cert.MergeCtxReferenceIdeal.nD Cert.MergeCtxReferenceIdeal.τ).loc Cert.MergeCtxReferenceIdeal.main_arg2) = m ((c.tc : Thread Cert.MergeCtxIdeal.nD Cert.MergeCtxIdeal.τ).loc Cert.MergeCtxIdeal.main_arg2)
      ∧ m' ((c.tc : Thread Cert.MergeCtxReferenceIdeal.nD Cert.MergeCtxReferenceIdeal.τ).loc Cert.MergeCtxReferenceIdeal.main_arg3) = m ((c.tc : Thread Cert.MergeCtxIdeal.nD Cert.MergeCtxIdeal.τ).loc Cert.MergeCtxIdeal.main_arg3)
      ∧ m' ((c.tc : Thread Cert.MergeCtxReferenceIdeal.nD Cert.MergeCtxReferenceIdeal.τ).loc Cert.MergeCtxReferenceIdeal.main_arg4) = m ((c.tc : Thread Cert.MergeCtxIdeal.nD Cert.MergeCtxIdeal.τ).loc Cert.MergeCtxIdeal.main_arg4)
      ∧ m' ((c.tc : Thread Cert.MergeCtxReferenceIdeal.nD Cert.MergeCtxReferenceIdeal.τ).loc Cert.MergeCtxReferenceIdeal.main_arg5) = m ((c.tc : Thread Cert.MergeCtxIdeal.nD Cert.MergeCtxIdeal.τ).loc Cert.MergeCtxIdeal.main_arg5)
      ∧ m' ((c.tc : Thread Cert.MergeCtxReferenceIdeal.nD Cert.MergeCtxReferenceIdeal.τ).loc Cert.MergeCtxReferenceIdeal.main_arg6) = m ((c.tc : Thread Cert.MergeCtxIdeal.nD Cert.MergeCtxIdeal.τ).loc Cert.MergeCtxIdeal.main_arg6)
      ∧ m' ((c.tc : Thread Cert.MergeCtxReferenceIdeal.nD Cert.MergeCtxReferenceIdeal.τ).loc Cert.MergeCtxReferenceIdeal.main_arg7) = m ((c.tc : Thread Cert.MergeCtxIdeal.nD Cert.MergeCtxIdeal.τ).loc Cert.MergeCtxIdeal.main_arg7)
      ∧ m' ((c.tc : Thread Cert.MergeCtxReferenceIdeal.nD Cert.MergeCtxReferenceIdeal.τ).loc Cert.MergeCtxReferenceIdeal.main_arg8) = m ((c.tc : Thread Cert.MergeCtxIdeal.nD Cert.MergeCtxIdeal.τ).loc Cert.MergeCtxIdeal.main_arg8)) →
    ∃ (v0 : (c : Dev Cert.MergeCtxIdeal.nD) → Buf (Elt Ideal) ((c.tc : Thread Cert.MergeCtxIdeal.nD Cert.MergeCtxIdeal.τ).loc Cert.MergeCtxIdeal.main_v1)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v1) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
          ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
          ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
          ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
          ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8))
      ∧ θ_run (Cert.MergeCtxReferenceIdeal.defs (F := Ideal)) (onTc (τ := Cert.MergeCtxReferenceIdeal.τ) (Cert.MergeCtxReferenceIdeal.main (F := Ideal))) ⟨m', fun _ => 0, g'⟩ (fun r => ∀ c : Dev Cert.MergeCtxReferenceIdeal.nD,
          r.2.mem ((c.tc : Thread Cert.MergeCtxReferenceIdeal.nD Cert.MergeCtxReferenceIdeal.τ).loc Cert.MergeCtxReferenceIdeal.main_v93) = v0 c
          ∧ r.2.mem ((c.tc : Thread Cert.MergeCtxReferenceIdeal.nD Cert.MergeCtxReferenceIdeal.τ).loc Cert.MergeCtxReferenceIdeal.main_arg0) = m' ((c.tc : Thread Cert.MergeCtxReferenceIdeal.nD Cert.MergeCtxReferenceIdeal.τ).loc Cert.MergeCtxReferenceIdeal.main_arg0)
          ∧ r.2.mem ((c.tc : Thread Cert.MergeCtxReferenceIdeal.nD Cert.MergeCtxReferenceIdeal.τ).loc Cert.MergeCtxReferenceIdeal.main_arg1) = m' ((c.tc : Thread Cert.MergeCtxReferenceIdeal.nD Cert.MergeCtxReferenceIdeal.τ).loc Cert.MergeCtxReferenceIdeal.main_arg1)
          ∧ r.2.mem ((c.tc : Thread Cert.MergeCtxReferenceIdeal.nD Cert.MergeCtxReferenceIdeal.τ).loc Cert.MergeCtxReferenceIdeal.main_arg2) = m' ((c.tc : Thread Cert.MergeCtxReferenceIdeal.nD Cert.MergeCtxReferenceIdeal.τ).loc Cert.MergeCtxReferenceIdeal.main_arg2)
          ∧ r.2.mem ((c.tc : Thread Cert.MergeCtxReferenceIdeal.nD Cert.MergeCtxReferenceIdeal.τ).loc Cert.MergeCtxReferenceIdeal.main_arg3) = m' ((c.tc : Thread Cert.MergeCtxReferenceIdeal.nD Cert.MergeCtxReferenceIdeal.τ).loc Cert.MergeCtxReferenceIdeal.main_arg3)
          ∧ r.2.mem ((c.tc : Thread Cert.MergeCtxReferenceIdeal.nD Cert.MergeCtxReferenceIdeal.τ).loc Cert.MergeCtxReferenceIdeal.main_arg4) = m' ((c.tc : Thread Cert.MergeCtxReferenceIdeal.nD Cert.MergeCtxReferenceIdeal.τ).loc Cert.MergeCtxReferenceIdeal.main_arg4)
          ∧ r.2.mem ((c.tc : Thread Cert.MergeCtxReferenceIdeal.nD Cert.MergeCtxReferenceIdeal.τ).loc Cert.MergeCtxReferenceIdeal.main_arg5) = m' ((c.tc : Thread Cert.MergeCtxReferenceIdeal.nD Cert.MergeCtxReferenceIdeal.τ).loc Cert.MergeCtxReferenceIdeal.main_arg5)
          ∧ r.2.mem ((c.tc : Thread Cert.MergeCtxReferenceIdeal.nD Cert.MergeCtxReferenceIdeal.τ).loc Cert.MergeCtxReferenceIdeal.main_arg6) = m' ((c.tc : Thread Cert.MergeCtxReferenceIdeal.nD Cert.MergeCtxReferenceIdeal.τ).loc Cert.MergeCtxReferenceIdeal.main_arg6)
          ∧ r.2.mem ((c.tc : Thread Cert.MergeCtxReferenceIdeal.nD Cert.MergeCtxReferenceIdeal.τ).loc Cert.MergeCtxReferenceIdeal.main_arg7) = m' ((c.tc : Thread Cert.MergeCtxReferenceIdeal.nD Cert.MergeCtxReferenceIdeal.τ).loc Cert.MergeCtxReferenceIdeal.main_arg7)
          ∧ r.2.mem ((c.tc : Thread Cert.MergeCtxReferenceIdeal.nD Cert.MergeCtxReferenceIdeal.τ).loc Cert.MergeCtxReferenceIdeal.main_arg8) = m' ((c.tc : Thread Cert.MergeCtxReferenceIdeal.nD Cert.MergeCtxReferenceIdeal.τ).loc Cert.MergeCtxReferenceIdeal.main_arg8))

def preserves_OutProjCtx_OutProjCtxIdeal : Prop :=
  True

def algebraic_OutProjCtxIdeal_OutProjCtxReferenceIdeal [hOutProjCtxIdeal : Cert.OutProjCtxIdeal.Facts] [hOutProjCtxReferenceIdeal : Cert.OutProjCtxReferenceIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg)
    (m' : (ℓ : Loc Cert.OutProjCtxReferenceIdeal.nD Cert.OutProjCtxReferenceIdeal.τ Cert.OutProjCtxReferenceIdeal.sig) → Buf (Elt Ideal) ℓ) (g' : Dev Cert.OutProjCtxReferenceIdeal.nD → PrngReg), Pre_OutProjCtxIdeal m →
    (∀ c : Dev Cert.OutProjCtxIdeal.nD,
      m' ((c.tc : Thread Cert.OutProjCtxReferenceIdeal.nD Cert.OutProjCtxReferenceIdeal.τ).loc Cert.OutProjCtxReferenceIdeal.main_arg0) = m ((c.tc : Thread Cert.OutProjCtxIdeal.nD Cert.OutProjCtxIdeal.τ).loc Cert.OutProjCtxIdeal.main_arg0)
      ∧ m' ((c.tc : Thread Cert.OutProjCtxReferenceIdeal.nD Cert.OutProjCtxReferenceIdeal.τ).loc Cert.OutProjCtxReferenceIdeal.main_arg1) = m ((c.tc : Thread Cert.OutProjCtxIdeal.nD Cert.OutProjCtxIdeal.τ).loc Cert.OutProjCtxIdeal.main_arg1)
      ∧ m' ((c.tc : Thread Cert.OutProjCtxReferenceIdeal.nD Cert.OutProjCtxReferenceIdeal.τ).loc Cert.OutProjCtxReferenceIdeal.main_arg2) = m ((c.tc : Thread Cert.OutProjCtxIdeal.nD Cert.OutProjCtxIdeal.τ).loc Cert.OutProjCtxIdeal.main_arg2)
      ∧ m' ((c.tc : Thread Cert.OutProjCtxReferenceIdeal.nD Cert.OutProjCtxReferenceIdeal.τ).loc Cert.OutProjCtxReferenceIdeal.main_arg3) = m ((c.tc : Thread Cert.OutProjCtxIdeal.nD Cert.OutProjCtxIdeal.τ).loc Cert.OutProjCtxIdeal.main_arg3)
      ∧ m' ((c.tc : Thread Cert.OutProjCtxReferenceIdeal.nD Cert.OutProjCtxReferenceIdeal.τ).loc Cert.OutProjCtxReferenceIdeal.main_arg4) = m ((c.tc : Thread Cert.OutProjCtxIdeal.nD Cert.OutProjCtxIdeal.τ).loc Cert.OutProjCtxIdeal.main_arg4)
      ∧ m' ((c.tc : Thread Cert.OutProjCtxReferenceIdeal.nD Cert.OutProjCtxReferenceIdeal.τ).loc Cert.OutProjCtxReferenceIdeal.main_arg5) = m ((c.tc : Thread Cert.OutProjCtxIdeal.nD Cert.OutProjCtxIdeal.τ).loc Cert.OutProjCtxIdeal.main_arg5)) →
    ∃ (v0 : (c : Dev Cert.OutProjCtxIdeal.nD) → Buf (Elt Ideal) ((c.tc : Thread Cert.OutProjCtxIdeal.nD Cert.OutProjCtxIdeal.τ).loc Cert.OutProjCtxIdeal.main_v3)),
      θ_run (Cert.OutProjCtxIdeal.defs (F := Ideal)) (onTc (τ := Cert.OutProjCtxIdeal.τ) (Cert.OutProjCtxIdeal.main (F := Ideal))) ⟨m, fun _ => 0, g⟩ (fun r => ∀ c : Dev Cert.OutProjCtxIdeal.nD,
          r.2.mem ((c.tc : Thread Cert.OutProjCtxIdeal.nD Cert.OutProjCtxIdeal.τ).loc Cert.OutProjCtxIdeal.main_v3) = v0 c
          ∧ r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
          ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
          ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
          ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3)
          ∧ r.2.mem ((c.tc : Thread Cert.OutProjCtxIdeal.nD Cert.OutProjCtxIdeal.τ).loc Cert.OutProjCtxIdeal.main_arg4) = m ((c.tc : Thread Cert.OutProjCtxIdeal.nD Cert.OutProjCtxIdeal.τ).loc Cert.OutProjCtxIdeal.main_arg4)
          ∧ r.2.mem ((c.tc : Thread Cert.OutProjCtxIdeal.nD Cert.OutProjCtxIdeal.τ).loc Cert.OutProjCtxIdeal.main_arg5) = m ((c.tc : Thread Cert.OutProjCtxIdeal.nD Cert.OutProjCtxIdeal.τ).loc Cert.OutProjCtxIdeal.main_arg5))
      ∧ θ_run (Cert.OutProjCtxReferenceIdeal.defs (F := Ideal)) (onTc (τ := Cert.OutProjCtxReferenceIdeal.τ) (Cert.OutProjCtxReferenceIdeal.main (F := Ideal))) ⟨m', fun _ => 0, g'⟩ (fun r => ∀ c : Dev Cert.OutProjCtxReferenceIdeal.nD,
          r.2.mem ((c.tc : Thread Cert.OutProjCtxReferenceIdeal.nD Cert.OutProjCtxReferenceIdeal.τ).loc Cert.OutProjCtxReferenceIdeal.main_v36) = v0 c
          ∧ r.2.mem ((c.tc : Thread Cert.OutProjCtxReferenceIdeal.nD Cert.OutProjCtxReferenceIdeal.τ).loc Cert.OutProjCtxReferenceIdeal.main_arg0) = m' ((c.tc : Thread Cert.OutProjCtxReferenceIdeal.nD Cert.OutProjCtxReferenceIdeal.τ).loc Cert.OutProjCtxReferenceIdeal.main_arg0)
          ∧ r.2.mem ((c.tc : Thread Cert.OutProjCtxReferenceIdeal.nD Cert.OutProjCtxReferenceIdeal.τ).loc Cert.OutProjCtxReferenceIdeal.main_arg1) = m' ((c.tc : Thread Cert.OutProjCtxReferenceIdeal.nD Cert.OutProjCtxReferenceIdeal.τ).loc Cert.OutProjCtxReferenceIdeal.main_arg1)
          ∧ r.2.mem ((c.tc : Thread Cert.OutProjCtxReferenceIdeal.nD Cert.OutProjCtxReferenceIdeal.τ).loc Cert.OutProjCtxReferenceIdeal.main_arg2) = m' ((c.tc : Thread Cert.OutProjCtxReferenceIdeal.nD Cert.OutProjCtxReferenceIdeal.τ).loc Cert.OutProjCtxReferenceIdeal.main_arg2)
          ∧ r.2.mem ((c.tc : Thread Cert.OutProjCtxReferenceIdeal.nD Cert.OutProjCtxReferenceIdeal.τ).loc Cert.OutProjCtxReferenceIdeal.main_arg3) = m' ((c.tc : Thread Cert.OutProjCtxReferenceIdeal.nD Cert.OutProjCtxReferenceIdeal.τ).loc Cert.OutProjCtxReferenceIdeal.main_arg3)
          ∧ r.2.mem ((c.tc : Thread Cert.OutProjCtxReferenceIdeal.nD Cert.OutProjCtxReferenceIdeal.τ).loc Cert.OutProjCtxReferenceIdeal.main_arg4) = m' ((c.tc : Thread Cert.OutProjCtxReferenceIdeal.nD Cert.OutProjCtxReferenceIdeal.τ).loc Cert.OutProjCtxReferenceIdeal.main_arg4)
          ∧ r.2.mem ((c.tc : Thread Cert.OutProjCtxReferenceIdeal.nD Cert.OutProjCtxReferenceIdeal.τ).loc Cert.OutProjCtxReferenceIdeal.main_arg5) = m' ((c.tc : Thread Cert.OutProjCtxReferenceIdeal.nD Cert.OutProjCtxReferenceIdeal.τ).loc Cert.OutProjCtxReferenceIdeal.main_arg5))

def preserves_InProjLast_InProjLastIdeal : Prop :=
  True

def algebraic_InProjLastIdeal_InProjLastReferenceIdeal [hInProjLastIdeal : Cert.InProjLastIdeal.Facts] [hInProjLastReferenceIdeal : Cert.InProjLastReferenceIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg)
    (m' : (ℓ : Loc Cert.InProjLastReferenceIdeal.nD Cert.InProjLastReferenceIdeal.τ Cert.InProjLastReferenceIdeal.sig) → Buf (Elt Ideal) ℓ) (g' : Dev Cert.InProjLastReferenceIdeal.nD → PrngReg), Pre_InProjLastIdeal m →
    (∀ c : Dev Cert.InProjLastIdeal.nD,
      m' ((c.tc : Thread Cert.InProjLastReferenceIdeal.nD Cert.InProjLastReferenceIdeal.τ).loc Cert.InProjLastReferenceIdeal.main_arg0) = m ((c.tc : Thread Cert.InProjLastIdeal.nD Cert.InProjLastIdeal.τ).loc Cert.InProjLastIdeal.main_arg0)
      ∧ m' ((c.tc : Thread Cert.InProjLastReferenceIdeal.nD Cert.InProjLastReferenceIdeal.τ).loc Cert.InProjLastReferenceIdeal.main_arg1) = m ((c.tc : Thread Cert.InProjLastIdeal.nD Cert.InProjLastIdeal.τ).loc Cert.InProjLastIdeal.main_arg1)
      ∧ m' ((c.tc : Thread Cert.InProjLastReferenceIdeal.nD Cert.InProjLastReferenceIdeal.τ).loc Cert.InProjLastReferenceIdeal.main_arg2) = m ((c.tc : Thread Cert.InProjLastIdeal.nD Cert.InProjLastIdeal.τ).loc Cert.InProjLastIdeal.main_arg2)
      ∧ m' ((c.tc : Thread Cert.InProjLastReferenceIdeal.nD Cert.InProjLastReferenceIdeal.τ).loc Cert.InProjLastReferenceIdeal.main_arg3) = m ((c.tc : Thread Cert.InProjLastIdeal.nD Cert.InProjLastIdeal.τ).loc Cert.InProjLastIdeal.main_arg3)) →
    ∃ (v0 : (c : Dev Cert.InProjLastIdeal.nD) → Buf (Elt Ideal) ((c.tc : Thread Cert.InProjLastIdeal.nD Cert.InProjLastIdeal.τ).loc Cert.InProjLastIdeal.main_v1)),
      θ_run (Cert.InProjLastIdeal.defs (F := Ideal)) (onTc (τ := Cert.InProjLastIdeal.τ) (Cert.InProjLastIdeal.main (F := Ideal))) ⟨m, fun _ => 0, g⟩ (fun r => ∀ c : Dev Cert.InProjLastIdeal.nD,
          r.2.mem ((c.tc : Thread Cert.InProjLastIdeal.nD Cert.InProjLastIdeal.τ).loc Cert.InProjLastIdeal.main_v1) = v0 c
          ∧ r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
          ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
          ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
          ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3))
      ∧ θ_run (Cert.InProjLastReferenceIdeal.defs (F := Ideal)) (onTc (τ := Cert.InProjLastReferenceIdeal.τ) (Cert.InProjLastReferenceIdeal.main (F := Ideal))) ⟨m', fun _ => 0, g'⟩ (fun r => ∀ c : Dev Cert.InProjLastReferenceIdeal.nD,
          r.2.mem ((c.tc : Thread Cert.InProjLastReferenceIdeal.nD Cert.InProjLastReferenceIdeal.τ).loc Cert.InProjLastReferenceIdeal.main_v34) = v0 c
          ∧ r.2.mem ((c.tc : Thread Cert.InProjLastReferenceIdeal.nD Cert.InProjLastReferenceIdeal.τ).loc Cert.InProjLastReferenceIdeal.main_arg0) = m' ((c.tc : Thread Cert.InProjLastReferenceIdeal.nD Cert.InProjLastReferenceIdeal.τ).loc Cert.InProjLastReferenceIdeal.main_arg0)
          ∧ r.2.mem ((c.tc : Thread Cert.InProjLastReferenceIdeal.nD Cert.InProjLastReferenceIdeal.τ).loc Cert.InProjLastReferenceIdeal.main_arg1) = m' ((c.tc : Thread Cert.InProjLastReferenceIdeal.nD Cert.InProjLastReferenceIdeal.τ).loc Cert.InProjLastReferenceIdeal.main_arg1)
          ∧ r.2.mem ((c.tc : Thread Cert.InProjLastReferenceIdeal.nD Cert.InProjLastReferenceIdeal.τ).loc Cert.InProjLastReferenceIdeal.main_arg2) = m' ((c.tc : Thread Cert.InProjLastReferenceIdeal.nD Cert.InProjLastReferenceIdeal.τ).loc Cert.InProjLastReferenceIdeal.main_arg2)
          ∧ r.2.mem ((c.tc : Thread Cert.InProjLastReferenceIdeal.nD Cert.InProjLastReferenceIdeal.τ).loc Cert.InProjLastReferenceIdeal.main_arg3) = m' ((c.tc : Thread Cert.InProjLastReferenceIdeal.nD Cert.InProjLastReferenceIdeal.τ).loc Cert.InProjLastReferenceIdeal.main_arg3))

def preserves_SguCtx_SguCtxIdeal : Prop :=
  True

def algebraic_SguCtxIdeal_SguCtxReferenceIdeal [hSguCtxIdeal : Cert.SguCtxIdeal.Facts] [hSguCtxReferenceIdeal : Cert.SguCtxReferenceIdeal.Facts] : Prop :=
  ∀ (m : (ℓ : Loc Cert.SguCtxIdeal.nD Cert.SguCtxIdeal.τ Cert.SguCtxIdeal.sig) → Buf (Elt Ideal) ℓ) (g : Dev Cert.SguCtxIdeal.nD → PrngReg)
    (m' : (ℓ : Loc Cert.SguCtxReferenceIdeal.nD Cert.SguCtxReferenceIdeal.τ Cert.SguCtxReferenceIdeal.sig) → Buf (Elt Ideal) ℓ) (g' : Dev Cert.SguCtxReferenceIdeal.nD → PrngReg), Pre_SguCtxIdeal m →
    (∀ c : Dev Cert.SguCtxIdeal.nD,
      m' ((c.tc : Thread Cert.SguCtxReferenceIdeal.nD Cert.SguCtxReferenceIdeal.τ).loc Cert.SguCtxReferenceIdeal.main_arg0) = m ((c.tc : Thread Cert.SguCtxIdeal.nD Cert.SguCtxIdeal.τ).loc Cert.SguCtxIdeal.main_arg0)
      ∧ m' ((c.tc : Thread Cert.SguCtxReferenceIdeal.nD Cert.SguCtxReferenceIdeal.τ).loc Cert.SguCtxReferenceIdeal.main_arg1) = m ((c.tc : Thread Cert.SguCtxIdeal.nD Cert.SguCtxIdeal.τ).loc Cert.SguCtxIdeal.main_arg1)
      ∧ m' ((c.tc : Thread Cert.SguCtxReferenceIdeal.nD Cert.SguCtxReferenceIdeal.τ).loc Cert.SguCtxReferenceIdeal.main_arg2) = m ((c.tc : Thread Cert.SguCtxIdeal.nD Cert.SguCtxIdeal.τ).loc Cert.SguCtxIdeal.main_arg2)) →
    ∃ (v0 : (c : Dev Cert.SguCtxIdeal.nD) → Buf (Elt Ideal) ((c.tc : Thread Cert.SguCtxIdeal.nD Cert.SguCtxIdeal.τ).loc Cert.SguCtxIdeal.main_v2)),
      θ_run (Cert.SguCtxIdeal.defs (F := Ideal)) (onTc (τ := Cert.SguCtxIdeal.τ) (Cert.SguCtxIdeal.main (F := Ideal))) ⟨m, fun _ => 0, g⟩ (fun r => ∀ c : Dev Cert.SguCtxIdeal.nD,
          r.2.mem ((c.tc : Thread Cert.SguCtxIdeal.nD Cert.SguCtxIdeal.τ).loc Cert.SguCtxIdeal.main_v2) = v0 c
          ∧ r.2.mem ((c.tc : Thread Cert.SguCtxIdeal.nD Cert.SguCtxIdeal.τ).loc Cert.SguCtxIdeal.main_arg0) = m ((c.tc : Thread Cert.SguCtxIdeal.nD Cert.SguCtxIdeal.τ).loc Cert.SguCtxIdeal.main_arg0)
          ∧ r.2.mem ((c.tc : Thread Cert.SguCtxIdeal.nD Cert.SguCtxIdeal.τ).loc Cert.SguCtxIdeal.main_arg1) = m ((c.tc : Thread Cert.SguCtxIdeal.nD Cert.SguCtxIdeal.τ).loc Cert.SguCtxIdeal.main_arg1)
          ∧ r.2.mem ((c.tc : Thread Cert.SguCtxIdeal.nD Cert.SguCtxIdeal.τ).loc Cert.SguCtxIdeal.main_arg2) = m ((c.tc : Thread Cert.SguCtxIdeal.nD Cert.SguCtxIdeal.τ).loc Cert.SguCtxIdeal.main_arg2))
      ∧ θ_run (Cert.SguCtxReferenceIdeal.defs (F := Ideal)) (onTc (τ := Cert.SguCtxReferenceIdeal.τ) (Cert.SguCtxReferenceIdeal.main (F := Ideal))) ⟨m', fun _ => 0, g'⟩ (fun r => ∀ c : Dev Cert.SguCtxReferenceIdeal.nD,
          r.2.mem ((c.tc : Thread Cert.SguCtxReferenceIdeal.nD Cert.SguCtxReferenceIdeal.τ).loc Cert.SguCtxReferenceIdeal.main_v47) = v0 c
          ∧ r.2.mem ((c.tc : Thread Cert.SguCtxReferenceIdeal.nD Cert.SguCtxReferenceIdeal.τ).loc Cert.SguCtxReferenceIdeal.main_arg0) = m' ((c.tc : Thread Cert.SguCtxReferenceIdeal.nD Cert.SguCtxReferenceIdeal.τ).loc Cert.SguCtxReferenceIdeal.main_arg0)
          ∧ r.2.mem ((c.tc : Thread Cert.SguCtxReferenceIdeal.nD Cert.SguCtxReferenceIdeal.τ).loc Cert.SguCtxReferenceIdeal.main_arg1) = m' ((c.tc : Thread Cert.SguCtxReferenceIdeal.nD Cert.SguCtxReferenceIdeal.τ).loc Cert.SguCtxReferenceIdeal.main_arg1)
          ∧ r.2.mem ((c.tc : Thread Cert.SguCtxReferenceIdeal.nD Cert.SguCtxReferenceIdeal.τ).loc Cert.SguCtxReferenceIdeal.main_arg2) = m' ((c.tc : Thread Cert.SguCtxReferenceIdeal.nD Cert.SguCtxReferenceIdeal.τ).loc Cert.SguCtxReferenceIdeal.main_arg2))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v5) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hOutProj : Cert.OutProj.Facts) (hOutProjIdeal : Cert.OutProjIdeal.Facts) (hOutProjReferenceIdeal : Cert.OutProjReferenceIdeal.Facts) (hSgu : Cert.Sgu.Facts) (hSguIdeal : Cert.SguIdeal.Facts) (hSguReferenceIdeal : Cert.SguReferenceIdeal.Facts) (hInProjCtx : Cert.InProjCtx.Facts) (hInProjCtxIdeal : Cert.InProjCtxIdeal.Facts) (hInProjCtxReferenceIdeal : Cert.InProjCtxReferenceIdeal.Facts) (hMergeCtx : Cert.MergeCtx.Facts) (hMergeCtxIdeal : Cert.MergeCtxIdeal.Facts) (hMergeCtxReferenceIdeal : Cert.MergeCtxReferenceIdeal.Facts) (hOutProjCtx : Cert.OutProjCtx.Facts) (hOutProjCtxIdeal : Cert.OutProjCtxIdeal.Facts) (hOutProjCtxReferenceIdeal : Cert.OutProjCtxReferenceIdeal.Facts) (hInProjLast : Cert.InProjLast.Facts) (hInProjLastIdeal : Cert.InProjLastIdeal.Facts) (hInProjLastReferenceIdeal : Cert.InProjLastReferenceIdeal.Facts) (hSguCtx : Cert.SguCtx.Facts) (hSguCtxIdeal : Cert.SguCtxIdeal.Facts) (hSguCtxReferenceIdeal : Cert.SguCtxReferenceIdeal.Facts) (hAda : Cert.Ada.Facts) (hAdaIdeal : Cert.AdaIdeal.Facts) (hAdaReferenceIdeal : Cert.AdaReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Sgu (hSgu := hSgu)
    ∧ quiescent_SguIdeal (hSguIdeal := hSguIdeal)
    ∧ quiescent_SguReferenceIdeal (hSguReferenceIdeal := hSguReferenceIdeal)
    ∧ quiescent_InProjCtx (hInProjCtx := hInProjCtx)
    ∧ quiescent_InProjCtxIdeal (hInProjCtxIdeal := hInProjCtxIdeal)
    ∧ quiescent_InProjCtxReferenceIdeal (hInProjCtxReferenceIdeal := hInProjCtxReferenceIdeal)
    ∧ quiescent_MergeCtx (hMergeCtx := hMergeCtx)
    ∧ quiescent_MergeCtxIdeal (hMergeCtxIdeal := hMergeCtxIdeal)
    ∧ quiescent_MergeCtxReferenceIdeal (hMergeCtxReferenceIdeal := hMergeCtxReferenceIdeal)
    ∧ quiescent_OutProjCtx (hOutProjCtx := hOutProjCtx)
    ∧ quiescent_OutProjCtxIdeal (hOutProjCtxIdeal := hOutProjCtxIdeal)
    ∧ quiescent_OutProjCtxReferenceIdeal (hOutProjCtxReferenceIdeal := hOutProjCtxReferenceIdeal)
    ∧ quiescent_InProjLast (hInProjLast := hInProjLast)
    ∧ quiescent_InProjLastIdeal (hInProjLastIdeal := hInProjLastIdeal)
    ∧ quiescent_InProjLastReferenceIdeal (hInProjLastReferenceIdeal := hInProjLastReferenceIdeal)
    ∧ quiescent_SguCtx (hSguCtx := hSguCtx)
    ∧ quiescent_SguCtxIdeal (hSguCtxIdeal := hSguCtxIdeal)
    ∧ quiescent_SguCtxReferenceIdeal (hSguCtxReferenceIdeal := hSguCtxReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Sgu_SguIdeal
    ∧ algebraic_SguIdeal_SguReferenceIdeal (hSguIdeal := hSguIdeal) (hSguReferenceIdeal := hSguReferenceIdeal)
    ∧ preserves_InProjCtx_InProjCtxIdeal
    ∧ algebraic_InProjCtxIdeal_InProjCtxReferenceIdeal (hInProjCtxIdeal := hInProjCtxIdeal) (hInProjCtxReferenceIdeal := hInProjCtxReferenceIdeal)
    ∧ preserves_MergeCtx_MergeCtxIdeal
    ∧ algebraic_MergeCtxIdeal_MergeCtxReferenceIdeal (hMergeCtxIdeal := hMergeCtxIdeal) (hMergeCtxReferenceIdeal := hMergeCtxReferenceIdeal)
    ∧ preserves_OutProjCtx_OutProjCtxIdeal
    ∧ algebraic_OutProjCtxIdeal_OutProjCtxReferenceIdeal (hOutProjCtxIdeal := hOutProjCtxIdeal) (hOutProjCtxReferenceIdeal := hOutProjCtxReferenceIdeal)
    ∧ preserves_InProjLast_InProjLastIdeal
    ∧ algebraic_InProjLastIdeal_InProjLastReferenceIdeal (hInProjLastIdeal := hInProjLastIdeal) (hInProjLastReferenceIdeal := hInProjLastReferenceIdeal)
    ∧ preserves_SguCtx_SguCtxIdeal
    ∧ algebraic_SguCtxIdeal_SguCtxReferenceIdeal (hSguCtxIdeal := hSguCtxIdeal) (hSguCtxReferenceIdeal := hSguCtxReferenceIdeal)
    ∧ preserves_Ada_AdaIdeal
    ∧ algebraic_AdaIdeal_AdaReferenceIdeal (hAdaIdeal := hAdaIdeal) (hAdaReferenceIdeal := hAdaReferenceIdeal)
-- ==== Pre_finite.lean ====
abbrev S16x2048x5632 : Shape := ⟨3, ![16, 2048, 5632]⟩
abbrev S16x256x5632 : Shape := ⟨3, ![16, 256, 5632]⟩
abbrev S4x15x31 : Shape := ⟨3, ![4, 15, 31]⟩
abbrev S_ : Shape := ⟨0, ![]⟩

class Facts : Prop where
  bcast_S_S16x2048x5632 : S_.BroadcastsInDim S16x2048x5632 (![] : Fin 0 → Fin S16x2048x5632.rank)
  bcast_S_S16x256x5632 : S_.BroadcastsInDim S16x256x5632 (![] : Fin 0 → Fin S16x256x5632.rank)
  bcast_S_S4x15x31 : S_.BroadcastsInDim S4x15x31 (![] : Fin 0 → Fin S4x15x31.rank)

variable [Facts]

def fn {F : FTy → Type} [FloatOps F] (main_arg0 : FVec F S16x2048x5632 .f32) (main_arg1 : FVec F S16x256x5632 .f32) (main_arg2 : FVec F S4x15x31 .f32) : IVec S16x2048x5632 1 × IVec S16x256x5632 1 × IVec S4x15x31 1 :=
  let main_v0 : FVec F S16x2048x5632 .f32 := Host.absf main_arg0
  let main_cst : FVec F S_ .f32 := constant S_ .f32 0x7F800000#32
  let main_v1 : FVec F S16x2048x5632 .f32 := broadcastInDim S16x2048x5632 ![] bcast_S_S16x2048x5632 main_cst
  let main_v2 : IVec S16x2048x5632 1 := cmpf .olt main_v0 main_v1
  let main_v3 : FVec F S16x256x5632 .f32 := Host.absf main_arg1
  let main_cst_0 : FVec F S_ .f32 := constant S_ .f32 0x7F800000#32
  let main_v4 : FVec F S16x256x5632 .f32 := broadcastInDim S16x256x5632 ![] bcast_S_S16x256x5632 main_cst_0
  let main_v5 : IVec S16x256x5632 1 := cmpf .olt main_v3 main_v4
  let main_v6 : FVec F S4x15x31 .f32 := Host.absf main_arg2
  let main_cst_1 : FVec F S_ .f32 := constant S_ .f32 0x7F800000#32
  let main_v7 : FVec F S4x15x31 .f32 := broadcastInDim S4x15x31 ![] bcast_S_S4x15x31 main_cst_1
  let main_v8 : IVec S4x15x31 1 := cmpf .olt main_v6 main_v7
  (main_v2, main_v5, main_v8)
-- ==== Kernel.lean ====
abbrev S16x2048x5632 : Shape := ⟨3, ![16, 2048, 5632]⟩
abbrev S16x256x5632 : Shape := ⟨3, ![16, 256, 5632]⟩
abbrev S4x15x31 : Shape := ⟨3, ![4, 15, 31]⟩
abbrev S3x4x11 : Shape := ⟨3, ![3, 4, 11]⟩
abbrev S64x64 : Shape := ⟨2, ![64, 64]⟩
abbrev S8 : Shape := ⟨1, ![8]⟩
abbrev S3x4x1x11x1 : Shape := ⟨5, ![3, 4, 1, 11, 1]⟩
abbrev S1x1x64x1x64 : Shape := ⟨5, ![1, 1, 64, 1, 64]⟩
abbrev S_ : Shape := ⟨0, ![]⟩
abbrev S3x4x64x11x64 : Shape := ⟨5, ![3, 4, 64, 11, 64]⟩
abbrev S3x4x64x11x64x1 : Shape := ⟨6, ![3, 4, 64, 11, 64, 1]⟩
abbrev S3x4x64x11x64x2 : Shape := ⟨6, ![3, 4, 64, 11, 64, 2]⟩
abbrev S4x3x4x64x11x64 : Shape := ⟨6, ![4, 3, 4, 64, 11, 64]⟩
abbrev S1x3x4x64x11x64 : Shape := ⟨6, ![1, 3, 4, 64, 11, 64]⟩
abbrev S3x4x4x64x11x64 : Shape := ⟨6, ![3, 4, 4, 64, 11, 64]⟩
abbrev S3x4x256x704 : Shape := ⟨4, ![3, 4, 256, 704]⟩
abbrev S16x2048x512 : Shape := ⟨3, ![16, 2048, 512]⟩
abbrev S1x256x512 : Shape := ⟨3, ![1, 256, 512]⟩
abbrev S1x2048x512 : Shape := ⟨3, ![1, 2048, 512]⟩
abbrev S1 : Shape := ⟨1, ![1]⟩
abbrev S256x512 : Shape := ⟨2, ![256, 512]⟩
abbrev S1x256x128 : Shape := ⟨3, ![1, 256, 128]⟩
abbrev S256x128 : Shape := ⟨2, ![256, 128]⟩
abbrev S1x704x128 : Shape := ⟨3, ![1, 704, 128]⟩
abbrev S704x128 : Shape := ⟨2, ![704, 128]⟩
abbrev S256x704 : Shape := ⟨2, ![256, 704]⟩
abbrev S1x1x256x704 : Shape := ⟨4, ![1, 1, 256, 704]⟩
abbrev S256x256 : Shape := ⟨2, ![256, 256]⟩
abbrev S256 : Shape := ⟨1, ![256]⟩
abbrev S256x1 : Shape := ⟨2, ![256, 1]⟩

abbrev nBuf : Space → Nat
  | .hbm => 43
  | .vmem => 15
  | .smem => 2
  | _ => 0

abbrev bufTy : (tb : Table) → Fin (tcTables nBuf tb) → BufTy
  | .hbm, ⟨0, _⟩ => ⟨S16x2048x5632, .f32⟩
  | .hbm, ⟨1, _⟩ => ⟨S16x256x5632, .f32⟩
  | .hbm, ⟨2, _⟩ => ⟨S4x15x31, .f32⟩
  | .hbm, ⟨3, _⟩ => ⟨S3x4x11, .i32⟩
  | .hbm, ⟨4, _⟩ => ⟨S64x64, .i32⟩
  | .hbm, ⟨5, _⟩ => ⟨S3x4x11, .i1⟩
  | .hbm, ⟨6, _⟩ => ⟨S64x64, .i1⟩
  | .hbm, ⟨7, _⟩ => ⟨S3x4x1x11x1, .i32⟩
  | .hbm, ⟨8, _⟩ => ⟨S1x1x64x1x64, .i32⟩
  | .hbm, ⟨9, _⟩ => ⟨S_, .i32⟩
  | .hbm, ⟨10, _⟩ => ⟨S3x4x1x11x1, .i32⟩
  | .hbm, ⟨11, _⟩ => ⟨S3x4x1x11x1, .i1⟩
  | .hbm, ⟨12, _⟩ => ⟨S_, .i32⟩
  | .hbm, ⟨13, _⟩ => ⟨S3x4x1x11x1, .i32⟩
  | .hbm, ⟨14, _⟩ => ⟨S3x4x1x11x1, .i32⟩
  | .hbm, ⟨15, _⟩ => ⟨S3x4x1x11x1, .i32⟩
  | .hbm, ⟨16, _⟩ => ⟨S_, .i32⟩
  | .hbm, ⟨17, _⟩ => ⟨S1x1x64x1x64, .i32⟩
  | .hbm, ⟨18, _⟩ => ⟨S1x1x64x1x64, .i1⟩
  | .hbm, ⟨19, _⟩ => ⟨S_, .i32⟩
  | .hbm, ⟨20, _⟩ => ⟨S1x1x64x1x64, .i32⟩
  | .hbm, ⟨21, _⟩ => ⟨S1x1x64x1x64, .i32⟩
  | .hbm, ⟨22, _⟩ => ⟨S1x1x64x1x64, .i32⟩
  | .hbm, ⟨23, _⟩ => ⟨S3x4x64x11x64, .i32⟩
  | .hbm, ⟨24, _⟩ => ⟨S3x4x64x11x64, .i32⟩
  | .hbm, ⟨25, _⟩ => ⟨S3x4x64x11x64x1, .i32⟩
  | .hbm, ⟨26, _⟩ => ⟨S3x4x64x11x64x1, .i32⟩
  | .hbm, ⟨27, _⟩ => ⟨S3x4x64x11x64x2, .i32⟩
  | .hbm, ⟨28, _⟩ => ⟨S4x3x4x64x11x64, .f32⟩
  | .hbm, ⟨29, _⟩ => ⟨S3x4x1x11x1, .i1⟩
  | .hbm, ⟨30, _⟩ => ⟨S1x1x64x1x64, .i1⟩
  | .hbm, ⟨31, _⟩ => ⟨S3x4x64x11x64, .i1⟩
  | .hbm, ⟨32, _⟩ => ⟨S3x4x64x11x64, .i1⟩
  | .hbm, ⟨33, _⟩ => ⟨S3x4x64x11x64, .i1⟩
  | .hbm, ⟨34, _⟩ => ⟨S1x3x4x64x11x64, .i1⟩
  | .hbm, ⟨35, _⟩ => ⟨S_, .f32⟩
  | .hbm, ⟨36, _⟩ => ⟨S_, .f32⟩
  | .hbm, ⟨37, _⟩ => ⟨S4x3x4x64x11x64, .i1⟩
  | .hbm, ⟨38, _⟩ => ⟨S4x3x4x64x11x64, .f32⟩
  | .hbm, ⟨39, _⟩ => ⟨S4x3x4x64x11x64, .f32⟩
  | .hbm, ⟨40, _⟩ => ⟨S3x4x4x64x11x64, .f32⟩
  | .hbm, ⟨41, _⟩ => ⟨S3x4x256x704, .f32⟩
  | .hbm, ⟨42, _⟩ => ⟨S16x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S3x4x256x704, .f32⟩
  | .local _ .vmem, ⟨13, _⟩ => ⟨S1x256x512, .bf16⟩
  | .local _ .vmem, ⟨14, _⟩ => ⟨S1x256x512, .bf16⟩
  | .local _ .smem, ⟨0, _⟩ => ⟨S8, .i32⟩
  | .local _ .smem, ⟨1, _⟩ => ⟨S8, .i32⟩
  | _, _ => ⟨S16x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_c_5 : Ref sig .tc := ⟨.hbm, 9, rfl⟩
abbrev main_v2 : Ref sig .tc := ⟨.hbm, 10, rfl⟩
abbrev main_v3 : Ref sig .tc := ⟨.hbm, 11, rfl⟩
abbrev main_c_6 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_7 : Ref sig .tc := ⟨.hbm, 16, rfl⟩
abbrev main_v7 : Ref sig .tc := ⟨.hbm, 17, rfl⟩
abbrev main_v8 : Ref sig .tc := ⟨.hbm, 18, rfl⟩
abbrev main_c_8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.smem, 0, rfl⟩
abbrev main_c_4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

abbrev pre0 : Pipeline.Prefetch sig := ⟨2, ![main_c_3.idx, main_c_4.idx], fun | 0 => main_c_3.names | 1 => main_c_4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c64_i32 : BitVec 32 := 64#32
  let v2 : BitVec 32 := Scalar.muli v1 c64_i32
  v2

def k0_off2 (i : grid0.Coords) : Fin 1 → Nat :=
  let arg1 : BitVec 32 := BitVec.ofNat 32 (i 1).val
  let v4 : Index := Scalar.indexCast arg1
  ![v4.toNat]
def k0_off3 (v1 : BitVec 32) : Fin 3 → Nat :=
  let c0_5 : Index := 0#32
  let c64_i32 : BitVec 32 := 64#32
  let v2 : BitVec 32 := Scalar.muli v1 c64_i32
  let v3 : BitVec 32 := v2
  let v13 : Index := Scalar.indexCast v3
  let c0_6 : Index := 0#32
  ![0, v13.toNat, 0]
def k0_off4 (v5 : BitVec 32) : Fin 4 → Nat :=
  let v24 : Index := Scalar.indexCast v5
  let c0_10 : Index := 0#32
  let c0_11 : Index := 0#32
  let c0_12 : Index := 0#32
  ![v24.toNat, 0, 0, 0]

def k0_off5 (v1 : BitVec 32) : Fin 3 → Nat :=
  let c0_32 : Index := 0#32
  let c64_i32 : BitVec 32 := 64#32
  let v2 : BitVec 32 := Scalar.muli v1 c64_i32
  let v3 : BitVec 32 := v2
  let v69 : Index := Scalar.indexCast v3
  let c128_33 : Index := 128#32
  ![0, v69.toNat, 128]
def k0_off6 (v5 : BitVec 32) : Fin 4 → Nat :=
  let v80 : Index := Scalar.indexCast v5
  let c1 : Index := 1#32
  let c0_38 : Index := 0#32
  let c0_39 : Index := 0#32
  ![v80.toNat, 1, 0, 0]
def k0_off7 (v1 : BitVec 32) : Fin 3 → Nat :=
  let c0_59 : Index := 0#32
  let c64_i32 : BitVec 32 := 64#32
  let v2 : BitVec 32 := Scalar.muli v1 c64_i32
  let v3 : BitVec 32 := v2
  let v125 : Index := Scalar.indexCast v3
  let c256_60 : Index := 256#32
  ![0, v125.toNat, 256]
def k0_off8 (v5 : BitVec 32) : Fin 4 → Nat :=
  let v136 : Index := Scalar.indexCast v5
  let c2 : Index := 2#32
  let c0_65 : Index := 0#32
  let c0_66 : Index := 0#32
  ![v136.toNat, 2, 0, 0]
def k0_off9 (v1 : BitVec 32) : Fin 3 → Nat :=
  let c0_86 : Index := 0#32
  let c64_i32 : BitVec 32 := 64#32
  let v2 : BitVec 32 := Scalar.muli v1 c64_i32
  let v3 : BitVec 32 := v2
  let v181 : Index := Scalar.indexCast v3
  let c384_87 : Index := 384#32
  ![0, v181.toNat, 384]

def k0_chk1 (v1 : BitVec 32) : Prop :=
  (64 ∣ (k0_mult1 v1).toNat) ∧
  (∀ a, (k0_off3 v1) a + S1x704x128.size a ≤ S1x2048x512.size a) ∧
  (∀ a, (k0_off5 v1) a + S1x704x128.size a ≤ S1x2048x512.size a) ∧
  (∀ a, (k0_off7 v1) a + S1x704x128.size a ≤ S1x2048x512.size a) ∧
  (∀ a, (k0_off9 v1) a + S1x704x128.size a ≤ S1x2048x512.size a)
theorem k0_mult1_dvd : ∀ (v1 : BitVec 32) (k0_hw1 : k0_chk1 v1), 64 ∣ (k0_mult1 v1).toNat := fun v1 k0_hw1 => k0_hw1.1
theorem k0_off3_inb : ∀ (v1 : BitVec 32) (k0_hw1 : k0_chk1 v1), ∀ a, (k0_off3 v1) a + S1x704x128.size a ≤ S1x2048x512.size a := fun v1 k0_hw1 => k0_hw1.2.1
theorem k0_off5_inb : ∀ (v1 : BitVec 32) (k0_hw1 : k0_chk1 v1), ∀ a, (k0_off5 v1) a + S1x704x128.size a ≤ S1x2048x512.size a := fun v1 k0_hw1 => k0_hw1.2.2.1
theorem k0_off7_inb : ∀ (v1 : BitVec 32) (k0_hw1 : k0_chk1 v1), ∀ a, (k0_off7 v1) a + S1x704x128.size a ≤ S1x2048x512.size a := fun v1 k0_hw1 => k0_hw1.2.2.2.1
theorem k0_off9_inb : ∀ (v1 : BitVec 32) (k0_hw1 : k0_chk1 v1), ∀ a, (k0_off9 v1) a + S1x704x128.size a ≤ S1x2048x512.size a := fun v1 k0_hw1 => k0_hw1.2.2.2.2

def k0_off10 (v5 : BitVec 32) : Fin 4 → Nat :=
  let v192 : Index := Scalar.indexCast v5
  let c3 : Index := 3#32
  let c0_92 : Index := 0#32
  let c0_93 : Index := 0#32
  ![v192.toNat, 3, 0, 0]

def k0_chk2 (v5 : BitVec 32) : Prop :=
  (∀ a, (k0_off4 v5) a + S1x1x256x704.size a ≤ S3x4x256x704.size a) ∧
  (∀ a, (k0_off6 v5) a + S1x1x256x704.size a ≤ S3x4x256x704.size a) ∧
  (∀ a, (k0_off8 v5) a + S1x1x256x704.size a ≤ S3x4x256x704.size a) ∧
  (∀ a, (k0_off10 v5) a + S1x1x256x704.size a ≤ S3x4x256x704.size a)
theorem k0_off4_inb : ∀ (v5 : BitVec 32) (k0_hw2 : k0_chk2 v5), ∀ a, (k0_off4 v5) a + S1x1x256x704.size a ≤ S3x4x256x704.size a := fun v5 k0_hw2 => k0_hw2.1
theorem k0_off6_inb : ∀ (v5 : BitVec 32) (k0_hw2 : k0_chk2 v5), ∀ a, (k0_off6 v5) a + S1x1x256x704.size a ≤ S3x4x256x704.size a := fun v5 k0_hw2 => k0_hw2.2.1
theorem k0_off8_inb : ∀ (v5 : BitVec 32) (k0_hw2 : k0_chk2 v5), ∀ a, (k0_off8 v5) a + S1x1x256x704.size a ≤ S3x4x256x704.size a := fun v5 k0_hw2 => k0_hw2.2.2.1
theorem k0_off10_inb : ∀ (v5 : BitVec 32) (k0_hw2 : k0_chk2 v5), ∀ a, (k0_off10 v5) a + S1x1x256x704.size a ≤ S3x4x256x704.size a := fun v5 k0_hw2 => k0_hw2.2.2.2

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S3x4x256x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S16x2048x5632 : Shape := ⟨3, ![16, 2048, 5632]⟩
abbrev S16x256x5632 : Shape := ⟨3, ![16, 256, 5632]⟩
abbrev S4x15x31 : Shape := ⟨3, ![4, 15, 31]⟩
abbrev S16x256x512 : Shape := ⟨3, ![16, 256, 512]⟩
abbrev S16x2048x512 : Shape := ⟨3, ![16, 2048, 512]⟩
abbrev S_ : Shape := ⟨0, ![]⟩
abbrev S16x32x64x4x128 : Shape := ⟨5, ![16, 32, 64, 4, 128]⟩
abbrev S16x256x4x128 : Shape := ⟨4, ![16, 256, 4, 128]⟩
abbrev S32 : Shape := ⟨1, ![32]⟩
abbrev S64 : Shape := ⟨1, ![64]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x32x8x64x4x128 : Shape := ⟨6, ![16, 32, 8, 64, 4, 128]⟩
abbrev S1x64 : Shape := ⟨2, ![1, 64]⟩
abbrev S64x1 : Shape := ⟨2, ![64, 1]⟩
abbrev S64x64 : Shape := ⟨2, ![64, 64]⟩
abbrev S4x32x8x31 : Shape := ⟨4, ![4, 32, 8, 31]⟩
abbrev S64x64x1 : Shape := ⟨3, ![64, 64, 1]⟩
abbrev S4x32x8x64x64 : Shape := ⟨5, ![4, 32, 8, 64, 64]⟩
abbrev S1x1x64x1x64 : Shape := ⟨5, ![1, 1, 64, 1, 64]⟩
abbrev S4x32x64x8x64 : Shape := ⟨5, ![4, 32, 64, 8, 64]⟩
abbrev S16x4x32x64x8x64 : Shape := ⟨6, ![16, 4, 32, 64, 8, 64]⟩
abbrev S1x4x32x64x8x64 : Shape := ⟨6, ![1, 4, 32, 64, 8, 64]⟩
abbrev S16x4x32x64x256 : Shape := ⟨5, ![16, 4, 32, 64, 256]⟩
abbrev S16x4x32x64x512 : Shape := ⟨5, ![16, 4, 32, 64, 512]⟩
abbrev S16x4x32x64x768 : Shape := ⟨5, ![16, 4, 32, 64, 768]⟩
abbrev S16x4x32x64 : Shape := ⟨4, ![16, 4, 32, 64]⟩
abbrev S16x4x32x64x1 : Shape := ⟨5, ![16, 4, 32, 64, 1]⟩
abbrev S16x32x4x128x64 : Shape := ⟨5, ![16, 32, 4, 128, 64]⟩
abbrev S16x4x128x32x64 : Shape := ⟨5, ![16, 4, 128, 32, 64]⟩

abbrev nBuf : Space → Nat
  | .hbm => 176
  | .vmem => 0
  | .smem => 0
  | _ => 0

abbrev hbmTy0_0 (i : Nat) : BufTy := match i % 128 with
  | 0 => ⟨S16x2048x5632, .f32⟩
  | 1 => ⟨S16x256x5632, .f32⟩
  | 2 => ⟨S4x15x31, .f32⟩
  | 3 => ⟨S16x256x512, .f32⟩
  | 4 => ⟨S16x256x512, .f32⟩
  | 5 => ⟨S16x2048x512, .f32⟩
  | 6 => ⟨S16x2048x512, .f32⟩
  | 7 => ⟨S16x2048x512, .f32⟩
  | 8 => ⟨S_, .f32⟩
  | 9 => ⟨S_, .f32⟩
  | 10 => ⟨S16x32x64x4x128, .f32⟩
  | 11 => ⟨S16x32x64x4x128, .f32⟩
  | 12 => ⟨S16x32x64x4x128, .f32⟩
  | 13 => ⟨S16x256x4x128, .f32⟩
  | 14 => ⟨S16x256x4x128, .f32⟩
  | 15 => ⟨S32, .i32⟩
  | 16 => ⟨S64, .i32⟩
  | 17 => ⟨S_, .i32⟩
  | 18 => ⟨S32, .i32⟩
  | 19 => ⟨S32, .i32⟩
  | 20 => ⟨S_, .i32⟩
  | 21 => ⟨S_, .i32⟩
  | 22 => ⟨S_, .i32⟩
  | 23 => ⟨S32, .i32⟩
  | 24 => ⟨S32, .i32⟩
  | 25 => ⟨S_, .i32⟩
  | 26 => ⟨S32, .i32⟩
  | 27 => ⟨S32, .i32⟩
  | 28 => ⟨S32x1, .i32⟩
  | 29 => ⟨S8, .i32⟩
  | 30 => ⟨S1x8, .i32⟩
  | 31 => ⟨S32x8, .i32⟩
  | 32 => ⟨S32x8, .i32⟩
  | 33 => ⟨S32x8, .i32⟩
  | 34 => ⟨S_, .i32⟩
  | 35 => ⟨S32x8, .i32⟩
  | 36 => ⟨S32x8, .i1⟩
  | 37 => ⟨S_, .i32⟩
  | 38 => ⟨S32x8, .i32⟩
  | 39 => ⟨S32x8, .i32⟩
  | 40 => ⟨S32x8, .i32⟩
  | 41 => ⟨S32x8x1, .i32⟩
  | 42 => ⟨S16x32x8x64x4x128, .f32⟩
  | 43 => ⟨S_, .i32⟩
  | 44 => ⟨S32x8, .i32⟩
  | 45 => ⟨S32x8, .i1⟩
  | 46 => ⟨S_, .i32⟩
  | 47 => ⟨S32x8, .i32⟩
  | 48 => ⟨S32x8, .i32⟩
  | 49 => ⟨S32x8, .i32⟩
  | 50 => ⟨S32x8x1, .i32⟩
  | 51 => ⟨S16x32x8x64x4x128, .f32⟩
  | 52 => ⟨S_, .i32⟩
  | 53 => ⟨S64, .i32⟩
  | 54 => ⟨S64, .i32⟩
  | 55 => ⟨S_, .i32⟩
  | 56 => ⟨S_, .i32⟩
  | 57 => ⟨S_, .i32⟩
  | 58 => ⟨S64, .i32⟩
  | 59 => ⟨S64, .i32⟩
  | 60 => ⟨S_, .i32⟩
  | 61 => ⟨S64, .i32⟩
  | 62 => ⟨S64, .i32⟩
  | 63 => ⟨S1x64, .i32⟩
  | 64 => ⟨S64x1, .i32⟩
  | 65 => ⟨S64x64, .i32⟩
  | 66 => ⟨S64x64, .i32⟩
  | 67 => ⟨S64x64, .i1⟩
  | 68 => ⟨S1x64, .i32⟩
  | 69 => ⟨S64x1, .i32⟩
  | 70 => ⟨S_, .i32⟩
  | 71 => ⟨S64x1, .i32⟩
  | 72 => ⟨S64x1, .i32⟩
  | 73 => ⟨S64x64, .i32⟩
  | 74 => ⟨S64x64, .i32⟩
  | 75 => ⟨S64x64, .i1⟩
  | 76 => ⟨S64x64, .i1⟩
  | 77 => ⟨S32x1, .i32⟩
  | 78 => ⟨S32x8, .i32⟩
  | 79 => ⟨S32x8, .i32⟩
  | 80 => ⟨S1x64, .i32⟩
  | 81 => ⟨S64x1, .i32⟩
  | 82 => ⟨S64x64, .i32⟩
  | 83 => ⟨S64x64, .i32⟩
  | 84 => ⟨S64x64, .i32⟩
  | 85 => ⟨S_, .i32⟩
  | 86 => ⟨S_, .i32⟩
  | 87 => ⟨S_, .i32⟩
  | 88 => ⟨S64x64, .i32⟩
  | 89 => ⟨S64x64, .i32⟩
  | 90 => ⟨S_, .i32⟩
  | 91 => ⟨S64x64, .i32⟩
  | 92 => ⟨S64x64, .i32⟩
  | 93 => ⟨S_, .i32⟩
  | 94 => ⟨S32x8, .i32⟩
  | 95 => ⟨S32x8, .i32⟩
  | 96 => ⟨S_, .i32⟩
  | 97 => ⟨S32x8, .i32⟩
  | 98 => ⟨S32x8, .i32⟩
  | 99 => ⟨S_, .i32⟩
  | 100 => ⟨S32x8, .i32⟩
  | 101 => ⟨S32x8, .i1⟩
  | 102 => ⟨S_, .i32⟩
  | 103 => ⟨S32x8, .i32⟩
  | 104 => ⟨S32x8, .i32⟩
  | 105 => ⟨S32x8, .i32⟩
  | 106 => ⟨S32x8x1, .i32⟩
  | 107 => ⟨S4x32x8x31, .f32⟩
  | 108 => ⟨S_, .i32⟩
  | 109 => ⟨S64x64, .i32⟩
  | 110 => ⟨S64x64, .i32⟩
  | 111 => ⟨S_, .i32⟩
  | 112 => ⟨S64x64, .i32⟩
  | 113 => ⟨S64x64, .i32⟩
  | 114 => ⟨S_, .i32⟩
  | 115 => ⟨S64x64, .i32⟩
  | 116 => ⟨S64x64, .i1⟩
  | 117 => ⟨S_, .i32⟩
  | 118 => ⟨S64x64, .i32⟩
  | 119 => ⟨S64x64, .i32⟩
  | 120 => ⟨S64x64, .i32⟩
  | 121 => ⟨S64x64x1, .i32⟩
  | 122 => ⟨S4x32x8x64x64, .f32⟩
  | 123 => ⟨S1x1x64x1x64, .i1⟩
  | 124 => ⟨S4x32x64x8x64, .f32⟩
  | 125 => ⟨S_, .f32⟩
  | 126 => ⟨S_, .f32⟩
  | 127 => ⟨S4x32x64x8x64, .i1⟩
  | _ => ⟨S16x2048x5632, .f32⟩

abbrev hbmTy0_1 (i : Nat) : BufTy := match i % 128 with
  | 0 => ⟨S4x32x64x8x64, .f32⟩
  | 1 => ⟨S4x32x64x8x64, .f32⟩
  | 2 => ⟨S16x4x32x64x8x64, .f32⟩
  | 3 => ⟨S16x4x32x64x8x64, .f32⟩
  | 4 => ⟨S16x4x32x64x8x64, .f32⟩
  | 5 => ⟨S1x4x32x64x8x64, .f32⟩
  | 6 => ⟨S16x4x32x64x8x64, .f32⟩
  | 7 => ⟨S16x4x32x64x8x64, .f32⟩
  | 8 => ⟨S16x4x32x64x256, .f32⟩
  | 9 => ⟨S16x4x32x64x256, .f32⟩
  | 10 => ⟨S16x4x32x64x256, .f32⟩
  | 11 => ⟨S16x4x32x64x512, .f32⟩
  | 12 => ⟨S16x4x32x64x768, .f32⟩
  | 13 => ⟨S_, .f32⟩
  | 14 => ⟨S16x4x32x64, .f32⟩
  | 15 => ⟨S_, .f32⟩
  | 16 => ⟨S16x4x32x64, .f32⟩
  | 17 => ⟨S16x4x32x64, .f32⟩
  | 18 => ⟨S16x4x32x64x1, .f32⟩
  | 19 => ⟨S16x4x32x64x768, .f32⟩
  | 20 => ⟨S16x4x32x64x768, .f32⟩
  | 21 => ⟨S16x4x32x64x768, .f32⟩
  | 22 => ⟨S_, .f32⟩
  | 23 => ⟨S16x4x32x64, .f32⟩
  | 24 => ⟨S16x4x32x64x1, .f32⟩
  | 25 => ⟨S16x4x32x64x768, .f32⟩
  | 26 => ⟨S16x4x32x64x768, .f32⟩
  | 27 => ⟨S16x4x32x64x512, .f32⟩
  | 28 => ⟨S16x4x32x64x8x64, .f32⟩
  | 29 => ⟨S16x4x32x64x256, .f32⟩
  | 30 => ⟨S16x32x4x128x64, .f32⟩
  | 31 => ⟨S16x32x64x4x128, .f32⟩
  | 32 => ⟨S16x4x128x32x64, .f32⟩
  | 33 => ⟨S16x32x64x4x128, .f32⟩
  | 34 => ⟨S16x32x64x4x128, .f32⟩
  | 35 => ⟨S16x2048x512, .f32⟩
  | 36 => ⟨S16x2048x512, .f32⟩
  | 37 => ⟨S16x2048x512, .f32⟩
  | 38 => ⟨S16x2048x512, .f32⟩
  | 39 => ⟨S_, .f32⟩
  | 40 => ⟨S16x2048x512, .f32⟩
  | 41 => ⟨S16x2048x512, .f32⟩
  | 42 => ⟨S_, .f32⟩
  | 43 => ⟨S16x2048x512, .f32⟩
  | 44 => ⟨S16x2048x512, .f32⟩
  | 45 => ⟨S16x2048x512, .f32⟩
  | 46 => ⟨S16x2048x512, .f32⟩
  | 47 => ⟨S16x2048x512, .bf16⟩
  | _ => ⟨S16x2048x5632, .f32⟩

abbrev hbmTy (i : Nat) : BufTy := match i / 128 with
  | 0 => hbmTy0_0 i
  | 1 => hbmTy0_1 i
  | _ => ⟨S16x2048x5632, .f32⟩

abbrev bufTy : (tb : Table) → Fin (tcTables nBuf tb) → BufTy
  | .hbm, ⟨i, _⟩ => hbmTy i
  | _, _ => ⟨S16x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_c_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_c_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v60 : Ref sig .tc := ⟨.hbm, 92, rfl⟩
abbrev main_c_12 : Ref sig .tc := ⟨.hbm, 93, rfl⟩
abbrev main_v61 : Ref sig .tc := ⟨.hbm, 94, rfl⟩
abbrev main_v62 : Ref sig .tc := ⟨.hbm, 95, rfl⟩
abbrev main_c_13 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_c_19 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_20 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_cst_22 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩

abbrev nD : Nat := 1
abbrev τ : Topo := Topo.v7x

variable {F : FTy → Type} [FloatOps F]
-- ==== InProj.lean ====
abbrev S16x2048x2048 : Shape := ⟨3, ![16, 2048, 2048]⟩
abbrev S16x1x6144 : Shape := ⟨3, ![16, 1, 6144]⟩
abbrev S2048x5632 : Shape := ⟨2, ![2048, 5632]⟩
abbrev S1x5632 : Shape := ⟨2, ![1, 5632]⟩
abbrev S32768x2048 : Shape := ⟨2, ![32768, 2048]⟩
abbrev S32768x5632 : Shape := ⟨2, ![32768, 5632]⟩
abbrev S1024x2048 : Shape := ⟨2, ![1024, 2048]⟩
abbrev S1x1x6144 : Shape := ⟨3, ![1, 1, 6144]⟩
abbrev S2048x1408 : Shape := ⟨2, ![2048, 1408]⟩
abbrev S1x1408 : Shape := ⟨2, ![1, 1408]⟩
abbrev S1024x1408 : Shape := ⟨2, ![1024, 1408]⟩
abbrev S1x1x2048 : Shape := ⟨3, ![1, 1, 2048]⟩
abbrev S1x2048 : Shape := ⟨2, ![1, 2048]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S16x1x6144, .f32⟩
  | .hbm, ⟨2, _⟩ => ⟨S2048x5632, .bf16⟩
  | .hbm, ⟨3, _⟩ => ⟨S1x5632, .f32⟩
  | .hbm, ⟨4, _⟩ => ⟨S32768x2048, .f32⟩
  | .hbm, ⟨5, _⟩ => ⟨S32768x5632, .f32⟩
  | .local _ .vmem, ⟨0, _⟩ => ⟨S1024x2048, .f32⟩
  | .local _ .vmem, ⟨1, _⟩ => ⟨S1024x2048, .f32⟩
  | .local _ .vmem, ⟨2, _⟩ => ⟨S1x1x6144, .f32⟩
  | .local _ .vmem, ⟨3, _⟩ => ⟨S1x1x6144, .f32⟩
  | .local _ .vmem, ⟨4, _⟩ => ⟨S2048x1408, .bf16⟩
  | .local _ .vmem, ⟨5, _⟩ => ⟨S2048x1408, .bf16⟩
  | .local _ .vmem, ⟨6, _⟩ => ⟨S1x1408, .f32⟩
  | .local _ .vmem, ⟨7, _⟩ => ⟨S1x1408, .f32⟩
  | .local _ .vmem, ⟨8, _⟩ => ⟨S1024x1408, .f32⟩
  | .local _ .vmem, ⟨9, _⟩ => ⟨S1024x1408, .f32⟩
  | .local _ .vmem, ⟨10, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjReferenceIdeal.lean ====
abbrev S16x2048x2048 : Shape := ⟨3, ![16, 2048, 2048]⟩
abbrev S16x1x6144 : Shape := ⟨3, ![16, 1, 6144]⟩
abbrev S2048x5632 : Shape := ⟨2, ![2048, 5632]⟩
abbrev S1x5632 : Shape := ⟨2, ![1, 5632]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S16x2048x5632 : Shape := ⟨3, ![16, 2048, 5632]⟩
abbrev S1x1x5632 : Shape := ⟨3, ![1, 1, 5632]⟩
abbrev S32768x5632 : Shape := ⟨2, ![32768, 5632]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x1x6144, .f32⟩
  | .hbm, ⟨2, _⟩ => ⟨S2048x5632, .bf16⟩
  | .hbm, ⟨3, _⟩ => ⟨S1x5632, .f32⟩
  | .hbm, ⟨4, _⟩ => ⟨S16x1x2048, .f32⟩
  | .hbm, ⟨5, _⟩ => ⟨S16x1x2048, .f32⟩
  | .hbm, ⟨6, _⟩ => ⟨S16x1x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x1x2048, .f32⟩
  | .hbm, ⟨32, _⟩ => ⟨S16x1x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S2048x5632, .f32⟩
  | .hbm, ⟨38, _⟩ => ⟨S16x2048x5632, .f32⟩
  | .hbm, ⟨39, _⟩ => ⟨S1x1x5632, .f32⟩
  | .hbm, ⟨40, _⟩ => ⟨S16x2048x5632, .f32⟩
  | .hbm, ⟨41, _⟩ => ⟨S16x2048x5632, .f32⟩
  | .hbm, ⟨42, _⟩ => ⟨S32768x5632, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Merge.lean ====
abbrev S16x2048x2048 : Shape := ⟨3, ![16, 2048, 2048]⟩
abbrev S16x1x6144 : Shape := ⟨3, ![16, 1, 6144]⟩
abbrev S32768x512 : Shape := ⟨2, ![32768, 512]⟩
abbrev S2048x8192 : Shape := ⟨2, ![2048, 8192]⟩
abbrev S4x1x2048 : Shape := ⟨3, ![4, 1, 2048]⟩
abbrev S4x512x2048 : Shape := ⟨3, ![4, 512, 2048]⟩
abbrev S32768x2048 : Shape := ⟨2, ![32768, 2048]⟩
abbrev S512x2048 : Shape := ⟨2, ![512, 2048]⟩
abbrev S1x1x6144 : Shape := ⟨3, ![1, 1, 6144]⟩
abbrev S512x512 : Shape := ⟨2, ![512, 512]⟩
abbrev S2048x512 : Shape := ⟨2, ![2048, 512]⟩
abbrev S4x1x512 : Shape := ⟨3, ![4, 1, 512]⟩
abbrev S1x512x512 : Shape := ⟨3, ![1, 512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 11
  | .vmem => 33
  | .smem => 0
  | _ => 0

abbrev bufTy : (tb : Table) → Fin (tcTables nBuf tb) → BufTy
  | .hbm, ⟨0, _⟩ => ⟨S16x2048x2048, .f32⟩
  | .hbm, ⟨1, _⟩ => ⟨S16x1x6144, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S2048x8192, .bf16⟩
  | .hbm, ⟨7, _⟩ => ⟨S4x1x2048, .f32⟩
  | .hbm, ⟨8, _⟩ => ⟨S4x512x2048, .bf16⟩
  | .hbm, ⟨9, _⟩ => ⟨S32768x2048, .f32⟩
  | .hbm, ⟨10, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S4x1x512, .f32⟩
  | .local _ .vmem, ⟨21, _⟩ => ⟨S4x1x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S512x512, .bf16⟩
  | .local _ .vmem, ⟨31, _⟩ => ⟨S512x512, .bf16⟩
  | .local _ .vmem, ⟨32, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeReferenceIdeal.lean ====
abbrev S16x2048x2048 : Shape := ⟨3, ![16, 2048, 2048]⟩
abbrev S16x1x6144 : Shape := ⟨3, ![16, 1, 6144]⟩
abbrev S32768x512 : Shape := ⟨2, ![32768, 512]⟩
abbrev S2048x8192 : Shape := ⟨2, ![2048, 8192]⟩
abbrev S4x1x2048 : Shape := ⟨3, ![4, 1, 2048]⟩
abbrev S4x512x2048 : Shape := ⟨3, ![4, 512, 2048]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S16x2048x8192 : Shape := ⟨3, ![16, 2048, 8192]⟩
abbrev S8192 : Shape := ⟨1, ![8192]⟩
abbrev S1x1x8192 : Shape := ⟨3, ![1, 1, 8192]⟩
abbrev S16x2048x512 : Shape := ⟨3, ![16, 2048, 512]⟩
abbrev S1x512x2048 : Shape := ⟨3, ![1, 512, 2048]⟩
abbrev S512x2048 : Shape := ⟨2, ![512, 2048]⟩
abbrev S32768x2048 : Shape := ⟨2, ![32768, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x1x6144, .f32⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S32768x512, .bf16⟩
  | .hbm, ⟨6, _⟩ => ⟨S2048x8192, .bf16⟩
  | .hbm, ⟨7, _⟩ => ⟨S4x1x2048, .f32⟩
  | .hbm, ⟨8, _⟩ => ⟨S4x512x2048, .bf16⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x1x2048, .f32⟩
  | .hbm, ⟨37, _⟩ => ⟨S16x1x2048, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x2048x2048, .f32⟩
  | .hbm, ⟨42, _⟩ => ⟨S2048x8192, .f32⟩
  | .hbm, ⟨43, _⟩ => ⟨S16x2048x8192, .f32⟩
  | .hbm, ⟨44, _⟩ => ⟨S8192, .f32⟩
  | .hbm, ⟨45, _⟩ => ⟨S1x1x8192, .f32⟩
  | .hbm, ⟨46, _⟩ => ⟨S16x2048x8192, .f32⟩
  | .hbm, ⟨47, _⟩ => ⟨S16x2048x8192, .f32⟩
  | .hbm, ⟨48, _⟩ => ⟨S32768x512, .f32⟩
  | .hbm, ⟨49, _⟩ => ⟨S16x2048x512, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S16x2048x2048, .f32⟩
  | .hbm, ⟨55, _⟩ => ⟨S16x2048x2048, .f32⟩
  | .hbm, ⟨56, _⟩ => ⟨S_, .f32⟩
  | .hbm, ⟨57, _⟩ => ⟨S16x2048x2048, .f32⟩
  | .hbm, ⟨58, _⟩ => ⟨S16x2048x2048, .f32⟩
  | .hbm, ⟨59, _⟩ => ⟨S1x512x2048, .bf16⟩
  | .hbm, ⟨60, _⟩ => ⟨S512x2048, .bf16⟩
  | .hbm, ⟨61, _⟩ => ⟨S512x2048, .f32⟩
  | .hbm, ⟨62, _⟩ => ⟨S16x2048x2048, .f32⟩
  | .hbm, ⟨63, _⟩ => ⟨S16x2048x2048, .f32⟩
  | .hbm, ⟨64, _⟩ => ⟨S32768x512, .f32⟩
  | .hbm, ⟨65, _⟩ => ⟨S16x2048x512, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048x2048, .f32⟩
  | .hbm, ⟨71, _⟩ => ⟨S16x2048x2048, .f32⟩
  | .hbm, ⟨72, _⟩ => ⟨S_, .f32⟩
  | .hbm, ⟨73, _⟩ => ⟨S16x2048x2048, .f32⟩
  | .hbm, ⟨74, _⟩ => ⟨S16x2048x2048, .f32⟩
  | .hbm, ⟨75, _⟩ => ⟨S1x512x2048, .bf16⟩
  | .hbm, ⟨76, _⟩ => ⟨S512x2048, .bf16⟩
  | .hbm, ⟨77, _⟩ => ⟨S512x2048, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S32768x512, .f32⟩
  | .hbm, ⟨82, _⟩ => ⟨S16x2048x512, .f32⟩
  | .hbm, ⟨83, _⟩ => ⟨S16x2048x2048, .f32⟩
  | .hbm, ⟨84, _⟩ => ⟨S16x2048x2048, .f32⟩
  | .hbm, ⟨85, _⟩ => ⟨S16x2048x2048, .f32⟩
  | .hbm, ⟨86, _⟩ => ⟨S_, .f32⟩
  | .hbm, ⟨87, _⟩ => ⟨S16x2048x2048, .f32⟩
  | .hbm, ⟨88, _⟩ => ⟨S16x2048x2048, .f32⟩
  | .hbm, ⟨89, _⟩ => ⟨S_, .f32⟩
  | .hbm, ⟨90, _⟩ => ⟨S16x2048x2048, .f32⟩
  | .hbm, ⟨91, _⟩ => ⟨S16x2048x2048, .f32⟩
  | .hbm, ⟨92, _⟩ => ⟨S1x512x2048, .bf16⟩
  | .hbm, ⟨93, _⟩ => ⟨S512x2048, .bf16⟩
  | .hbm, ⟨94, _⟩ => ⟨S512x2048, .f32⟩
  | .hbm, ⟨95, _⟩ => ⟨S16x2048x2048, .f32⟩
  | .hbm, ⟨96, _⟩ => ⟨S16x2048x2048, .f32⟩
  | .hbm, ⟨97, _⟩ => ⟨S16x2048x2048, .f32⟩
  | .hbm, ⟨98, _⟩ => ⟨S32768x512, .f32⟩
  | .hbm, ⟨99, _⟩ => ⟨S16x2048x512, .f32⟩
  | .hbm, ⟨100, _⟩ => ⟨S16x2048x2048, .f32⟩
  | .hbm, ⟨101, _⟩ => ⟨S16x2048x2048, .f32⟩
  | .hbm, ⟨102, _⟩ => ⟨S16x2048x2048, .f32⟩
  | .hbm, ⟨103, _⟩ => ⟨S_, .f32⟩
  | .hbm, ⟨104, _⟩ => ⟨S16x2048x2048, .f32⟩
  | .hbm, ⟨105, _⟩ => ⟨S16x2048x2048, .f32⟩
  | .hbm, ⟨106, _⟩ => ⟨S_, .f32⟩
  | .hbm, ⟨107, _⟩ => ⟨S16x2048x2048, .f32⟩
  | .hbm, ⟨108, _⟩ => ⟨S16x2048x2048, .f32⟩
  | .hbm, ⟨109, _⟩ => ⟨S1x512x2048, .bf16⟩
  | .hbm, ⟨110, _⟩ => ⟨S512x2048, .bf16⟩
  | .hbm, ⟨111, _⟩ => ⟨S512x2048, .f32⟩
  | .hbm, ⟨112, _⟩ => ⟨S16x2048x2048, .f32⟩
  | .hbm, ⟨113, _⟩ => ⟨S16x2048x2048, .f32⟩
  | .hbm, ⟨114, _⟩ => ⟨S16x2048x2048, .f32⟩
  | .hbm, ⟨115, _⟩ => ⟨S32768x2048, .f32⟩
  | .hbm, ⟨116, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== OutProj.lean ====
abbrev S32768x2048 : Shape := ⟨2, ![32768, 2048]⟩
abbrev S16x2048x2048 : Shape := ⟨3, ![16, 2048, 2048]⟩
abbrev S16x1x6144 : Shape := ⟨3, ![16, 1, 6144]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x1x6144 : Shape := ⟨3, ![1, 1, 6144]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S16x1x6144, .f32⟩
  | .hbm, ⟨3, _⟩ => ⟨S2048x2048, .bf16⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x6144, .f32⟩
  | .local _ .vmem, ⟨5, _⟩ => ⟨S1x1x6144, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjReferenceIdeal.lean ====
abbrev S32768x2048 : Shape := ⟨2, ![32768, 2048]⟩
abbrev S16x2048x2048 : Shape := ⟨3, ![16, 2048, 2048]⟩
abbrev S16x1x6144 : Shape := ⟨3, ![16, 1, 6144]⟩
abbrev S2048x2048 : Shape := ⟨2, ![2048, 2048]⟩
abbrev S2048 : Shape := ⟨1, ![2048]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S16x1x6144, .f32⟩
  | .hbm, ⟨3, _⟩ => ⟨S2048x2048, .bf16⟩
  | .hbm, ⟨4, _⟩ => ⟨S2048, .f32⟩
  | .hbm, ⟨5, _⟩ => ⟨S2048, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S32768x2048, .f32⟩
  | .hbm, ⟨10, _⟩ => ⟨S16x2048x2048, .f32⟩
  | .hbm, ⟨11, _⟩ => ⟨S2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S1x1x2048, .f32⟩
  | .hbm, ⟨43, _⟩ => ⟨S16x2048x2048, .f32⟩
  | .hbm, ⟨44, _⟩ => ⟨S16x2048x2048, .f32⟩
  | .hbm, ⟨45, _⟩ => ⟨S1x1x2048, .f32⟩
  | .hbm, ⟨46, _⟩ => ⟨S16x2048x2048, .f32⟩
  | .hbm, ⟨47, _⟩ => ⟨S16x2048x2048, .f32⟩
  | .hbm, ⟨48, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Sgu.lean ====
abbrev S16x2048x5632 : Shape := ⟨3, ![16, 2048, 5632]⟩
abbrev S4x128x128 : Shape := ⟨3, ![4, 128, 128]⟩
abbrev S4x128 : Shape := ⟨2, ![4, 128]⟩
abbrev S4x128x1 : Shape := ⟨3, ![4, 128, 1]⟩
abbrev S16x2048x512 : Shape := ⟨3, ![16, 2048, 512]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x5632, .f32⟩
  | .hbm, ⟨1, _⟩ => ⟨S4x128x128, .f32⟩
  | .hbm, ⟨2, _⟩ => ⟨S4x128, .f32⟩
  | .hbm, ⟨3, _⟩ => ⟨S4x128x128, .bf16⟩
  | .hbm, ⟨4, _⟩ => ⟨S4x128x1, .f32⟩
  | .hbm, ⟨5, _⟩ => ⟨S16x2048x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S4x128x128, .bf16⟩
  | .local _ .vmem, ⟨5, _⟩ => ⟨S4x128x1, .f32⟩
  | .local _ .vmem, ⟨6, _⟩ => ⟨S1x512x512, .bf16⟩
  | .local _ .vmem, ⟨7, _⟩ => ⟨S1x512x512, .bf16⟩
  | _, _ => ⟨S16x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SguReferenceIdeal.lean ====
abbrev S16x2048x5632 : Shape := ⟨3, ![16, 2048, 5632]⟩
abbrev S4x128x128 : Shape := ⟨3, ![4, 128, 128]⟩
abbrev S4x128 : Shape := ⟨2, ![4, 128]⟩
abbrev S16x2048x1024 : Shape := ⟨3, ![16, 2048, 1024]⟩
abbrev S_ : Shape := ⟨0, ![]⟩
abbrev S16x2048x512 : Shape := ⟨3, ![16, 2048, 512]⟩
abbrev S16x2048 : Shape := ⟨2, ![16, 2048]⟩
abbrev S16x2048x1 : Shape := ⟨3, ![16, 2048, 1]⟩
abbrev S16x16x128x4x128 : Shape := ⟨5, ![16, 16, 128, 4, 128]⟩
abbrev S4x16x16x128x128 : Shape := ⟨5, ![4, 16, 16, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x5632, .f32⟩
  | .hbm, ⟨1, _⟩ => ⟨S4x128x128, .f32⟩
  | .hbm, ⟨2, _⟩ => ⟨S4x128, .f32⟩
  | .hbm, ⟨3, _⟩ => ⟨S16x2048x1024, .f32⟩
  | .hbm, ⟨4, _⟩ => ⟨S16x2048x1024, .f32⟩
  | .hbm, ⟨5, _⟩ => ⟨S16x2048x1024, .f32⟩
  | .hbm, ⟨6, _⟩ => ⟨S_, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x512, .f32⟩
  | .hbm, ⟨22, _⟩ => ⟨S16x2048x512, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x512, .f32⟩
  | .hbm, ⟨39, _⟩ => ⟨S16x2048x512, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x512, .f32⟩
  | .hbm, ⟨45, _⟩ => ⟨S16x2048x512, .f32⟩
  | .hbm, ⟨46, _⟩ => ⟨S16x16x128x4x128, .f32⟩
  | .hbm, ⟨47, _⟩ => ⟨S4x16x16x128x128, .f32⟩
  | .hbm, ⟨48, _⟩ => ⟨S16x16x128x4x128, .f32⟩
  | .hbm, ⟨49, _⟩ => ⟨S128x4, .f32⟩
  | .hbm, ⟨50, _⟩ => ⟨S128x4x1, .f32⟩
  | .hbm, ⟨51, _⟩ => ⟨S1x1x128x4x1, .f32⟩
  | .hbm, ⟨52, _⟩ => ⟨S16x16x128x4x128, .f32⟩
  | .hbm, ⟨53, _⟩ => ⟨S16x16x128x4x128, .f32⟩
  | .hbm, ⟨54, _⟩ => ⟨S16x2048x512, .f32⟩
  | .hbm, ⟨55, _⟩ => ⟨S16x2048x512, .f32⟩
  | .hbm, ⟨56, _⟩ => ⟨S16x2048x512, .f32⟩
  | .hbm, ⟨57, _⟩ => ⟨S16x2048x512, .f32⟩
  | .hbm, ⟨58, _⟩ => ⟨S16x2048x512, .f32⟩
  | .hbm, ⟨59, _⟩ => ⟨S_, .f32⟩
  | .hbm, ⟨60, _⟩ => ⟨S16x2048x512, .f32⟩
  | .hbm, ⟨61, _⟩ => ⟨S16x2048x512, .f32⟩
  | .hbm, ⟨62, _⟩ => ⟨S_, .f32⟩
  | .hbm, ⟨63, _⟩ => ⟨S16x2048x512, .f32⟩
  | .hbm, ⟨64, _⟩ => ⟨S16x2048x512, .f32⟩
  | .hbm, ⟨65, _⟩ => ⟨S16x2048x512, .f32⟩
  | .hbm, ⟨66, _⟩ => ⟨S16x2048x512, .f32⟩
  | .hbm, ⟨67, _⟩ => ⟨S16x2048x512, .bf16⟩
  | _, _ => ⟨S16x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== InProjCtx.lean ====
abbrev S16x256x2048 : Shape := ⟨3, ![16, 256, 2048]⟩
abbrev S1x1x6144 : Shape := ⟨3, ![1, 1, 6144]⟩
abbrev S2048x5632 : Shape := ⟨2, ![2048, 5632]⟩
abbrev S1x5632 : Shape := ⟨2, ![1, 5632]⟩
abbrev S4096x2048 : Shape := ⟨2, ![4096, 2048]⟩
abbrev S4096x5632 : Shape := ⟨2, ![4096, 5632]⟩
abbrev S512x2048 : Shape := ⟨2, ![512, 2048]⟩
abbrev S2048x1408 : Shape := ⟨2, ![2048, 1408]⟩
abbrev S1x1408 : Shape := ⟨2, ![1, 1408]⟩
abbrev S512x1408 : Shape := ⟨2, ![512, 1408]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S2048x5632, .bf16⟩
  | .hbm, ⟨3, _⟩ => ⟨S1x5632, .f32⟩
  | .hbm, ⟨4, _⟩ => ⟨S4096x2048, .f32⟩
  | .hbm, ⟨5, _⟩ => ⟨S4096x5632, .f32⟩
  | .local _ .vmem, ⟨0, _⟩ => ⟨S512x2048, .f32⟩
  | .local _ .vmem, ⟨1, _⟩ => ⟨S512x2048, .f32⟩
  | .local _ .vmem, ⟨2, _⟩ => ⟨S1x1x6144, .f32⟩
  | .local _ .vmem, ⟨3, _⟩ => ⟨S1x1x6144, .f32⟩
  | .local _ .vmem, ⟨4, _⟩ => ⟨S2048x1408, .bf16⟩
  | .local _ .vmem, ⟨5, _⟩ => ⟨S2048x1408, .bf16⟩
  | .local _ .vmem, ⟨6, _⟩ => ⟨S1x1408, .f32⟩
  | .local _ .vmem, ⟨7, _⟩ => ⟨S1x1408, .f32⟩
  | .local _ .vmem, ⟨8, _⟩ => ⟨S512x1408, .f32⟩
  | .local _ .vmem, ⟨9, _⟩ => ⟨S512x1408, .f32⟩
  | .local _ .vmem, ⟨10, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjCtxReferenceIdeal.lean ====
abbrev S16x256x2048 : Shape := ⟨3, ![16, 256, 2048]⟩
abbrev S1x1x6144 : Shape := ⟨3, ![1, 1, 6144]⟩
abbrev S2048x5632 : Shape := ⟨2, ![2048, 5632]⟩
abbrev S1x5632 : Shape := ⟨2, ![1, 5632]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S1x1x5632 : Shape := ⟨3, ![1, 1, 5632]⟩
abbrev S4096x5632 : Shape := ⟨2, ![4096, 5632]⟩

abbrev nBuf : Space → Nat
  | .hbm => 43
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S2048x5632, .bf16⟩
  | .hbm, ⟨3, _⟩ => ⟨S1x5632, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x2048, .f32⟩
  | .hbm, ⟨14, _⟩ => ⟨S16x256x2048, .f32⟩
  | .hbm, ⟨15, _⟩ => ⟨S16x256x2048, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x2048, .f32⟩
  | .hbm, ⟨23, _⟩ => ⟨S16x256x2048, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x2048, .f32⟩
  | .hbm, ⟨29, _⟩ => ⟨S16x256x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S16x256x2048, .f32⟩
  | .hbm, ⟨36, _⟩ => ⟨S16x256x2048, .f32⟩
  | .hbm, ⟨37, _⟩ => ⟨S2048x5632, .f32⟩
  | .hbm, ⟨38, _⟩ => ⟨S16x256x5632, .f32⟩
  | .hbm, ⟨39, _⟩ => ⟨S1x1x5632, .f32⟩
  | .hbm, ⟨40, _⟩ => ⟨S16x256x5632, .f32⟩
  | .hbm, ⟨41, _⟩ => ⟨S16x256x5632, .f32⟩
  | .hbm, ⟨42, _⟩ => ⟨S4096x5632, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== MergeCtx.lean ====
abbrev S16x256x2048 : Shape := ⟨3, ![16, 256, 2048]⟩
abbrev S1x1x6144 : Shape := ⟨3, ![1, 1, 6144]⟩
abbrev S4096x512 : Shape := ⟨2, ![4096, 512]⟩
abbrev S2048x8192 : Shape := ⟨2, ![2048, 8192]⟩
abbrev S4x1x2048 : Shape := ⟨3, ![4, 1, 2048]⟩
abbrev S4x512x2048 : Shape := ⟨3, ![4, 512, 2048]⟩
abbrev S4096x2048 : Shape := ⟨2, ![4096, 2048]⟩
abbrev S512x2048 : Shape := ⟨2, ![512, 2048]⟩
abbrev S512x512 : Shape := ⟨2, ![512, 512]⟩
abbrev S2048x512 : Shape := ⟨2, ![2048, 512]⟩
abbrev S4x1x512 : Shape := ⟨3, ![4, 1, 512]⟩
abbrev S1x512x512 : Shape := ⟨3, ![1, 512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 11
  | .vmem => 33
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S2048x8192, .bf16⟩
  | .hbm, ⟨7, _⟩ => ⟨S4x1x2048, .f32⟩
  | .hbm, ⟨8, _⟩ => ⟨S4x512x2048, .bf16⟩
  | .hbm, ⟨9, _⟩ => ⟨S4096x2048, .f32⟩
  | .hbm, ⟨10, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x1x6144, .f32⟩
  | .local _ .vmem, ⟨3, _⟩ => ⟨S1x1x6144, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S2048x512, .bf16⟩
  | .local _ .vmem, ⟨19, _⟩ => ⟨S2048x512, .bf16⟩
  | .local _ .vmem, ⟨20, _⟩ => ⟨S4x1x512, .f32⟩
  | .local _ .vmem, ⟨21, _⟩ => ⟨S4x1x512, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S512x512, .bf16⟩
  | .local _ .vmem, ⟨31, _⟩ => ⟨S512x512, .bf16⟩
  | .local _ .vmem, ⟨32, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S4x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeCtxReferenceIdeal.lean ====
abbrev S16x256x2048 : Shape := ⟨3, ![16, 256, 2048]⟩
abbrev S1x1x6144 : Shape := ⟨3, ![1, 1, 6144]⟩
abbrev S4096x512 : Shape := ⟨2, ![4096, 512]⟩
abbrev S2048x8192 : Shape := ⟨2, ![2048, 8192]⟩
abbrev S4x1x2048 : Shape := ⟨3, ![4, 1, 2048]⟩
abbrev S4x512x2048 : Shape := ⟨3, ![4, 512, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S16x256x8192 : Shape := ⟨3, ![16, 256, 8192]⟩
abbrev S8192 : Shape := ⟨1, ![8192]⟩
abbrev S1x1x8192 : Shape := ⟨3, ![1, 1, 8192]⟩
abbrev S16x256x512 : Shape := ⟨3, ![16, 256, 512]⟩
abbrev S1x512x2048 : Shape := ⟨3, ![1, 512, 2048]⟩
abbrev S512x2048 : Shape := ⟨2, ![512, 2048]⟩
abbrev S4096x2048 : Shape := ⟨2, ![4096, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S2048x8192, .bf16⟩
  | .hbm, ⟨7, _⟩ => ⟨S4x1x2048, .f32⟩
  | .hbm, ⟨8, _⟩ => ⟨S4x512x2048, .bf16⟩
  | .hbm, ⟨9, _⟩ => ⟨S1x1x2048, .f32⟩
  | .hbm, ⟨10, _⟩ => ⟨S1x1x2048, .f32⟩
  | .hbm, ⟨11, _⟩ => ⟨S1x1x2048, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S16x256x2048, .f32⟩
  | .hbm, ⟨19, _⟩ => ⟨S16x256x2048, .f32⟩
  | .hbm, ⟨20, _⟩ => ⟨S16x256x2048, .f32⟩
  | .hbm, ⟨21, _⟩ => ⟨S_, .f32⟩
  | .hbm, ⟨22, _⟩ => ⟨S16x256, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x2048, .f32⟩
  | .hbm, ⟨28, _⟩ => ⟨S16x256x2048, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S16x256x1, .f32⟩
  | .hbm, ⟨33, _⟩ => ⟨S16x256x2048, .f32⟩
  | .hbm, ⟨34, _⟩ => ⟨S16x256x2048, .f32⟩
  | .hbm, ⟨35, _⟩ => ⟨S_, .f32⟩
  | .hbm, ⟨36, _⟩ => ⟨S1x1x2048, .f32⟩
  | .hbm, ⟨37, _⟩ => ⟨S1x1x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x2048, .f32⟩
  | .hbm, ⟨42, _⟩ => ⟨S2048x8192, .f32⟩
  | .hbm, ⟨43, _⟩ => ⟨S16x256x8192, .f32⟩
  | .hbm, ⟨44, _⟩ => ⟨S8192, .f32⟩
  | .hbm, ⟨45, _⟩ => ⟨S1x1x8192, .f32⟩
  | .hbm, ⟨46, _⟩ => ⟨S16x256x8192, .f32⟩
  | .hbm, ⟨47, _⟩ => ⟨S16x256x8192, .f32⟩
  | .hbm, ⟨48, _⟩ => ⟨S4096x512, .f32⟩
  | .hbm, ⟨49, _⟩ => ⟨S16x256x512, .f32⟩
  | .hbm, ⟨50, _⟩ => ⟨S16x256x2048, .f32⟩
  | .hbm, ⟨51, _⟩ => ⟨S16x256x2048, .f32⟩
  | .hbm, ⟨52, _⟩ => ⟨S16x256x2048, .f32⟩
  | .hbm, ⟨53, _⟩ => ⟨S_, .f32⟩
  | .hbm, ⟨54, _⟩ => ⟨S16x256x2048, .f32⟩
  | .hbm, ⟨55, _⟩ => ⟨S16x256x2048, .f32⟩
  | .hbm, ⟨56, _⟩ => ⟨S_, .f32⟩
  | .hbm, ⟨57, _⟩ => ⟨S16x256x2048, .f32⟩
  | .hbm, ⟨58, _⟩ => ⟨S16x256x2048, .f32⟩
  | .hbm, ⟨59, _⟩ => ⟨S1x512x2048, .bf16⟩
  | .hbm, ⟨60, _⟩ => ⟨S512x2048, .bf16⟩
  | .hbm, ⟨61, _⟩ => ⟨S512x2048, .f32⟩
  | .hbm, ⟨62, _⟩ => ⟨S16x256x2048, .f32⟩
  | .hbm, ⟨63, _⟩ => ⟨S16x256x2048, .f32⟩
  | .hbm, ⟨64, _⟩ => ⟨S4096x512, .f32⟩
  | .hbm, ⟨65, _⟩ => ⟨S16x256x512, .f32⟩
  | .hbm, ⟨66, _⟩ => ⟨S16x256x2048, .f32⟩
  | .hbm, ⟨67, _⟩ => ⟨S16x256x2048, .f32⟩
  | .hbm, ⟨68, _⟩ => ⟨S16x256x2048, .f32⟩
  | .hbm, ⟨69, _⟩ => ⟨S_, .f32⟩
  | .hbm, ⟨70, _⟩ => ⟨S16x256x2048, .f32⟩
  | .hbm, ⟨71, _⟩ => ⟨S16x256x2048, .f32⟩
  | .hbm, ⟨72, _⟩ => ⟨S_, .f32⟩
  | .hbm, ⟨73, _⟩ => ⟨S16x256x2048, .f32⟩
  | .hbm, ⟨74, _⟩ => ⟨S16x256x2048, .f32⟩
  | .hbm, ⟨75, _⟩ => ⟨S1x512x2048, .bf16⟩
  | .hbm, ⟨76, _⟩ => ⟨S512x2048, .bf16⟩
  | .hbm, ⟨77, _⟩ => ⟨S512x2048, .f32⟩
  | .hbm, ⟨78, _⟩ => ⟨S16x256x2048, .f32⟩
  | .hbm, ⟨79, _⟩ => ⟨S16x256x2048, .f32⟩
  | .hbm, ⟨80, _⟩ => ⟨S16x256x2048, .f32⟩
  | .hbm, ⟨81, _⟩ => ⟨S4096x512, .f32⟩
  | .hbm, ⟨82, _⟩ => ⟨S16x256x512, .f32⟩
  | .hbm, ⟨83, _⟩ => ⟨S16x256x2048, .f32⟩
  | .hbm, ⟨84, _⟩ => ⟨S16x256x2048, .f32⟩
  | .hbm, ⟨85, _⟩ => ⟨S16x256x2048, .f32⟩
  | .hbm, ⟨86, _⟩ => ⟨S_, .f32⟩
  | .hbm, ⟨87, _⟩ => ⟨S16x256x2048, .f32⟩
  | .hbm, ⟨88, _⟩ => ⟨S16x256x2048, .f32⟩
  | .hbm, ⟨89, _⟩ => ⟨S_, .f32⟩
  | .hbm, ⟨90, _⟩ => ⟨S16x256x2048, .f32⟩
  | .hbm, ⟨91, _⟩ => ⟨S16x256x2048, .f32⟩
  | .hbm, ⟨92, _⟩ => ⟨S1x512x2048, .bf16⟩
  | .hbm, ⟨93, _⟩ => ⟨S512x2048, .bf16⟩
  | .hbm, ⟨94, _⟩ => ⟨S512x2048, .f32⟩
  | .hbm, ⟨95, _⟩ => ⟨S16x256x2048, .f32⟩
  | .hbm, ⟨96, _⟩ => ⟨S16x256x2048, .f32⟩
  | .hbm, ⟨97, _⟩ => ⟨S16x256x2048, .f32⟩
  | .hbm, ⟨98, _⟩ => ⟨S4096x512, .f32⟩
  | .hbm, ⟨99, _⟩ => ⟨S16x256x512, .f32⟩
  | .hbm, ⟨100, _⟩ => ⟨S16x256x2048, .f32⟩
  | .hbm, ⟨101, _⟩ => ⟨S16x256x2048, .f32⟩
  | .hbm, ⟨102, _⟩ => ⟨S16x256x2048, .f32⟩
  | .hbm, ⟨103, _⟩ => ⟨S_, .f32⟩
  | .hbm, ⟨104, _⟩ => ⟨S16x256x2048, .f32⟩
  | .hbm, ⟨105, _⟩ => ⟨S16x256x2048, .f32⟩
  | .hbm, ⟨106, _⟩ => ⟨S_, .f32⟩
  | .hbm, ⟨107, _⟩ => ⟨S16x256x2048, .f32⟩
  | .hbm, ⟨108, _⟩ => ⟨S16x256x2048, .f32⟩
  | .hbm, ⟨109, _⟩ => ⟨S1x512x2048, .bf16⟩
  | .hbm, ⟨110, _⟩ => ⟨S512x2048, .bf16⟩
  | .hbm, ⟨111, _⟩ => ⟨S512x2048, .f32⟩
  | .hbm, ⟨112, _⟩ => ⟨S16x256x2048, .f32⟩
  | .hbm, ⟨113, _⟩ => ⟨S16x256x2048, .f32⟩
  | .hbm, ⟨114, _⟩ => ⟨S16x256x2048, .f32⟩
  | .hbm, ⟨115, _⟩ => ⟨S4096x2048, .f32⟩
  | .hbm, ⟨116, _⟩ => ⟨S4096x2048, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_cst_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== OutProjCtx.lean ====
abbrev S4096x2048 : Shape := ⟨2, ![4096, 2048]⟩
abbrev S16x256x2048 : Shape := ⟨3, ![16, 256, 2048]⟩
abbrev S1x1x6144 : Shape := ⟨3, ![1, 1, 6144]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S16x256x2048, .f32⟩
  | .hbm, ⟨2, _⟩ => ⟨S1x1x6144, .f32⟩
  | .hbm, ⟨3, _⟩ => ⟨S2048x2048, .bf16⟩
  | .hbm, ⟨4, _⟩ => ⟨S2048, .f32⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S1x2048, .f32⟩
  | .hbm, ⟨9, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x6144, .f32⟩
  | .local _ .vmem, ⟨5, _⟩ => ⟨S1x1x6144, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjCtxReferenceIdeal.lean ====
abbrev S4096x2048 : Shape := ⟨2, ![4096, 2048]⟩
abbrev S16x256x2048 : Shape := ⟨3, ![16, 256, 2048]⟩
abbrev S1x1x6144 : Shape := ⟨3, ![1, 1, 6144]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S16x256x2048, .f32⟩
  | .hbm, ⟨2, _⟩ => ⟨S1x1x6144, .f32⟩
  | .hbm, ⟨3, _⟩ => ⟨S2048x2048, .bf16⟩
  | .hbm, ⟨4, _⟩ => ⟨S2048, .f32⟩
  | .hbm, ⟨5, _⟩ => ⟨S2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S4096x2048, .f32⟩
  | .hbm, ⟨10, _⟩ => ⟨S16x256x2048, .f32⟩
  | .hbm, ⟨11, _⟩ => ⟨S2048x2048, .f32⟩
  | .hbm, ⟨12, _⟩ => ⟨S16x256x2048, .f32⟩
  | .hbm, ⟨13, _⟩ => ⟨S_, .f32⟩
  | .hbm, ⟨14, _⟩ => ⟨S16x256x2048, .f32⟩
  | .hbm, ⟨15, _⟩ => ⟨S16x256x2048, .f32⟩
  | .hbm, ⟨16, _⟩ => ⟨S16x256x2048, .f32⟩
  | .hbm, ⟨17, _⟩ => ⟨S16x256x2048, .f32⟩
  | .hbm, ⟨18, _⟩ => ⟨S16x256x2048, .f32⟩
  | .hbm, ⟨19, _⟩ => ⟨S_, .f32⟩
  | .hbm, ⟨20, _⟩ => ⟨S16x256, .f32⟩
  | .hbm, ⟨21, _⟩ => ⟨S16x256x1, .f32⟩
  | .hbm, ⟨22, _⟩ => ⟨S_, .f32⟩
  | .hbm, ⟨23, _⟩ => ⟨S16x256x1, .f32⟩
  | .hbm, ⟨24, _⟩ => ⟨S16x256x1, .f32⟩
  | .hbm, ⟨25, _⟩ => ⟨S16x256x2048, .f32⟩
  | .hbm, ⟨26, _⟩ => ⟨S16x256x2048, .f32⟩
  | .hbm, ⟨27, _⟩ => ⟨S16x256x2048, .f32⟩
  | .hbm, ⟨28, _⟩ => ⟨S_, .f32⟩
  | .hbm, ⟨29, _⟩ => ⟨S16x256, .f32⟩
  | .hbm, ⟨30, _⟩ => ⟨S16x256x1, .f32⟩
  | .hbm, ⟨31, _⟩ => ⟨S_, .f32⟩
  | .hbm, ⟨32, _⟩ => ⟨S16x256x1, .f32⟩
  | .hbm, ⟨33, _⟩ => ⟨S16x256x1, .f32⟩
  | .hbm, ⟨34, _⟩ => ⟨S16x256x2048, .f32⟩
  | .hbm, ⟨35, _⟩ => ⟨S16x256x2048, .f32⟩
  | .hbm, ⟨36, _⟩ => ⟨S_, .f32⟩
  | .hbm, ⟨37, _⟩ => ⟨S16x256x1, .f32⟩
  | .hbm, ⟨38, _⟩ => ⟨S16x256x1, .f32⟩
  | .hbm, ⟨39, _⟩ => ⟨S16x256x1, .f32⟩
  | .hbm, ⟨40, _⟩ => ⟨S16x256x2048, .f32⟩
  | .hbm, ⟨41, _⟩ => ⟨S16x256x2048, .f32⟩
  | .hbm, ⟨42, _⟩ => ⟨S1x1x2048, .f32⟩
  | .hbm, ⟨43, _⟩ => ⟨S16x256x2048, .f32⟩
  | .hbm, ⟨44, _⟩ => ⟨S16x256x2048, .f32⟩
  | .hbm, ⟨45, _⟩ => ⟨S1x1x2048, .f32⟩
  | .hbm, ⟨46, _⟩ => ⟨S16x256x2048, .f32⟩
  | .hbm, ⟨47, _⟩ => ⟨S16x256x2048, .f32⟩
  | .hbm, ⟨48, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== InProjLast.lean ====
abbrev S16x256x2048 : Shape := ⟨3, ![16, 256, 2048]⟩
abbrev S1x1x6144 : Shape := ⟨3, ![1, 1, 6144]⟩
abbrev S2048x5632 : Shape := ⟨2, ![2048, 5632]⟩
abbrev S1x5632 : Shape := ⟨2, ![1, 5632]⟩
abbrev S4096x2048 : Shape := ⟨2, ![4096, 2048]⟩
abbrev S4096x1536 : Shape := ⟨2, ![4096, 1536]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S2048x5632, .bf16⟩
  | .hbm, ⟨3, _⟩ => ⟨S1x5632, .f32⟩
  | .hbm, ⟨4, _⟩ => ⟨S4096x2048, .f32⟩
  | .hbm, ⟨5, _⟩ => ⟨S4096x1536, .f32⟩
  | .local _ .vmem, ⟨0, _⟩ => ⟨S512x2048, .f32⟩
  | .local _ .vmem, ⟨1, _⟩ => ⟨S512x2048, .f32⟩
  | .local _ .vmem, ⟨2, _⟩ => ⟨S1x1x6144, .f32⟩
  | .local _ .vmem, ⟨3, _⟩ => ⟨S1x1x6144, .f32⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjLastReferenceIdeal.lean ====
abbrev S16x256x2048 : Shape := ⟨3, ![16, 256, 2048]⟩
abbrev S1x1x6144 : Shape := ⟨3, ![1, 1, 6144]⟩
abbrev S2048x5632 : Shape := ⟨2, ![2048, 5632]⟩
abbrev S1x5632 : Shape := ⟨2, ![1, 5632]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S2048x1536 : Shape := ⟨2, ![2048, 1536]⟩
abbrev S16x256x1536 : Shape := ⟨3, ![16, 256, 1536]⟩
abbrev S1x1536 : Shape := ⟨2, ![1, 1536]⟩
abbrev S1x1x1536 : Shape := ⟨3, ![1, 1, 1536]⟩
abbrev S4096x1536 : Shape := ⟨2, ![4096, 1536]⟩

abbrev nBuf : Space → Nat
  | .hbm => 45
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x1x6144, .f32⟩
  | .hbm, ⟨2, _⟩ => ⟨S2048x5632, .bf16⟩
  | .hbm, ⟨3, _⟩ => ⟨S1x5632, .f32⟩
  | .hbm, ⟨4, _⟩ => ⟨S1x1x2048, .f32⟩
  | .hbm, ⟨5, _⟩ => ⟨S1x1x2048, .f32⟩
  | .hbm, ⟨6, _⟩ => ⟨S1x1x2048, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x2048, .f32⟩
  | .hbm, ⟨14, _⟩ => ⟨S16x256x2048, .f32⟩
  | .hbm, ⟨15, _⟩ => ⟨S16x256x2048, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x2048, .f32⟩
  | .hbm, ⟨23, _⟩ => ⟨S16x256x2048, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x2048, .f32⟩
  | .hbm, ⟨29, _⟩ => ⟨S16x256x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S16x256x2048, .f32⟩
  | .hbm, ⟨36, _⟩ => ⟨S16x256x2048, .f32⟩
  | .hbm, ⟨37, _⟩ => ⟨S2048x1536, .bf16⟩
  | .hbm, ⟨38, _⟩ => ⟨S2048x1536, .f32⟩
  | .hbm, ⟨39, _⟩ => ⟨S16x256x1536, .f32⟩
  | .hbm, ⟨40, _⟩ => ⟨S1x1536, .f32⟩
  | .hbm, ⟨41, _⟩ => ⟨S1x1x1536, .f32⟩
  | .hbm, ⟨42, _⟩ => ⟨S16x256x1536, .f32⟩
  | .hbm, ⟨43, _⟩ => ⟨S16x256x1536, .f32⟩
  | .hbm, ⟨44, _⟩ => ⟨S4096x1536, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== SguCtx.lean ====
abbrev S16x256x5632 : Shape := ⟨3, ![16, 256, 5632]⟩
abbrev S4x128x128 : Shape := ⟨3, ![4, 128, 128]⟩
abbrev S4x128 : Shape := ⟨2, ![4, 128]⟩
abbrev S4x128x1 : Shape := ⟨3, ![4, 128, 1]⟩
abbrev S16x256x512 : Shape := ⟨3, ![16, 256, 512]⟩
abbrev S1x256x1024 : Shape := ⟨3, ![1, 256, 1024]⟩
abbrev S1x256x512 : Shape := ⟨3, ![1, 256, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1x128x1 : Shape := ⟨3, ![1, 128, 1]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x256x5632, .f32⟩
  | .hbm, ⟨1, _⟩ => ⟨S4x128x128, .f32⟩
  | .hbm, ⟨2, _⟩ => ⟨S4x128, .f32⟩
  | .hbm, ⟨3, _⟩ => ⟨S4x128x128, .bf16⟩
  | .hbm, ⟨4, _⟩ => ⟨S4x128x1, .f32⟩
  | .hbm, ⟨5, _⟩ => ⟨S16x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S4x128x128, .bf16⟩
  | .local _ .vmem, ⟨5, _⟩ => ⟨S4x128x1, .f32⟩
  | .local _ .vmem, ⟨6, _⟩ => ⟨S1x256x512, .bf16⟩
  | .local _ .vmem, ⟨7, _⟩ => ⟨S1x256x512, .bf16⟩
  | _, _ => ⟨S16x256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SguCtxReferenceIdeal.lean ====
abbrev S16x256x5632 : Shape := ⟨3, ![16, 256, 5632]⟩
abbrev S4x128x128 : Shape := ⟨3, ![4, 128, 128]⟩
abbrev S4x128 : Shape := ⟨2, ![4, 128]⟩
abbrev S16x256x1024 : Shape := ⟨3, ![16, 256, 1024]⟩
abbrev S_ : Shape := ⟨0, ![]⟩
abbrev S16x256x512 : Shape := ⟨3, ![16, 256, 512]⟩
abbrev S16x256 : Shape := ⟨2, ![16, 256]⟩
abbrev S16x256x1 : Shape := ⟨3, ![16, 256, 1]⟩
abbrev S16x2x128x4x128 : Shape := ⟨5, ![16, 2, 128, 4, 128]⟩
abbrev S4x16x2x128x128 : Shape := ⟨5, ![4, 16, 2, 128, 128]⟩
abbrev S128x4 : Shape := ⟨2, ![128, 4]⟩
abbrev S128x4x1 : Shape := ⟨3, ![128, 4, 1]⟩
abbrev S1x1x128x4x1 : Shape := ⟨5, ![1, 1, 128, 4, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x256x5632, .f32⟩
  | .hbm, ⟨1, _⟩ => ⟨S4x128x128, .f32⟩
  | .hbm, ⟨2, _⟩ => ⟨S4x128, .f32⟩
  | .hbm, ⟨3, _⟩ => ⟨S16x256x1024, .f32⟩
  | .hbm, ⟨4, _⟩ => ⟨S16x256x1024, .f32⟩
  | .hbm, ⟨5, _⟩ => ⟨S16x256x1024, .f32⟩
  | .hbm, ⟨6, _⟩ => ⟨S_, .f32⟩
  | .hbm, ⟨7, _⟩ => ⟨S16x256x1024, .f32⟩
  | .hbm, ⟨8, _⟩ => ⟨S16x256x1024, .f32⟩
  | .hbm, ⟨9, _⟩ => ⟨S16x256x1024, .f32⟩
  | .hbm, ⟨10, _⟩ => ⟨S_, .f32⟩
  | .hbm, ⟨11, _⟩ => ⟨S16x256x1024, .f32⟩
  | .hbm, ⟨12, _⟩ => ⟨S16x256x1024, .f32⟩
  | .hbm, ⟨13, _⟩ => ⟨S16x256x1024, .f32⟩
  | .hbm, ⟨14, _⟩ => ⟨S_, .f32⟩
  | .hbm, ⟨15, _⟩ => ⟨S16x256x1024, .f32⟩
  | .hbm, ⟨16, _⟩ => ⟨S16x256x1024, .f32⟩
  | .hbm, ⟨17, _⟩ => ⟨S_, .f32⟩
  | .hbm, ⟨18, _⟩ => ⟨S16x256x1024, .f32⟩
  | .hbm, ⟨19, _⟩ => ⟨S16x256x1024, .f32⟩
  | .hbm, ⟨20, _⟩ => ⟨S16x256x1024, .f32⟩
  | .hbm, ⟨21, _⟩ => ⟨S16x256x512, .f32⟩
  | .hbm, ⟨22, _⟩ => ⟨S16x256x512, .f32⟩
  | .hbm, ⟨23, _⟩ => ⟨S_, .f32⟩
  | .hbm, ⟨24, _⟩ => ⟨S16x256, .f32⟩
  | .hbm, ⟨25, _⟩ => ⟨S16x256x1, .f32⟩
  | .hbm, ⟨26, _⟩ => ⟨S_, .f32⟩
  | .hbm, ⟨27, _⟩ => ⟨S16x256x1, .f32⟩
  | .hbm, ⟨28, _⟩ => ⟨S16x256x1, .f32⟩
  | .hbm, ⟨29, _⟩ => ⟨S16x256x512, .f32⟩
  | .hbm, ⟨30, _⟩ => ⟨S16x256x512, .f32⟩
  | .hbm, ⟨31, _⟩ => ⟨S16x256x512, .f32⟩
  | .hbm, ⟨32, _⟩ => ⟨S_, .f32⟩
  | .hbm, ⟨33, _⟩ => ⟨S16x256, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x512, .f32⟩
  | .hbm, ⟨39, _⟩ => ⟨S16x256x512, .f32⟩
  | .hbm, ⟨40, _⟩ => ⟨S_, .f32⟩
  | .hbm, ⟨41, _⟩ => ⟨S16x256x1, .f32⟩
  | .hbm, ⟨42, _⟩ => ⟨S16x256x1, .f32⟩
  | .hbm, ⟨43, _⟩ => ⟨S16x256x1, .f32⟩
  | .hbm, ⟨44, _⟩ => ⟨S16x256x512, .f32⟩
  | .hbm, ⟨45, _⟩ => ⟨S16x256x512, .f32⟩
  | .hbm, ⟨46, _⟩ => ⟨S16x2x128x4x128, .f32⟩
  | .hbm, ⟨47, _⟩ => ⟨S4x16x2x128x128, .f32⟩
  | .hbm, ⟨48, _⟩ => ⟨S16x2x128x4x128, .f32⟩
  | .hbm, ⟨49, _⟩ => ⟨S128x4, .f32⟩
  | .hbm, ⟨50, _⟩ => ⟨S128x4x1, .f32⟩
  | .hbm, ⟨51, _⟩ => ⟨S1x1x128x4x1, .f32⟩
  | .hbm, ⟨52, _⟩ => ⟨S16x2x128x4x128, .f32⟩
  | .hbm, ⟨53, _⟩ => ⟨S16x2x128x4x128, .f32⟩
  | .hbm, ⟨54, _⟩ => ⟨S16x256x512, .f32⟩
  | .hbm, ⟨55, _⟩ => ⟨S16x256x512, .f32⟩
  | .hbm, ⟨56, _⟩ => ⟨S16x256x512, .f32⟩
  | .hbm, ⟨57, _⟩ => ⟨S16x256x512, .f32⟩
  | .hbm, ⟨58, _⟩ => ⟨S16x256x512, .f32⟩
  | .hbm, ⟨59, _⟩ => ⟨S_, .f32⟩
  | .hbm, ⟨60, _⟩ => ⟨S16x256x512, .f32⟩
  | .hbm, ⟨61, _⟩ => ⟨S16x256x512, .f32⟩
  | .hbm, ⟨62, _⟩ => ⟨S_, .f32⟩
  | .hbm, ⟨63, _⟩ => ⟨S16x256x512, .f32⟩
  | .hbm, ⟨64, _⟩ => ⟨S16x256x512, .f32⟩
  | .hbm, ⟨65, _⟩ => ⟨S16x256x512, .f32⟩
  | .hbm, ⟨66, _⟩ => ⟨S16x256x512, .f32⟩
  | .hbm, ⟨67, _⟩ => ⟨S16x256x512, .bf16⟩
  | _, _ => ⟨S16x256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Ada.lean ====
abbrev S24x2048 : Shape := ⟨2, ![24, 2048]⟩
abbrev S4x2048x6144 : Shape := ⟨3, ![4, 2048, 6144]⟩
abbrev S4x6144 : Shape := ⟨2, ![4, 6144]⟩
abbrev S4x1x6144 : Shape := ⟨3, ![4, 1, 6144]⟩
abbrev S4x24x6144 : Shape := ⟨3, ![4, 24, 6144]⟩
abbrev S1x2048x1024 : Shape := ⟨3, ![1, 2048, 1024]⟩
abbrev S1x1x1024 : Shape := ⟨3, ![1, 1, 1024]⟩
abbrev S1x24x1024 : Shape := ⟨3, ![1, 24, 1024]⟩
abbrev S2048x1024 : Shape := ⟨2, ![2048, 1024]⟩
abbrev S24x1024 : Shape := ⟨2, ![24, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x2048, .f32⟩
  | .hbm, ⟨1, _⟩ => ⟨S4x2048x6144, .f32⟩
  | .hbm, ⟨2, _⟩ => ⟨S4x6144, .f32⟩
  | .hbm, ⟨3, _⟩ => ⟨S4x1x6144, .f32⟩
  | .hbm, ⟨4, _⟩ => ⟨S4x24x6144, .f32⟩
  | .local _ .vmem, ⟨0, _⟩ => ⟨S24x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S24x2048 : Shape := ⟨2, ![24, 2048]⟩
abbrev S4x2048x6144 : Shape := ⟨3, ![4, 2048, 6144]⟩
abbrev S4x6144 : Shape := ⟨2, ![4, 6144]⟩
abbrev S_ : Shape := ⟨0, ![]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S4x2048x6144, .f32⟩
  | .hbm, ⟨2, _⟩ => ⟨S4x6144, .f32⟩
  | .hbm, ⟨3, _⟩ => ⟨S24x2048, .f32⟩
  | .hbm, ⟨4, _⟩ => ⟨S24x2048, .f32⟩
  | .hbm, ⟨5, _⟩ => ⟨S_, .f32⟩
  | .hbm, ⟨6, _⟩ => ⟨S24x2048, .f32⟩
  | .hbm, ⟨7, _⟩ => ⟨S24x2048, .f32⟩
  | .hbm, ⟨8, _⟩ => ⟨S_, .f32⟩
  | .hbm, ⟨9, _⟩ => ⟨S24x2048, .f32⟩
  | .hbm, ⟨10, _⟩ => ⟨S24x2048, .f32⟩
  | .hbm, ⟨11, _⟩ => ⟨S24x2048, .f32⟩
  | .hbm, ⟨12, _⟩ => ⟨S4x6144x24, .f32⟩
  | .hbm, ⟨13, _⟩ => ⟨S4x24x6144, .f32⟩
  | .hbm, ⟨14, _⟩ => ⟨S4x1x6144, .f32⟩
  | .hbm, ⟨15, _⟩ => ⟨S4x24x6144, .f32⟩
  | .hbm, ⟨16, _⟩ => ⟨S4x24x6144, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.NattnTables.lean ====
/- The two tables the attention call prefetches hold constants: its side conditions hold. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Eqn

open Cert.KernelIdeal Cert.KernelIdeal.Gen

variable {F : FTy → Type} [FloatOps F] [Named F]

variable (m : (ℓ : Loc nD τ sig) → Buf (Elt F) ℓ)

theorem ok : Ok m := trivial

/-- The first row of a block's keys, -/
theorem tbl0 : tbl m 0 = fun i => lit4 (S8.rowMajor i) := by
  have h : ∀ y : S8.Idx → BitVec 32, (∀ i, y i = lit4 (S8.rowMajor i)) → V m 0 main_c_3 = y := by
    intro y hy
    unfold V
    simp only [hostOps0, hostOps0_1, hostOps0_2, List.flatten_cons, List.flatten_nil, List.append_nil, List.cons_append, List.nil_append]
    after_results
    exact (funext hy).symm
  exact h _ fun _ => rfl

/-- and which of the bias arrays a block takes. -/
theorem tbl1 : tbl m 1 = fun i => lit5 (S8.rowMajor i) := by
  have h : ∀ y : S8.Idx → BitVec 32, (∀ i, y i = lit5 (S8.rowMajor i)) → V m 0 main_c_4 = y := by
    intro y hy
    unfold V
    simp only [hostOps0, hostOps0_1, hostOps0_2, List.flatten_cons, List.flatten_nil, List.append_nil, List.cons_append, List.nil_append]
    after_results
    exact (funext hy).symm
  exact h _ fun _ => rfl

/-- The first row of the keys of point `t`. -/
abbrev ks (t : Fin grid0.N) : BitVec 32 := lit4 ⟨t.val % 8, Nat.mod_lt _ (by norm_num)⟩
/-- The bias array of point `t`. -/
abbrev pat (t : Fin grid0.N) : BitVec 32 := lit5 ⟨t.val % 8, Nat.mod_lt _ (by norm_num)⟩

theorem off0_at : ∀ t : Fin grid0.N, (S8.rowMajor ((Rect.unit (s := S8) (k0_off1 (grid0.coords t)) S1.size (k0_off1_inb (grid0.coords t))).toLoadRect.idx (Shape.Idx.first (numel1_S1.symm ▸ Nat.one_pos)))).val = t.val % 8 := by
  decide +kernel
theorem off1_at : ∀ t : Fin grid0.N, (S8.rowMajor ((Rect.unit (s := S8) (k0_off2 (grid0.coords t)) S1.size (k0_off2_inb (grid0.coords t))).toLoadRect.idx (Shape.Idx.first (numel1_S1.symm ▸ Nat.one_pos)))).val = t.val % 8 := by
  decide +kernel

theorem word0 (t : Fin grid0.N) : tbM0_0.view.readAt (Elt F) (Rect.unit (s := S8) (k0_off1 (grid0.coords t)) S1.size (k0_off1_inb (grid0.coords t))).toLoadRect (tbl m 0) (Shape.Idx.first (numel1_S1.symm ▸ Nat.one_pos)) = ks t := by
  rw [tbl0, View.readAt_apply]
  exact congrArg lit4 (Fin.ext (off0_at t))
theorem word1 (t : Fin grid0.N) : tbM0_1.view.readAt (Elt F) (Rect.unit (s := S8) (k0_off2 (grid0.coords t)) S1.size (k0_off2_inb (grid0.coords t))).toLoadRect (tbl m 1) (Shape.Idx.first (numel1_S1.symm ▸ Nat.one_pos)) = pat t := by
  rw [tbl1, View.readAt_apply]
  exact congrArg lit5 (Fin.ext (off1_at t))

theorem chk0 : ∀ t : Fin grid0.N, k0_chk1 (ks t) := by decide +kernel
theorem chk1 : ∀ t : Fin grid0.N, k0_chk2 (pat t) := by decide +kernel

/-- The side conditions the body assumes of the words it reads. -/
theorem hyps : Hyps m (ok m) :=
  Hyps.of (fun _ t => by unfold Hyps.p0; exact (word0 m t).symm ▸ chk0 t) (fun _ t => by unfold Hyps.p1; exact (word1 m t).symm ▸ chk1 t)

end Cert.KernelIdeal.Eqn

end
-- ==== Proof.NattnMath.lean ====
/- A softmax over a window of keys and the context, read two ways: over the window's own keys, and over a larger
   window whose extra keys score `⊥`. -/
module

public import Idealize.ShloMosaic.PureOps.Ideal.Laws
public import Idealize.ShloMosaic.Lib.Pointwise

@[expose] public section

noncomputable section

open Idealize.ShloMosaic

namespace Cert.Spec

/-- The larger of the scores' maxima over the two families. -/
def top2 {n k : ℕ} (sb : Fin n → EReal) (sc : Fin k → EReal) : EReal :=
  max (Finset.univ.fold max ⊥ sb) (Finset.univ.fold max ⊥ sc)

/-- Attention over two families of keys, the sum of the weighted values divided once. -/
def attn {n k : ℕ} (sb : Fin n → EReal) (sc : Fin k → EReal) (vb : Fin n → EReal) (vc : Fin k → EReal) : EReal :=
  Ideal.div ((∑ i, Ideal.exp (sb i - top2 sb sc) * vb i) + ∑ l, Ideal.exp (sc l - top2 sb sc) * vc l)
    ((∑ i, Ideal.exp (sb i - top2 sb sc)) + ∑ l, Ideal.exp (sc l - top2 sb sc))

/-- The exponential is not negative. -/
theorem exp_nonneg (x : EReal) : 0 ≤ Ideal.exp x := by
  induction x with
  | bot => simp
  | top => simp
  | coe r => rw [Ideal.exp_coe]; exact_mod_cast (Real.exp_pos r).le

/-- A fold by `max` from `⊥` is the supremum. -/
theorem fold_max_le {n : ℕ} (f : Fin n → EReal) (a : EReal) : Finset.univ.fold max ⊥ f ≤ a ↔ ∀ i, f i ≤ a := by
  rw [Finset.fold_max_le]; simp

theorem le_fold_max {n : ℕ} (f : Fin n → EReal) (i : Fin n) : f i ≤ Finset.univ.fold max ⊥ f :=
  (fold_max_le f _).1 le_rfl i

/-- A maximum of finitely many numbers below `⊤` is below `⊤`. -/
theorem fold_max_ne_top {n : ℕ} (f : Fin n → EReal) (h : ∀ i, f i ≠ ⊤) : Finset.univ.fold max ⊥ f ≠ ⊤ := by
  have : Finset.univ.fold max ⊥ f < ⊤ := (Finset.fold_max_lt ⊤).2 ⟨bot_lt_top, fun i _ => lt_top_iff_ne_top.2 (h i)⟩
  exact this.ne

/-- Keys that score `⊥` outside the image of `e` change nothing. -/
theorem attn_embed {n n' k : ℕ} (e : Fin n → Fin n') (he : Function.Injective e)
    (sb : Fin n → EReal) (sb' : Fin n' → EReal) (sc : Fin k → EReal) (vb : Fin n → EReal) (vb' : Fin n' → EReal) (vc : Fin k → EReal)
    (hs : ∀ i, sb' (e i) = sb i) (hv : ∀ i, vb' (e i) = vb i) (ho : ∀ x, (∀ i, e i ≠ x) → sb' x = ⊥) :
    attn sb' sc vb' vc = attn sb sc vb vc := by
  have hm : top2 sb' sc = top2 sb sc := by
    unfold top2
    congr 1
    refine le_antisymm ((fold_max_le _ _).2 fun x => ?_) ((fold_max_le _ _).2 fun i => ?_)
    · by_cases hx : ∃ i, e i = x
      · obtain ⟨i, rfl⟩ := hx
        rw [hs]; exact le_fold_max sb i
      · rw [ho x fun i h => hx ⟨i, h⟩]; exact bot_le
    · rw [← hs]; exact le_fold_max sb' (e i)
  have key : ∀ w : Fin n' → EReal, ∑ x, Ideal.exp (sb' x - top2 sb sc) * w x = ∑ i, Ideal.exp (sb i - top2 sb sc) * w (e i) := by
    intro w
    rw [← Finset.sum_subset (Finset.subset_univ (Finset.univ.map ⟨e, he⟩)) (fun x _ hx => ?_), Finset.sum_map]
    · exact Finset.sum_congr rfl fun i _ => by simp only [Function.Embedding.coeFn_mk]; rw [hs]
    · rw [ho x fun i h => hx (by rw [← h]; simp), EReal.bot_sub, Ideal.exp_bot, zero_mul]
  have key1 := key fun _ => 1
  simp only [mul_one] at key1
  unfold attn
  rw [hm, key vb', key1]
  simp only [hv]

/-- With real context scores and no score `⊤`, dividing every weight first and dividing the sum once agree. -/
theorem attn_eq_div {n k : ℕ} (sb : Fin n → EReal) (sc : Fin (k + 1) → EReal) (vb : Fin n → EReal) (vc : Fin (k + 1) → EReal)
    (hb : ∀ i, sb i ≠ ⊤) (hc : ∀ l, sc l ≠ ⊤) (hc0 : sc 0 ≠ ⊥) :
    attn sb sc vb vc
      = (∑ i, vb i * Ideal.div (Ideal.exp (sb i - top2 sb sc)) ((∑ i, Ideal.exp (sb i - top2 sb sc)) + ∑ l, Ideal.exp (sc l - top2 sb sc)))
        + ∑ l, vc l * Ideal.div (Ideal.exp (sc l - top2 sb sc)) ((∑ i, Ideal.exp (sb i - top2 sb sc)) + ∑ l, Ideal.exp (sc l - top2 sb sc)) := by
  have hmt : top2 sb sc ≠ ⊤ := by
    unfold top2
    rcases max_choice (Finset.univ.fold max ⊥ sb) (Finset.univ.fold max ⊥ sc) with h | h <;> rw [h]
    · exact fold_max_ne_top _ hb
    · exact fold_max_ne_top _ hc
  have hmb : top2 sb sc ≠ ⊥ := by
    intro h
    have : sc 0 ≤ ⊥ := h ▸ (le_fold_max sc 0).trans (le_max_right _ _)
    exact hc0 (le_bot_iff.1 this)
  unfold attn
  generalize top2 sb sc = m at hmt hmb ⊢
  lift m to ℝ using ⟨hmt, hmb⟩
  have hr : ∀ x : EReal, x ≠ ⊤ → ∃ r : ℝ, 0 ≤ r ∧ Ideal.exp (x - (m : EReal)) = (r : EReal) := by
    intro x hx
    induction x with
    | bot => exact ⟨0, le_rfl, by simp⟩
    | top => exact absurd rfl hx
    | coe a => exact ⟨Real.exp (a - m), (Real.exp_pos _).le, by rw [← EReal.coe_sub, Ideal.exp_coe]⟩
  choose rb hrb0 hrb using fun i => hr (sb i) (hb i)
  choose rc hrc0 hrc using fun l => hr (sc l) (hc l)
  simp only [hrb, hrc]
  have hpos : 0 < rc 0 := by
    have h0 := hrc 0
    lift sc 0 to ℝ using ⟨hc 0, hc0⟩ with a
    rw [← EReal.coe_sub, Ideal.exp_coe] at h0
    have : Real.exp (a - m) = rc 0 := by exact_mod_cast h0
    rw [← this]; exact Real.exp_pos _
  have hden : (∑ i, ((rb i : ℝ) : EReal)) + ∑ l, ((rc l : ℝ) : EReal) = (((∑ i, rb i) + ∑ l, rc l : ℝ) : EReal) := by
    have h : ∀ {j : ℕ} (f : Fin j → ℝ), ∑ i, ((f i : ℝ) : EReal) = ((∑ i, f i : ℝ) : EReal) := by
      intro j f
      induction j with
      | zero => simp
      | succ j ih => rw [Fin.sum_univ_succ, Fin.sum_univ_succ, ih, EReal.coe_add]
    rw [h, h, EReal.coe_add]
  have hd : 0 < (∑ i, rb i) + ∑ l, rc l := by
    have h1 : 0 ≤ ∑ i, rb i := Finset.sum_nonneg fun i _ => hrb0 i
    have h2 : rc 0 ≤ ∑ l, rc l := Finset.single_le_sum (f := rc) (fun l _ => hrc0 l) (Finset.mem_univ 0)
    linarith
  rw [hden]
  generalize (∑ i, rb i) + ∑ l, rc l = d at hd ⊢
  have hd1 : (0 : EReal) ≤ ((1 / d : ℝ) : EReal) := by exact_mod_cast (by positivity : 0 ≤ 1 / d)
  have hs : ∀ {j : ℕ} (f : Fin j → EReal), (∑ i, f i) * ((1 / d : ℝ) : EReal) = ∑ i, f i * ((1 / d : ℝ) : EReal) := by
    intro j f
    induction j with
    | zero => simp
    | succ j ih => rw [Fin.sum_univ_succ, Fin.sum_univ_succ, EReal.right_distrib_of_nonneg_of_ne_top hd1 (EReal.coe_ne_top _), ih]
  simp only [Ideal.div_coe hd.ne']
  rw [EReal.right_distrib_of_nonneg_of_ne_top hd1 (EReal.coe_ne_top _), hs, hs]
  refine congrArg₂ (· + ·) (Finset.sum_congr rfl fun i _ => ?_) (Finset.sum_congr rfl fun l _ => ?_)
  · rw [mul_comm ((rb i : ℝ) : EReal), mul_assoc]
  · rw [mul_comm ((rc l : ℝ) : EReal), mul_assoc]

/-- A sum over 768 keys is one over 512 and one over 256. -/
theorem sum_768 (f : Fin 768 → EReal) :
    ∑ j, f j = (∑ i : Fin 512, f ⟨i.val, by omega⟩) + ∑ l : Fin 256, f ⟨512 + l.val, by omega⟩ :=
  Fin.sum_univ_add (a := 512) (b := 256) f

/-- A sum over 512 keys, by rows of 64. -/
theorem sum_512 (f : Fin 512 → EReal) :
    ∑ i : Fin 8, ∑ k : Fin 64, f ⟨i.val * 64 + k.val, by omega⟩ = ∑ j, f j := by
  rw [← Fintype.sum_prod_type']
  refine Fintype.sum_equiv (finProdFinEquiv (m := 8) (n := 64)) _ _ fun x => ?_
  refine congrArg f (Fin.ext ?_)
  show x.1.val * 64 + x.2.val = x.2.val + 64 * x.1.val
  omega

/-- The largest of 768 scores. -/
theorem top_768 (s : Fin 768 → EReal) :
    max ⊥ (Finset.univ.fold max ⊥ s)
      = top2 (fun i : Fin 512 => s ⟨i.val, by omega⟩) (fun l : Fin 256 => s ⟨512 + l.val, by omega⟩) := by
  unfold top2
  refine le_antisymm (max_le bot_le ((fold_max_le s _).2 fun j => ?_)) (max_le ?_ ?_)
  · rcases Nat.lt_or_ge j.val 512 with h | h
    · exact (le_fold_max (fun i : Fin 512 => s ⟨i.val, by omega⟩) ⟨j.val, h⟩).trans (le_max_left _ _)
    · have e : s j = (fun l : Fin 256 => s ⟨512 + l.val, by omega⟩) ⟨j.val - 512, by omega⟩ :=
        congrArg s (Fin.ext (show j.val = 512 + (j.val - 512) by omega))
      rw [e]
      exact (le_fold_max (fun l : Fin 256 => s ⟨512 + l.val, by omega⟩) _).trans (le_max_right _ _)
  · exact (fold_max_le _ _).2 fun i => (le_fold_max s _).trans (le_max_right _ _)
  · exact (fold_max_le _ _).2 fun i => (le_fold_max s _).trans (le_max_right _ _)

/-- Attention with every quotient taken before the sum over all 768 keys. -/
theorem attn_eq_all (s : Fin 768 → EReal) (vb : Fin 512 → EReal) (vc : Fin 256 → EReal)
    (hs : ∀ j, s j ≠ ⊤) (h0 : s ⟨512, by omega⟩ ≠ ⊥) :
    (∑ i : Fin 8, ∑ k : Fin 64, vb ⟨i.val * 64 + k.val, by omega⟩
          * Ideal.div (Ideal.exp (s ⟨i.val * 64 + k.val, by omega⟩ - max ⊥ (Finset.univ.fold max ⊥ s)))
              (∑ j, Ideal.exp (s j - max ⊥ (Finset.univ.fold max ⊥ s))))
        + ∑ l : Fin 256, vc l * Ideal.div (Ideal.exp (s ⟨512 + l.val, by omega⟩ - max ⊥ (Finset.univ.fold max ⊥ s)))
              (∑ j, Ideal.exp (s j - max ⊥ (Finset.univ.fold max ⊥ s)))
      = attn (fun i : Fin 512 => s ⟨i.val, by omega⟩) (fun l : Fin 256 => s ⟨512 + l.val, by omega⟩) vb vc := by
  rw [top_768, sum_768]
  refine Eq.trans ?_ (attn_eq_div (k := 255) (fun i : Fin 512 => s ⟨i.val, by omega⟩) (fun l : Fin 256 => s ⟨512 + l.val, by omega⟩)
    vb vc (fun i => hs _) (fun l => hs _) h0).symm
  exact congrArg₂ (· + ·) (sum_512 (fun x => vb x * Ideal.div (Ideal.exp (s ⟨x.val, by omega⟩ - _)) _)) rfl

end Cert.Spec

end
-- ==== Proof.NattnCore.lean ====
/- One head of the attention kernel, read at an index. -/
module

public import proofs.«01_k».proof.Proof.Gen.KernelIdeal.Frame
public import proofs.«01_k».proof.Proof.NattnMath
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.KernelIdeal.Eqn

open Cert.KernelIdeal Cert.KernelIdeal.Gen Cert.Spec

/-- The scores' scale. -/
def sc0 : EReal := (((Real.sqrt 128)⁻¹ : ℝ) : EReal)

/-- One head's attention, before the gate. -/
def core (q : Vec Ideal S1x256x128 .f32) (k v : Vec Ideal S1x704x128 .f32) (b : Vec Ideal S1x1x256x704 .f32) (ck cv : Vec Ideal S1x256x128 .f32) :
    FVec Ideal S256x128 .f32 :=
  k0_pay10 (k0_pay8 q) (k0_pay9 k) v b ck cv

/-- A head's tile: attention times its columns of the gate. -/
def head (g : Vec Ideal S1x256x512 .f32) (o : Fin 2 → ℕ) (ho : S256x512.Slices o S256x128) (a : FVec Ideal S256x128 .f32) : FVec Ideal S1x256x128 .bf16 :=
  shapeCast S1x256x128 (truncf .bf16 (mulf a (extractStridedSlice S256x128 o (k0_pay2 g) ho)) bitsLt_bf16_f32) shapeCasts_S256x128_S1x256x128

variable (g : Vec Ideal S1x256x512 .f32) (q : Vec Ideal S1x256x128 .f32) (k v : Vec Ideal S1x704x128 .f32) (b : Vec Ideal S1x1x256x704 .f32) (ck cv : Vec Ideal S1x256x128 .f32)

theorem head0 : k0_pay7 (k0_pay2 g) (k0_pay4 v) (k0_pay5 q k b) (k0_pay6 q ck) cv
    = head g ![0, 0] slices_S256x512_o0_0_S256x128 (core q k v b ck cv) := rfl

theorem head1 : k0_pay11 (k0_pay2 g) (k0_pay10 (k0_pay8 q) (k0_pay9 k) v b ck cv)
    = head g ![0, 128] slices_S256x512_o0_128_S256x128 (core q k v b ck cv) := rfl

theorem head2 : k0_pay18 (k0_pay2 g) (k0_pay13 v) (k0_pay14 q k b) (k0_pay15 q ck) (k0_pay16 cv) (k0_pay17 q k b)
    = head g ![0, 256] slices_S256x512_o0_256_S256x128 (core q k v b ck cv) := rfl

theorem head3 : k0_pay1 (k0_pay22 (k0_pay2 g) (k0_pay19 q) (k0_pay20 v) (k0_pay21 q k) b ck cv)
    = head g ![0, 384] slices_S256x512_o0_384_S256x128 (core q k v b ck cv) := rfl

theorem core_at (y : Fin 256) (d : Fin 128) :
    core q k v b ck cv (ix2 y d)
      = attn (fun x : Fin 704 => (∑ e : Fin 128, q (ix3 0 y e) * k (ix3 0 x e)) * sc0 + b (ix4 0 0 y x))
          (fun l : Fin 256 => (∑ e : Fin 128, q (ix3 0 y e) * ck (ix3 0 l e)) * sc0)
          (fun x => v (ix3 0 x d)) (fun l => cv (ix3 0 l d)) := by
  pointwise [core, k0_pay10, k0_pay8, k0_pay9]
  rfl

end Cert.KernelIdeal.Eqn

end
-- ==== Proof.NattnValue.lean ====
/- The attention kernel's blocks and result. -/
module

public import proofs.«01_k».proof.Proof.NattnTables
public import proofs.«01_k».proof.Proof.NattnCore
public import proofs.«01_k».proof.Proof.Gen.KernelIdeal.Frame
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Eqn

open Cert.KernelIdeal Cert.KernelIdeal.Gen Cert.Spec

variable (m : (ℓ : Loc nD τ sig) → Buf (Elt Ideal) ℓ)

theorem cidx : ∀ t : Fin grid0.N, cc0_transform_0 (grid0.coords t) = ![t.val / 8, t.val % 8, 3] ∧ cc0_transform_1 (grid0.coords t) = ![t.val / 8, 0, 1]
    ∧ cc0_transform_2 (grid0.coords t) = ![t.val / 8, 0, 2] ∧ cc0_transform_3 (grid0.coords t) = ![t.val / 8, 0, 1] ∧ cc0_transform_4 (grid0.coords t) = ![t.val / 8, 0, 2]
    ∧ cc0_transform_5 (grid0.coords t) = ![t.val / 8, t.val % 8, 9] ∧ cc0_transform_6 (grid0.coords t) = ![0, 0, 0, 0] ∧ cc0_transform_7 (grid0.coords t) = ![t.val / 8, t.val % 8, 0] ∧ t.val < 128 := by
  decide +kernel

/-- Every window's block index at grid point `t`. -/
theorem idx (t : Fin (cfgM m (ok m)).N) : ((cfgM m (ok m)).win 0).index t = ![t.val / 8, t.val % 8, 3] ∧ ((cfgM m (ok m)).win 1).index t = ![t.val / 8, 0, 1]
    ∧ ((cfgM m (ok m)).win 2).index t = ![t.val / 8, 0, 2] ∧ ((cfgM m (ok m)).win 3).index t = ![t.val / 8, 0, 1] ∧ ((cfgM m (ok m)).win 4).index t = ![t.val / 8, 0, 2]
    ∧ ((cfgM m (ok m)).win 5).index t = ![t.val / 8, t.val % 8, 9] ∧ ((cfgM m (ok m)).win 6).index t = ![0, 0, 0, 0] ∧ ((cfgM m (ok m)).win 7).index t = ![t.val / 8, t.val % 8, 0] ∧ t.val < 128 :=
  cidx t

theorem iblk0 (c : Dev nD) (t : Fin (cfgM m (ok m)).N) (y : Fin 256) (z : Fin 512) (b : Fin 16) (n : Fin 2048) (j : Fin 5632)
    (hb : (b : ℕ) = t.val / 8) (hn : (n : ℕ) = t.val % 8 * 256 + y) (hj : (j : ℕ) = 1536 + z) :
    (show FVec Ideal S1x256x512 .f32 from iblk m (ok m) c 0 t) (ix3 0 y z)
      = (show FVec Ideal S16x2048x5632 .f32 from m ((c.tc : Thread nD τ).loc main_arg0)) (ix3 b n j) := by
  blk_ext [iblk, V_main_arg0, idx m t]

theorem iblk1 (c : Dev nD) (t : Fin (cfgM m (ok m)).N) (n : Fin 2048) (z : Fin 512) (b : Fin 16) (j : Fin 5632)
    (hb : (b : ℕ) = t.val / 8) (hj : (j : ℕ) = 512 + z) :
    (show FVec Ideal S1x2048x512 .f32 from iblk m (ok m) c 1 t) (ix3 0 n z)
      = (show FVec Ideal S16x2048x5632 .f32 from m ((c.tc : Thread nD τ).loc main_arg0)) (ix3 b n j) := by
  blk_ext [iblk, V_main_arg0, idx m t]

theorem iblk2 (c : Dev nD) (t : Fin (cfgM m (ok m)).N) (n : Fin 2048) (z : Fin 512) (b : Fin 16) (j : Fin 5632)
    (hb : (b : ℕ) = t.val / 8) (hj : (j : ℕ) = 1024 + z) :
    (show FVec Ideal S1x2048x512 .f32 from iblk m (ok m) c 2 t) (ix3 0 n z)
      = (show FVec Ideal S16x2048x5632 .f32 from m ((c.tc : Thread nD τ).loc main_arg0)) (ix3 b n j) := by
  blk_ext [iblk, V_main_arg0, idx m t]

theorem iblk3 (c : Dev nD) (t : Fin (cfgM m (ok m)).N) (l : Fin 256) (z : Fin 512) (b : Fin 16) (j : Fin 5632)
    (hb : (b : ℕ) = t.val / 8) (hj : (j : ℕ) = 512 + z) :
    (show FVec Ideal S1x256x512 .f32 from iblk m (ok m) c 3 t) (ix3 0 l z)
      = (show FVec Ideal S16x256x5632 .f32 from m ((c.tc : Thread nD τ).loc main_arg1)) (ix3 b l j) := by
  blk_ext [iblk, V_main_arg1, idx m t]

theorem iblk4 (c : Dev nD) (t : Fin (cfgM m (ok m)).N) (l : Fin 256) (z : Fin 512) (b : Fin 16) (j : Fin 5632)
    (hb : (b : ℕ) = t.val / 8) (hj : (j : ℕ) = 1024 + z) :
    (show FVec Ideal S1x256x512 .f32 from iblk m (ok m) c 4 t) (ix3 0 l z)
      = (show FVec Ideal S16x256x5632 .f32 from m ((c.tc : Thread nD τ).loc main_arg1)) (ix3 b l j) := by
  blk_ext [iblk, V_main_arg1, idx m t]

theorem iblk5 (c : Dev nD) (t : Fin (cfgM m (ok m)).N) (y : Fin 256) (z : Fin 512) (b : Fin 16) (n : Fin 2048) (j : Fin 5632)
    (hb : (b : ℕ) = t.val / 8) (hn : (n : ℕ) = t.val % 8 * 256 + y) (hj : (j : ℕ) = 4608 + z) :
    (show FVec Ideal S1x256x512 .f32 from iblk m (ok m) c 5 t) (ix3 0 y z)
      = (show FVec Ideal S16x2048x5632 .f32 from m ((c.tc : Thread nD τ).loc main_arg0)) (ix3 b n j) := by
  blk_ext [iblk, V_main_arg0, idx m t]

theorem iblk6 (c : Dev nD) (t : Fin (cfgM m (ok m)).N) (p : Fin 3) (h : Fin 4) (y : Fin 256) (x : Fin 704) :
    (show FVec Ideal S3x4x256x704 .f32 from iblk m (ok m) c 6 t) (ix4 p h y x)
      = (show FVec Ideal S3x4x256x704 .f32 from V m c main_v26) (ix4 p h y x) := by
  blk_ext [iblk, idx m t]

end Cert.KernelIdeal.Eqn

end
-- ==== Proof.NattnGather.lean ====
/- The gathers of the attention call and of its reference, each read at an index. -/
module

public import proofs.«01_k».proof.Proof.Gen.KernelIdeal.Frame
public import proofs.«01_k».proof.Proof.Gen.ReferenceIdeal.Run
public import Idealize.ShloMosaic.Lib.ValueIdxCore
public import Idealize.ShloMosaic.Lib.Pointwise

@[expose] public section

set_option maxRecDepth 16384

noncomputable section

open Idealize.ShloMosaic Idealize.ShloMosaic.TcCoe

namespace Cert.Spec

variable {α : Type}

/-- An index word as a gather reads it: signed, clamped into `[0, n]`. -/
abbrev clampTo (n : ℕ) (b : BitVec 32) : ℕ := min b.toInt.toNat n

theorem gather_rows (x : Cert.ReferenceIdeal.S16x32x64x4x128.Idx → α) (idx : IVec Cert.ReferenceIdeal.S32x8x1 32)
    (b : Fin 16) (r : Fin 32) (i : Fin 8) (w : Fin 64) (h : Fin 4) (d : Fin 128) :
    Host.gather Cert.ReferenceIdeal.gather_S16x32x64x4x128_S32x8x1_S16x32x8x64x4x128_0345_1_n_n_1_2_161644128 x idx (ix6 b r i w h d)
      = x (ix5 b ⟨clampTo 31 (idx (ix3 r i 0)), by unfold clampTo; omega⟩ w h d) := by
  unfold Host.gather
  refine congrArg x (funext fun a => Fin.ext ?_)
  have hsi : ∀ k, Cert.ReferenceIdeal.gather_S16x32x64x4x128_S32x8x1_S16x32x8x64x4x128_0345_1_n_n_1_2_161644128.siIdx (ix6 b r i w h d) k = ix3 r i 0 := by
    intro k
    funext e
    refine Fin.ext ?_
    match e with
    | ⟨0, _⟩ => rfl
    | ⟨1, _⟩ => rfl
    | ⟨2, _⟩ => exact Nat.lt_one_iff.1 k.isLt
  match a with
  | ⟨0, _⟩ => exact Nat.zero_add _
  | ⟨1, _⟩ =>
    show clampTo 31 (idx (Cert.ReferenceIdeal.gather_S16x32x64x4x128_S32x8x1_S16x32x8x64x4x128_0345_1_n_n_1_2_161644128.siIdx (ix6 b r i w h d) _)) = _
    rw [hsi]; rfl
  | ⟨2, _⟩ => exact Nat.zero_add _
  | ⟨3, _⟩ => exact Nat.zero_add _
  | ⟨4, _⟩ => exact Nat.zero_add _

theorem gather_relRows (x : Cert.ReferenceIdeal.S4x15x31.Idx → α) (idx : IVec Cert.ReferenceIdeal.S32x8x1 32)
    (h : Fin 4) (r : Fin 32) (i : Fin 8) (y : Fin 31) :
    Host.gather Cert.ReferenceIdeal.gather_S4x15x31_S32x8x1_S4x32x8x31_03_1_n_n_1_2_4131 x idx (ix4 h r i y)
      = x (ix3 h ⟨clampTo 14 (idx (ix3 r i 0)), by unfold clampTo; omega⟩ y) := by
  unfold Host.gather
  refine congrArg x (funext fun a => Fin.ext ?_)
  have hsi : ∀ k, Cert.ReferenceIdeal.gather_S4x15x31_S32x8x1_S4x32x8x31_03_1_n_n_1_2_4131.siIdx (ix4 h r i y) k = ix3 r i 0 := by
    intro k
    funext e
    refine Fin.ext ?_
    match e with
    | ⟨0, _⟩ => rfl
    | ⟨1, _⟩ => rfl
    | ⟨2, _⟩ => exact Nat.lt_one_iff.1 k.isLt
  match a with
  | ⟨0, _⟩ => exact Nat.zero_add _
  | ⟨1, _⟩ =>
    show clampTo 14 (idx (Cert.ReferenceIdeal.gather_S4x15x31_S32x8x1_S4x32x8x31_03_1_n_n_1_2_4131.siIdx (ix4 h r i y) _)) = _
    rw [hsi]; rfl
  | ⟨2, _⟩ => exact Nat.zero_add _

theorem gather_relCols (x : Cert.ReferenceIdeal.S4x32x8x31.Idx → α) (idx : IVec Cert.ReferenceIdeal.S64x64x1 32)
    (h : Fin 4) (r : Fin 32) (i : Fin 8) (q k : Fin 64) :
    Host.gather Cert.ReferenceIdeal.gather_S4x32x8x31_S64x64x1_S4x32x8x64x64_012_3_n_n_3_2_43281 x idx (ix5 h r i q k)
      = x (ix4 h r i ⟨clampTo 30 (idx (ix3 q k 0)), by unfold clampTo; omega⟩) := by
  unfold Host.gather
  refine congrArg x (funext fun a => Fin.ext ?_)
  have hsi : ∀ e, Cert.ReferenceIdeal.gather_S4x32x8x31_S64x64x1_S4x32x8x64x64_012_3_n_n_3_2_43281.siIdx (ix5 h r i q k) e = ix3 q k 0 := by
    intro k
    funext e
    refine Fin.ext ?_
    match e with
    | ⟨0, _⟩ => rfl
    | ⟨1, _⟩ => rfl
    | ⟨2, _⟩ => exact Nat.lt_one_iff.1 k.isLt
  match a with
  | ⟨0, _⟩ => exact Nat.zero_add _
  | ⟨1, _⟩ => exact Nat.zero_add _
  | ⟨2, _⟩ => exact Nat.zero_add _
  | ⟨3, _⟩ =>
    show clampTo 30 (idx (Cert.ReferenceIdeal.gather_S4x32x8x31_S64x64x1_S4x32x8x64x64_012_3_n_n_3_2_43281.siIdx (ix5 h r i q k) _)) = _
    rw [hsi]; rfl

theorem gather_bias (x : Cert.KernelIdeal.S4x15x31.Idx → α) (idx : IVec Cert.KernelIdeal.S3x4x64x11x64x2 32)
    (h : Fin 4) (p : Fin 3) (a : Fin 4) (q : Fin 64) (w : Fin 11) (k : Fin 64) :
    Host.gather Cert.KernelIdeal.gather_S4x15x31_S3x4x64x11x64x2_S4x3x4x64x11x64_0_12_n_n_12_5_411 x idx (ix6 h p a q w k)
      = x (ix3 h ⟨clampTo 14 (idx (ix6 p a q w k 0)), by unfold clampTo; omega⟩ ⟨clampTo 30 (idx (ix6 p a q w k 1)), by unfold clampTo; omega⟩) := by
  unfold Host.gather
  refine congrArg x (funext fun b => Fin.ext ?_)
  have hsi : ∀ e, Cert.KernelIdeal.gather_S4x15x31_S3x4x64x11x64x2_S4x3x4x64x11x64_0_12_n_n_12_5_411.siIdx (ix6 h p a q w k) e = ix6 p a q w k e := by
    intro k
    funext e
    refine Fin.ext ?_
    match e with
    | ⟨0, _⟩ => rfl
    | ⟨1, _⟩ => rfl
    | ⟨2, _⟩ => rfl
    | ⟨3, _⟩ => rfl
    | ⟨4, _⟩ => rfl
    | ⟨5, _⟩ => rfl
  match b with
  | ⟨0, _⟩ => exact Nat.zero_add _
  | ⟨1, _⟩ =>
    show clampTo 14 (idx (Cert.KernelIdeal.gather_S4x15x31_S3x4x64x11x64x2_S4x3x4x64x11x64_0_12_n_n_12_5_411.siIdx (ix6 h p a q w k) _)) = _
    rw [hsi]; rfl
  | ⟨2, _⟩ =>
    show clampTo 30 (idx (Cert.KernelIdeal.gather_S4x15x31_S3x4x64x11x64x2_S4x3x4x64x11x64_0_12_n_n_12_5_411.siIdx (ix6 h p a q w k) _)) = _
    rw [hsi]; rfl

end Cert.Spec

end
-- ==== Proof.NattnRef.lean ====
/- The attention reference's result in named pieces. -/
module

public import proofs.«01_k».proof.Proof.Gen.ReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.ReferenceIdeal.Eqn

open Cert.ReferenceIdeal Cert.ReferenceIdeal.Gen

/-- The key row a query row's window takes at each of its eight places. -/
def rows : IVec S32x8 32 :=
  addi (broadcastInDim S32x8 ![0, 1] bcast_S32x1_S32x8_0_1 (broadcastInDim S32x1 ![0] bcast_S32_S32x1_0 (minsi (broadcastInDim S32 ![] bcast_S_S32 (id (constantI S_ 32 24#32))) (maxsi (broadcastInDim S32 ![] bcast_S_S32 (id (constantI S_ 32 0#32))) (subi (iotaInDim S32 32 0) (broadcastInDim S32 ![] bcast_S_S32 (constantI S_ 32 4#32))))))) (broadcastInDim S32x8 ![0, 1] bcast_S1x8_S32x8_0_1 (broadcastInDim S1x8 ![1] bcast_S8_S1x8_1 (iotaInDim S8 32 0)))
/-- The same as a gather's start indices. -/
def rowIdx : IVec S32x8x1 32 :=
  broadcastInDim S32x8x1 ![0, 1] bcast_S32x8_S32x8x1_0_1 (select (cmpi .slt rows (broadcastInDim S32x8 ![] bcast_S_S32x8 (constantI S_ 32 0#32))) (addi rows (broadcastInDim S32x8 ![] bcast_S_S32x8 (constantI S_ 32 32#32))) rows)
/-- The row offset into the bias table. -/
def relRows : IVec S32x8 32 :=
  subi (addi (subi rows (broadcastInDim S32x8 ![0, 1] bcast_S32x1_S32x8_0_1 (broadcastInDim S32x1 ![0] bcast_S32_S32x1_0 (iotaInDim S32 32 0)))) (broadcastInDim S32x8 ![] bcast_S_S32x8 (constantI S_ 32 8#32))) (broadcastInDim S32x8 ![] bcast_S_S32x8 (constantI S_ 32 1#32))
def relRowIdx : IVec S32x8x1 32 :=
  broadcastInDim S32x8x1 ![0, 1] bcast_S32x8_S32x8x1_0_1 (select (cmpi .slt relRows (broadcastInDim S32x8 ![] bcast_S_S32x8 (constantI S_ 32 0#32))) (addi relRows (broadcastInDim S32x8 ![] bcast_S_S32x8 (constantI S_ 32 15#32))) relRows)
/-- The columns. -/
def colsK : IVec S64x64 32 :=
  broadcastInDim S64x64 ![0, 1] bcast_S1x64_S64x64_0_1 (broadcastInDim S1x64 ![1] bcast_S64_S1x64_1 (iotaInDim S64 32 0))
/-- The column offset into the bias table. -/
def relCols : IVec S64x64 32 :=
  subi (addi (minsi (broadcastInDim S64x64 ![] bcast_S_S64x64 (id (constantI S_ 32 15#32))) (maxsi (broadcastInDim S64x64 ![] bcast_S_S64x64 (id (constantI S_ 32 4294967281#32))) (subi colsK (broadcastInDim S64x64 ![0, 1] bcast_S64x1_S64x64_0_1 (broadcastInDim S64x1 ![0] bcast_S64_S64x1_0 (iotaInDim S64 32 0)))))) (broadcastInDim S64x64 ![] bcast_S_S64x64 (constantI S_ 32 16#32))) (broadcastInDim S64x64 ![] bcast_S_S64x64 (constantI S_ 32 1#32))
def relColIdx : IVec S64x64x1 32 :=
  broadcastInDim S64x64x1 ![0, 1] bcast_S64x64_S64x64x1_0_1 (select (cmpi .slt relCols (broadcastInDim S64x64 ![] bcast_S_S64x64 (constantI S_ 32 0#32))) (addi relCols (broadcastInDim S64x64 ![] bcast_S_S64x64 (constantI S_ 32 31#32))) relCols)
/-- The first column of a query column's window. -/
def col0 : IVec S64x1 32 :=
  broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32)))))
/-- Which key columns lie in a query column's window. -/
def inWin : IVec S64x64 1 :=
  andi (cmpi .sge colsK (broadcastInDim S64x64 ![0, 1] bcast_S64x1_S64x64_0_1 col0)) (cmpi .slt colsK (broadcastInDim S64x64 ![0, 1] bcast_S64x1_S64x64_0_1 (addi col0 (broadcastInDim S64x1 ![] bcast_S_S64x1 (constantI S_ 32 16#32)))))

variable (zx : FVec Ideal S16x2048x5632 .f32) (zc : FVec Ideal S16x256x5632 .f32) (rpb : FVec Ideal S4x15x31 .f32)

/-- Queries, keys and values by row, column and head, and the context's keys and values by head. -/
def qs : FVec Ideal S16x32x64x4x128 .f32 :=
  shapeCast _ (extractStridedSlice S16x2048x512 ![0, 0, 1536] zx slices_S16x2048x5632_S16x2048x512_0_0_1536) shapeCasts_S16x2048x512_S16x32x64x4x128
def kAll : FVec Ideal S16x32x64x4x128 .f32 :=
  shapeCast _ (extractStridedSlice S16x2048x512 ![0, 0, 512] zx slices_S16x2048x5632_S16x2048x512_0_0_512) shapeCasts_S16x2048x512_S16x32x64x4x128
def vAll : FVec Ideal S16x32x64x4x128 .f32 :=
  shapeCast _ (extractStridedSlice S16x2048x512 ![0, 0, 1024] zx slices_S16x2048x5632_S16x2048x512_0_0_1024) shapeCasts_S16x2048x512_S16x32x64x4x128
def cks : FVec Ideal S16x256x4x128 .f32 :=
  shapeCast _ (extractStridedSlice S16x256x512 ![0, 0, 512] zc slices_S16x256x5632_S16x256x512_0_0_512) shapeCasts_S16x256x512_S16x256x4x128
def cvs : FVec Ideal S16x256x4x128 .f32 :=
  shapeCast _ (extractStridedSlice S16x256x512 ![0, 0, 1024] zc slices_S16x256x5632_S16x256x512_0_0_1024) shapeCasts_S16x256x512_S16x256x4x128
/-- A window's rows of them. -/
def band (k : FVec Ideal S16x32x64x4x128 .f32) : FVec Ideal S16x32x8x64x4x128 .f32 :=
  Host.gather gather_S16x32x64x4x128_S32x8x1_S16x32x8x64x4x128_0345_1_n_n_1_2_161644128 k rowIdx
/-- The bias table's entries at a window's keys, -/
def vals : FVec Ideal S4x32x8x64x64 .f32 :=
  Host.gather gather_S4x32x8x31_S64x64x1_S4x32x8x64x64_012_3_n_n_3_2_43281 (Host.gather gather_S4x15x31_S32x8x1_S4x32x8x31_03_1_n_n_1_2_4131 rpb relRowIdx) relColIdx
/-- and what each key's score is raised by. -/
def bias (vals : FVec Ideal S4x32x8x64x64 .f32) : FVec Ideal S4x32x64x8x64 .f32 :=
  select (broadcastInDim S4x32x64x8x64 ![0, 1, 2, 3, 4] bcast_S1x1x64x1x64_S4x32x64x8x64_0_1_2_3_4 (broadcastInDim S1x1x64x1x64 ![2, 4] bcast_S64x64_S1x1x64x1x64_2_4 inWin)) (transpose S4x32x64x8x64 [0, 1, 3, 2, 4] vals transposes_S4x32x8x64x64_S4x32x64x8x64_0_1_3_2_4) (broadcastInDim S4x32x64x8x64 ![] bcast_S_S4x32x64x8x64 (id (constant S_ .f32 0xFF800000#32)))
/-- The scores of the window's keys, -/
def sBand (q : FVec Ideal S16x32x64x4x128 .f32) (k : FVec Ideal S16x32x8x64x4x128 .f32) (b : FVec Ideal S4x32x64x8x64 .f32) : FVec Ideal S16x4x32x64x8x64 .f32 :=
  addf (mulf (Host.dotGeneral dot_S16x32x64x4x128_S16x32x8x64x4x128_S16x4x32x64x8x64_4_5_2_23_031_041 none q k) (broadcastInDim S16x4x32x64x8x64 ![] bcast_S_S16x4x32x64x8x64 (Host.rsqrt (constant S_ .f32 0x43000000#32)))) (broadcastInDim S16x4x32x64x8x64 ![0, 1, 2, 3, 4, 5] bcast_S1x4x32x64x8x64_S16x4x32x64x8x64_0_1_2_3_4_5 (broadcastInDim S1x4x32x64x8x64 ![1, 2, 3, 4, 5] bcast_S4x32x64x8x64_S1x4x32x64x8x64_1_2_3_4_5 b))
/-- of the context, -/
def sCtx (q : FVec Ideal S16x32x64x4x128 .f32) (k : FVec Ideal S16x256x4x128 .f32) : FVec Ideal S16x4x32x64x256 .f32 :=
  mulf (Host.dotGeneral dot_S16x32x64x4x128_S16x256x4x128_S16x4x32x64x256_4_3_12_1_03_02 none q k) (broadcastInDim S16x4x32x64x256 ![] bcast_S_S16x4x32x64x256 (Host.rsqrt (constant S_ .f32 0x43000000#32)))
/-- and both. -/
def sAll (s : FVec Ideal S16x4x32x64x8x64 .f32) (c : FVec Ideal S16x4x32x64x256 .f32) : FVec Ideal S16x4x32x64x768 .f32 :=
  concatenate S16x4x32x64x768 4 [⟨S16x4x32x64x512, shapeCast _ s shapeCasts_S16x4x32x64x8x64_S16x4x32x64x512⟩, ⟨S16x4x32x64x256, c⟩] concatenates_S16x4x32x64x512_S16x4x32x64x256_S16x4x32x64x768_d4
/-- The softmax of scores: the largest, the exponentials, the quotients. -/
def top (s : FVec Ideal S16x4x32x64x768 .f32) : FVec Ideal S16x4x32x64 .f32 :=
  maximumf (broadcastInDim S16x4x32x64 ![] bcast_S_S16x4x32x64 (constant S_ .f32 0xFF800000#32)) (Host.reduce FloatOps.maximumf s (constant S_ .f32 0xFF800000#32) reducesTo_S16x4x32x64x768_S16x4x32x64_d4 h_S_)
def exps (s : FVec Ideal S16x4x32x64x768 .f32) : FVec Ideal S16x4x32x64x768 .f32 :=
  Host.exp (subf s (broadcastInDim S16x4x32x64x768 ![0, 1, 2, 3, 4] bcast_S16x4x32x64x1_S16x4x32x64x768_0_1_2_3_4 (broadcastInDim S16x4x32x64x1 ![0, 1, 2, 3] bcast_S16x4x32x64_S16x4x32x64x1_0_1_2_3 (top s))))
def quots (e : FVec Ideal S16x4x32x64x768 .f32) : FVec Ideal S16x4x32x64x768 .f32 :=
  Host.divf e (broadcastInDim S16x4x32x64x768 ![0, 1, 2, 3, 4] bcast_S16x4x32x64x1_S16x4x32x64x768_0_1_2_3_4 (broadcastInDim S16x4x32x64x1 ![0, 1, 2, 3] bcast_S16x4x32x64_S16x4x32x64x1_0_1_2_3 (Host.reduceAdd e (constant S_ .f32 0x00000000#32) reducesTo_S16x4x32x64x768_S16x4x32x64_d4 h_S_)))
/-- The weighted values. -/
def mixed (v : FVec Ideal S16x32x8x64x4x128 .f32) (cv : FVec Ideal S16x256x4x128 .f32) (p : FVec Ideal S16x4x32x64x768 .f32) : FVec Ideal S16x2048x512 .f32 :=
  shapeCast _ (addf (transpose S16x32x64x4x128 [0, 1, 4, 2, 3] (Host.dotGeneral dot_S16x32x8x64x4x128_S16x4x32x64x8x64_S16x32x4x128x64_23_45_5_3_014_021 none v (shapeCast _ (extractStridedSlice S16x4x32x64x512 ![0, 0, 0, 0, 0] p slices_S16x4x32x64x768_S16x4x32x64x512_0_0_0_0_0) shapeCasts_S16x4x32x64x512_S16x4x32x64x8x64)) transposes_S16x32x4x128x64_S16x32x64x4x128_0_1_4_2_3) (transpose S16x32x64x4x128 [0, 3, 4, 1, 2] (Host.dotGeneral dot_S16x256x4x128_S16x4x32x64x256_S16x4x128x32x64_1_4_3_23_02_01 none cv (extractStridedSlice S16x4x32x64x256 ![0, 0, 0, 0, 512] p slices_S16x4x32x64x768_S16x4x32x64x256_0_0_0_0_512)) transposes_S16x4x128x32x64_S16x32x64x4x128_0_3_4_1_2)) shapeCasts_S16x32x64x4x128_S16x2048x512
/-- The gate. -/
def gates : FVec Ideal S16x2048x512 .f32 :=
  extractStridedSlice S16x2048x512 ![0, 0, 4608] zx slices_S16x2048x5632_S16x2048x512_0_0_4608
def silu (g : FVec Ideal S16x2048x512 .f32) : FVec Ideal S16x2048x512 .f32 :=
  mulf g (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf g))))

/-- All the scores. -/
def scores : FVec Ideal S16x4x32x64x768 .f32 :=
  sAll (sBand (qs zx) (band (kAll zx)) (bias (vals rpb))) (sCtx (qs zx) (cks zc))

/-- The result is its pieces put together. -/
theorem res_eq (m : (ℓ : Loc nD τ sig) → Buf (Elt Ideal) ℓ) (c : Dev nD) :
    Cert.ReferenceIdeal.Value.res_main_v120 m c
      = truncf .bf16 (mulf (mixed (band (vAll (m ((c.tc : Thread nD τ).loc main_arg0)))) (cvs (m ((c.tc : Thread nD τ).loc main_arg1)))
          (quots (exps (scores (m ((c.tc : Thread nD τ).loc main_arg0)) (m ((c.tc : Thread nD τ).loc main_arg1)) (m ((c.tc : Thread nD τ).loc main_arg2))))))
        (silu (gates (m ((c.tc : Thread nD τ).loc main_arg0))))) bitsLt_bf16_f32 := by
  rfl

end Cert.ReferenceIdeal.Eqn

end
-- ==== Proof.NattnIdx.lean ====
module

public import proofs.«01_k».proof.Proof.NattnRef
public import proofs.«01_k».proof.Proof.NattnGather
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.ReferenceIdeal.Eqn

open Cert.ReferenceIdeal Cert.ReferenceIdeal.Gen Cert.Spec

theorem rowIdx_at : ∀ (r : Fin 32) (i : Fin 8),
    clampTo 31 (rowIdx (ix3 r i 0)) = min (r.val - 4) 24 + i.val := by
  decide +kernel

theorem relRowIdx_at : ∀ (r : Fin 32) (i : Fin 8),
    clampTo 14 (relRowIdx (ix3 r i 0)) = min (r.val - 4) 24 + i.val + 7 - r.val := by
  decide +kernel

theorem relColIdx_at : ∀ (q k : Fin 64),
    clampTo 30 (relColIdx (ix3 q k 0)) = min (k.val + 15 - q.val) 30 := by
  decide +kernel

theorem inWin_at : ∀ (q k : Fin 64),
    inWin (ix2 q k) = (if min (q.val - 8) 48 ≤ k.val ∧ k.val < min (q.val - 8) 48 + 16 then 1#1 else 0#1) := by
  decide +kernel

end Cert.ReferenceIdeal.Eqn

end
-- ==== Proof.NattnRead.lean ====
/- The pieces of the attention reference, each read at an index. -/
module

public import proofs.«01_k».proof.Proof.NattnIdx
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.ReferenceIdeal.Eqn

open Cert.ReferenceIdeal Cert.ReferenceIdeal.Gen Cert.Spec

variable (zx : FVec Ideal S16x2048x5632 .f32) (zc : FVec Ideal S16x256x5632 .f32) (rpb : FVec Ideal S4x15x31 .f32)

/-- The scores' scale, one over the root of 128. -/
def scale : EReal := Ideal.rsqrt (Ideal.ofBits .f32 0x43000000#32)

theorem negInf : Ideal.ofBits .f32 0xFF800000#32 = ⊥ := by
  simp [Ideal.ofBits, Ideal.ieee]

theorem maximumf_apply' {s : Shape} (x y : FVec Ideal s .f32) (j : s.Idx) :
    maximumf x y j = (max (x j) (y j) : EReal) := rfl

theorem qs_at (b : Fin 16) (r : Fin 32) (q : Fin 64) (h : Fin 4) (d : Fin 128) :
    qs zx (ix5 b r q h d) = zx (ix3 b ⟨r.val * 64 + q.val, by omega⟩ ⟨1536 + (h.val * 128 + d.val), by omega⟩) := by
  pointwise [qs]

theorem kAll_at (b : Fin 16) (r : Fin 32) (q : Fin 64) (h : Fin 4) (d : Fin 128) :
    kAll zx (ix5 b r q h d) = zx (ix3 b ⟨r.val * 64 + q.val, by omega⟩ ⟨512 + (h.val * 128 + d.val), by omega⟩) := by
  pointwise [kAll]

theorem vAll_at (b : Fin 16) (r : Fin 32) (q : Fin 64) (h : Fin 4) (d : Fin 128) :
    vAll zx (ix5 b r q h d) = zx (ix3 b ⟨r.val * 64 + q.val, by omega⟩ ⟨1024 + (h.val * 128 + d.val), by omega⟩) := by
  pointwise [vAll]

theorem cks_at (b : Fin 16) (l : Fin 256) (h : Fin 4) (d : Fin 128) :
    cks zc (ix4 b l h d) = zc (ix3 b l ⟨512 + (h.val * 128 + d.val), by omega⟩) := by
  pointwise [cks]

theorem cvs_at (b : Fin 16) (l : Fin 256) (h : Fin 4) (d : Fin 128) :
    cvs zc (ix4 b l h d) = zc (ix3 b l ⟨1024 + (h.val * 128 + d.val), by omega⟩) := by
  pointwise [cvs]

theorem band_at (k : FVec Ideal S16x32x64x4x128 .f32) (b : Fin 16) (r : Fin 32) (i : Fin 8) (w : Fin 64) (h : Fin 4) (d : Fin 128) :
    band k (ix6 b r i w h d) = k (ix5 b ⟨min (r.val - 4) 24 + i.val, by omega⟩ w h d) := by
  unfold band
  rw [gather_rows]
  exact congrArg (fun e => k (ix5 b e w h d)) (Fin.ext (rowIdx_at r i))

theorem vals_at (h : Fin 4) (r : Fin 32) (i : Fin 8) (q k : Fin 64) :
    vals rpb (ix5 h r i q k) = rpb (ix3 h ⟨min (r.val - 4) 24 + i.val + 7 - r.val, by omega⟩ ⟨min (k.val + 15 - q.val) 30, by omega⟩) := by
  unfold vals
  rw [gather_relCols, gather_relRows]
  exact congrArg₂ (fun e f => rpb (ix3 h e f)) (Fin.ext (relRowIdx_at r i)) (Fin.ext (relColIdx_at q k))

theorem bias_at (v : FVec Ideal S4x32x8x64x64 .f32) (h : Fin 4) (r : Fin 32) (q : Fin 64) (i : Fin 8) (k : Fin 64) :
    bias v (ix5 h r q i k) = if inWin (ix2 q k) = 1#1 then v (ix5 h r i q k) else (⊥ : EReal) := by
  pointwise [bias]
  have e : (id (constant (F := Ideal) S_ FTy.f32 4286578688#32) ix0 : EReal) = ⊥ := negInf
  exact congrArg (fun z : EReal => Scalar.select (inWin (ix2 q k)) (v (ix5 h r i q k)) z) e

theorem sBand_at (Q : FVec Ideal S16x32x64x4x128 .f32) (K : FVec Ideal S16x32x8x64x4x128 .f32) (B : FVec Ideal S4x32x64x8x64 .f32)
    (b : Fin 16) (h : Fin 4) (r : Fin 32) (q : Fin 64) (i : Fin 8) (k : Fin 64) :
    sBand Q K B (ix6 b h r q i k) = (∑ d : Fin 128, Q (ix5 b r q h d) * K (ix6 b r i k h d)) * scale + B (ix5 h r q i k) := by
  pointwise [sBand]
  rfl

theorem sCtx_at (Q : FVec Ideal S16x32x64x4x128 .f32) (K : FVec Ideal S16x256x4x128 .f32)
    (b : Fin 16) (h : Fin 4) (r : Fin 32) (q : Fin 64) (l : Fin 256) :
    sCtx Q K (ix5 b h r q l) = (∑ d : Fin 128, Q (ix5 b r q h d) * K (ix4 b l h d)) * scale := by
  pointwise [sCtx]
  rfl

theorem sAll_at (s : FVec Ideal S16x4x32x64x8x64 .f32) (t : FVec Ideal S16x4x32x64x256 .f32)
    (b : Fin 16) (h : Fin 4) (r : Fin 32) (q : Fin 64) (j : Fin 768) :
    sAll s t (ix5 b h r q j) = if hj : j.val < 512 then s (ix6 b h r q ⟨j.val / 64, by omega⟩ ⟨j.val % 64, by omega⟩) else t (ix5 b h r q ⟨j.val - 512, by omega⟩) := by
  pointwise [sAll]

theorem reduce_at (s : FVec Ideal S16x4x32x64x768 .f32) (init : FVec Ideal S_ .f32)
    (h' : S16x4x32x64x768.ReducesTo [4] S16x4x32x64) (hu : 0 < S_.numel)
    (b : Fin 16) (h : Fin 4) (r : Fin 32) (q : Fin 64) :
    Host.reduce FloatOps.maximumf s init h' hu (ix4 b h r q)
      = (Finset.univ.fold max (init (Shape.Idx.first hu)) fun k : Fin 768 => s (ix5 b h r q k) : EReal) := by
  refine (Host.reduce_eq_fold_single _ s init h' (by decide) hu (ix4 b h r q)).trans ?_
  refine congrArg (fun f => Finset.fold max (init (Shape.Idx.first hu)) f (Finset.univ : Finset (Fin 768))) (funext fun k => ?_)
  refine congrArg s (funext fun e => Fin.ext ?_)
  match e with
  | ⟨0, _⟩ => rfl
  | ⟨1, _⟩ => rfl
  | ⟨2, _⟩ => rfl
  | ⟨3, _⟩ => rfl
  | ⟨4, _⟩ => rfl

theorem top_at (s : FVec Ideal S16x4x32x64x768 .f32)
    (b : Fin 16) (h : Fin 4) (r : Fin 32) (q : Fin 64) :
    top s (ix4 b h r q) = max (⊥ : EReal) (Finset.univ.fold max (⊥ : EReal) fun k : Fin 768 => s (ix5 b h r q k)) := by
  unfold top
  refine (maximumf_apply' _ _ _).trans ?_
  rw [reduce_at]
  exact congrArg₂ (fun x y : EReal => max x (Finset.univ.fold max y fun k : Fin 768 => s (ix5 b h r q k))) negInf negInf

theorem exps_at (s : FVec Ideal S16x4x32x64x768 .f32)
    (b : Fin 16) (h : Fin 4) (r : Fin 32) (q : Fin 64) (k : Fin 768) :
    exps s (ix5 b h r q k) = Ideal.exp (s (ix5 b h r q k) - top s (ix4 b h r q)) := by
  pointwise [exps]

theorem quots_at (s : FVec Ideal S16x4x32x64x768 .f32)
    (b : Fin 16) (h : Fin 4) (r : Fin 32) (q : Fin 64) (k : Fin 768) :
    quots s (ix5 b h r q k) = Ideal.div (s (ix5 b h r q k)) (∑ j : Fin 768, s (ix5 b h r q j)) := by
  pointwise [quots]

theorem mixed_at (V : FVec Ideal S16x32x8x64x4x128 .f32) (C : FVec Ideal S16x256x4x128 .f32) (p : FVec Ideal S16x4x32x64x768 .f32)
    (b : Fin 16) (n : Fin 2048) (j : Fin 512) :
    mixed V C p (ix3 b n j)
      = (∑ i : Fin 8, ∑ k : Fin 64, V (ix6 b ⟨n.val / 64, by omega⟩ i k ⟨j.val / 128, by omega⟩ ⟨j.val % 128, by omega⟩)
            * p (ix5 b ⟨j.val / 128, by omega⟩ ⟨n.val / 64, by omega⟩ ⟨n.val % 64, by omega⟩ ⟨i.val * 64 + k.val, by omega⟩))
        + ∑ l : Fin 256, C (ix4 b l ⟨j.val / 128, by omega⟩ ⟨j.val % 128, by omega⟩)
            * p (ix5 b ⟨j.val / 128, by omega⟩ ⟨n.val / 64, by omega⟩ ⟨n.val % 64, by omega⟩ ⟨512 + l.val, by omega⟩) := by
  pointwise [mixed]

theorem silu_at (g : FVec Ideal S16x2048x512 .f32) (b : Fin 16) (n : Fin 2048) (j : Fin 512) :
    silu g (ix3 b n j) = g (ix3 b n j) * Ideal.div 1 (1 + Ideal.exp (-(g (ix3 b n j)))) := by
  pointwise [silu]

theorem gates_at (b : Fin 16) (n : Fin 2048) (j : Fin 512) :
    gates zx (ix3 b n j) = zx (ix3 b n ⟨4608 + j.val, by omega⟩) := by
  pointwise [gates]

end Cert.ReferenceIdeal.Eqn

end
-- ==== Proof.NattnBias.lean ====
/- The attention kernel's bias table: what the operations before the region make of the position table. -/
module

public import proofs.«01_k».proof.Proof.Gen.KernelIdeal.Frame
public import proofs.«01_k».proof.Proof.NattnTables
public import proofs.«01_k».proof.Proof.NattnGather
public import proofs.«01_k».proof.Proof.NattnRead
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.KernelIdeal.Eqn

open Cert.KernelIdeal Cert.KernelIdeal.Gen Cert.Spec

/-- The row offsets by pattern, row of the block and row of the band, as start indices. -/
def rowB (t : IVec S3x4x11 32) : IVec S3x4x1x11x1 32 := broadcastInDim S3x4x1x11x1 ![0, 1, 3] bcast_S3x4x11_S3x4x1x11x1_0_1_3 t
def rowS (t : IVec S3x4x1x11x1 32) : IVec S3x4x1x11x1 32 :=
  select (cmpi .slt t (broadcastInDim S3x4x1x11x1 ![] bcast_S_S3x4x1x11x1 (constantI S_ 32 0#32))) (addi t (broadcastInDim S3x4x1x11x1 ![] bcast_S_S3x4x1x11x1 (constantI S_ 32 15#32))) t
/-- The column offsets likewise. -/
def colB (t : IVec S64x64 32) : IVec S1x1x64x1x64 32 := broadcastInDim S1x1x64x1x64 ![2, 4] bcast_S64x64_S1x1x64x1x64_2_4 t
def colS (t : IVec S1x1x64x1x64 32) : IVec S1x1x64x1x64 32 :=
  select (cmpi .slt t (broadcastInDim S1x1x64x1x64 ![] bcast_S_S1x1x64x1x64 (constantI S_ 32 0#32))) (addi t (broadcastInDim S1x1x64x1x64 ![] bcast_S_S1x1x64x1x64 (constantI S_ 32 31#32))) t
/-- The two together. -/
def starts (r : IVec S3x4x1x11x1 32) (c : IVec S1x1x64x1x64 32) : IVec S3x4x64x11x64x2 32 :=
  concatenate S3x4x64x11x64x2 5 [⟨S3x4x64x11x64x1, broadcastInDim S3x4x64x11x64x1 ![0, 1, 2, 3, 4] bcast_S3x4x64x11x64_S3x4x64x11x64x1_0_1_2_3_4 (broadcastInDim S3x4x64x11x64 ![0, 1, 2, 3, 4] bcast_S3x4x1x11x1_S3x4x64x11x64_0_1_2_3_4 r)⟩,
    ⟨S3x4x64x11x64x1, broadcastInDim S3x4x64x11x64x1 ![0, 1, 2, 3, 4] bcast_S3x4x64x11x64_S3x4x64x11x64x1_0_1_2_3_4 (broadcastInDim S3x4x64x11x64 ![0, 1, 2, 3, 4] bcast_S1x1x64x1x64_S3x4x64x11x64_0_1_2_3_4 c)⟩] concatenates_S3x4x64x11x64x1_S3x4x64x11x64x1_S3x4x64x11x64x2_d5
/-- The mask: the row lies in the query row's window, and the column in the query column's. -/
def mask (rm : IVec S3x4x11 1) (cm : IVec S64x64 1) : IVec S3x4x64x11x64 1 :=
  andi (broadcastInDim S3x4x64x11x64 ![0, 1, 2, 3, 4] bcast_S3x4x1x11x1_S3x4x64x11x64_0_1_2_3_4 (broadcastInDim S3x4x1x11x1 ![0, 1, 3] bcast_S3x4x11_S3x4x1x11x1_0_1_3 rm))
    (broadcastInDim S3x4x64x11x64 ![0, 1, 2, 3, 4] bcast_S1x1x64x1x64_S3x4x64x11x64_0_1_2_3_4 (broadcastInDim S1x1x64x1x64 ![2, 4] bcast_S64x64_S1x1x64x1x64_2_4 cm))
/-- The table of biases. -/
def table (v : FVec Ideal S4x3x4x64x11x64 .f32) (k : IVec S3x4x64x11x64 1) : FVec Ideal S3x4x256x704 .f32 :=
  shapeCast S3x4x256x704 (transpose S3x4x4x64x11x64 [1, 0, 2, 3, 4, 5]
    (select (broadcastInDim S4x3x4x64x11x64 ![0, 1, 2, 3, 4, 5] bcast_S1x3x4x64x11x64_S4x3x4x64x11x64_0_1_2_3_4_5 (broadcastInDim S1x3x4x64x11x64 ![1, 2, 3, 4, 5] bcast_S3x4x64x11x64_S1x3x4x64x11x64_1_2_3_4_5 k)) v
      (broadcastInDim S4x3x4x64x11x64 ![] bcast_S_S4x3x4x64x11x64 (id (constant S_ .f32 0xFF800000#32))))
    transposes_S4x3x4x64x11x64_S3x4x4x64x11x64_1_0_2_3_4_5) shapeCasts_S3x4x4x64x11x64_S3x4x256x704

variable (m : (ℓ : Loc nD τ sig) → Buf (Elt Ideal) ℓ)

theorem V_v26 (c : Dev nD) : ∀ (y0 : IVec S3x4x11 32) (y1 : IVec S64x64 32) (y2 : IVec S3x4x11 1) (y3 : IVec S64x64 1),
    (∀ i, y0 i = lit0 (S3x4x11.rowMajor i)) → (∀ i, y1 i = lit1 (S64x64.rowMajor i)) → (∀ i, y2 i = lit2 (S3x4x11.rowMajor i)) → (∀ i, y3 i = lit3 (S64x64.rowMajor i)) →
    (show FVec Ideal S3x4x256x704 .f32 from V m c main_v26)
      = table (Host.gather gather_S4x15x31_S3x4x64x11x64x2_S4x3x4x64x11x64_0_12_n_n_12_5_411 (show FVec Ideal S4x15x31 .f32 from m ((c.tc : Thread nD τ).loc main_arg2)) (starts (rowS (rowB y0)) (colS (colB y1)))) (mask y2 y3) := by
  intro y0 y1 y2 y3 h0 h1 h2 h3
  obtain rfl : y0 = fun i => lit0 (S3x4x11.rowMajor i) := funext h0
  obtain rfl : y1 = fun i => lit1 (S64x64.rowMajor i) := funext h1
  obtain rfl : y2 = fun i => lit2 (S3x4x11.rowMajor i) := funext h2
  obtain rfl : y3 = fun i => lit3 (S64x64.rowMajor i) := funext h3
  unfold V
  simp only [hostOps0, hostOps0_1, hostOps0_2, List.flatten_cons, List.flatten_nil, List.append_nil, List.cons_append, List.nil_append]
  after_results
  rfl

theorem table_at (v : FVec Ideal S4x3x4x64x11x64 .f32) (k : IVec S3x4x64x11x64 1) (p : Fin 3) (h : Fin 4) (y : Fin 256) (x : Fin 704) :
    table v k (ix4 p h y x)
      = if k (ix5 p ⟨y.val / 64, by omega⟩ ⟨y.val % 64, by omega⟩ ⟨x.val / 64, by omega⟩ ⟨x.val % 64, by omega⟩) = 1#1
        then v (ix6 h p ⟨y.val / 64, by omega⟩ ⟨y.val % 64, by omega⟩ ⟨x.val / 64, by omega⟩ ⟨x.val % 64, by omega⟩) else (⊥ : EReal) := by
  pointwise [table]
  have e : (id (constant (F := Ideal) S_ FTy.f32 4286578688#32) Idealize.ShloMosaic.ix0 : EReal) = ⊥ := Cert.ReferenceIdeal.Eqn.negInf
  exact congrArg (fun z : EReal => Scalar.select (k (ix5 p ⟨y.val / 64, by omega⟩ ⟨y.val % 64, by omega⟩ ⟨x.val / 64, by omega⟩ ⟨x.val % 64, by omega⟩)) (v (ix6 h p ⟨y.val / 64, by omega⟩ ⟨y.val % 64, by omega⟩ ⟨x.val / 64, by omega⟩ ⟨x.val % 64, by omega⟩)) z) e

theorem starts0 (r : IVec S3x4x1x11x1 32) (c : IVec S1x1x64x1x64 32) (p : Fin 3) (a : Fin 4) (q : Fin 64) (w : Fin 11) (k : Fin 64) :
    starts r c (ix6 p a q w k 0) = r (ix5 p a 0 w 0) := by
  pointwise [starts]
theorem starts1 (r : IVec S3x4x1x11x1 32) (c : IVec S1x1x64x1x64 32) (p : Fin 3) (a : Fin 4) (q : Fin 64) (w : Fin 11) (k : Fin 64) :
    starts r c (ix6 p a q w k 1) = c (ix5 0 0 q 0 k) := by
  pointwise [starts]
theorem mask_at (rm : IVec S3x4x11 1) (cm : IVec S64x64 1) (p : Fin 3) (a : Fin 4) (q : Fin 64) (w : Fin 11) (k : Fin 64) :
    mask rm cm (ix5 p a q w k) = IntOp.andi (rm (ix3 p a w)) (cm (ix2 q k)) := by
  pointwise [mask]

end Cert.KernelIdeal.Eqn

end
-- ==== Proof.NattnFacts.lean ====
/- The attention kernel's tables, entry by entry. -/
module

public import proofs.«01_k».proof.Proof.Gen.KernelIdeal.Frame
public import proofs.«01_k».proof.Proof.NattnTables
public import proofs.«01_k».proof.Proof.NattnGather
public import proofs.«01_k».proof.Proof.NattnBias
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.KernelIdeal.Eqn

open Cert.KernelIdeal Cert.KernelIdeal.Gen Cert.Spec

/-- The four tables as arrays. -/
def y0 : IVec S3x4x11 32 := fun i => lit0 (S3x4x11.rowMajor i)
def y1 : IVec S64x64 32 := fun i => lit1 (S64x64.rowMajor i)
def y2 : IVec S3x4x11 1 := fun i => lit2 (S3x4x11.rowMajor i)
def y3 : IVec S64x64 1 := fun i => lit3 (S64x64.rowMajor i)

/-- A block's first key row and its bias array, as numbers. -/
def ksN (u : Fin 8) : ℕ := (lit4 u).toNat
def patN (u : Fin 8) : Fin 3 := ⟨(lit5 u).toNat % 3, Nat.mod_lt _ (by norm_num)⟩

theorem y2_at : ∀ (u : Fin 8) (a : Fin 4) (w : Fin 11),
    y2 (ix3 (patN u) a w) = (if min (4 * u.val + a.val - 4) 24 ≤ ksN u + w.val ∧ ksN u + w.val < min (4 * u.val + a.val - 4) 24 + 8 then 1#1 else 0#1) := by
  decide +kernel
theorem row_at : ∀ (u : Fin 8) (a : Fin 4) (w : Fin 11),
    min (4 * u.val + a.val - 4) 24 ≤ ksN u + w.val ∧ ksN u + w.val < min (4 * u.val + a.val - 4) 24 + 8 →
      clampTo 14 (rowS (rowB y0) (ix5 (patN u) a 0 w 0)) = ksN u + w.val + 7 - (4 * u.val + a.val) := by
  decide +kernel
theorem ks_le : ∀ (u : Fin 8) (a : Fin 4), ksN u ≤ min (4 * u.val + a.val - 4) 24 ∧ min (4 * u.val + a.val - 4) 24 + 8 ≤ ksN u + 11 ∧ ksN u ≤ 21 := by
  decide +kernel
theorem y3_at : ∀ (q k : Fin 64),
    y3 (ix2 q k) = (if min (q.val - 8) 48 ≤ k.val ∧ k.val < min (q.val - 8) 48 + 16 then 1#1 else 0#1) := by
  decide +kernel
theorem col_at : ∀ (q k : Fin 64),
    clampTo 30 (colS (colB y1) (ix5 0 0 q 0 k)) = min (k.val + 15 - q.val) 30 := by
  decide +kernel

end Cert.KernelIdeal.Eqn

end
-- ==== Proof.NattnTile.lean ====
/- What a grid point of the attention kernel leaves in its tile. -/
module

public import proofs.«01_k».proof.Proof.NattnValue
public import proofs.«01_k».proof.Proof.NattnFacts
public import proofs.«01_k».proof.Proof.NattnCore
public import proofs.«01_k».proof.Proof.Gen.KernelIdeal.Frame
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Eqn

open Cert.KernelIdeal Cert.KernelIdeal.Gen Cert.Spec

variable (m : (ℓ : Loc nD τ sig) → Buf (Elt Ideal) ℓ)

/-- The kernel's result at a token and a head's column: attention over the 704 keys of the band and the 256 of the context, gated. -/
def outK (zx : FVec Ideal S16x2048x5632 .f32) (zc : FVec Ideal S16x256x5632 .f32) (T : FVec Ideal S3x4x256x704 .f32)
    (K : ℕ) (hK : K ≤ 21) (p : Fin 3) (b : Fin 16) (n : Fin 2048) (y : Fin 256) (h : Fin 4) (d : Fin 128) : EReal :=
  attn (fun x : Fin 704 => (∑ e : Fin 128, zx (ix3 b n ⟨1536 + (h.val * 128 + e.val), by omega⟩)
          * zx (ix3 b ⟨K * 64 + x.val, by omega⟩ ⟨512 + (h.val * 128 + e.val), by omega⟩)) * sc0 + T (ix4 p h y x))
      (fun l : Fin 256 => (∑ e : Fin 128, zx (ix3 b n ⟨1536 + (h.val * 128 + e.val), by omega⟩)
          * zc (ix3 b l ⟨512 + (h.val * 128 + e.val), by omega⟩)) * sc0)
      (fun x => zx (ix3 b ⟨K * 64 + x.val, by omega⟩ ⟨1024 + (h.val * 128 + d.val), by omega⟩))
      (fun l => zc (ix3 b l ⟨1024 + (h.val * 128 + d.val), by omega⟩))
    * (zx (ix3 b n ⟨4608 + (h.val * 128 + d.val), by omega⟩) * Ideal.div 1 (1 + Ideal.exp (-(zx (ix3 b n ⟨4608 + (h.val * 128 + d.val), by omega⟩)))))

theorem pay2_at (g : Vec Ideal S1x256x512 .f32) (y : Fin 256) (z : Fin 512) :
    k0_pay2 (F := Ideal) g (ix2 y z) = (g (ix3 0 y z) * Ideal.div 1 (1 + Ideal.exp (-(g (ix3 0 y z)))) : EReal) := by
  pointwise [k0_pay2]
  rfl

theorem head_at (g : Vec Ideal S1x256x512 .f32) (o : ℕ) (ho : S256x512.Slices ![0, o] S256x128) (a : FVec Ideal S256x128 .f32)
    (y : Fin 256) (d : Fin 128) (z : Fin 512) (hz : (z : ℕ) = o + d) :
    head g ![0, o] ho a (ix3 0 y d) = (a (ix2 y d) * k0_pay2 g (ix2 y z) : EReal) := by
  have h : head g ![0, o] ho a (ix3 0 y d) = (a (ix2 y d) * extractStridedSlice S256x128 ![0, o] (k0_pay2 g) ho (ix2 y d) : EReal) := by
    generalize he : extractStridedSlice S256x128 ![0, o] (k0_pay2 g) ho = e
    unfold head
    rw [he]
    pointwise
  rw [h]
  refine congrArg (fun w : EReal => a (ix2 y d) * w) (congrArg (k0_pay2 g) (funext fun e => Fin.ext ?_))
  match e with
  | ⟨0, _⟩ => exact Nat.zero_add _
  | ⟨1, _⟩ => exact hz.symm

theorem piece (g : Vec Ideal S1x256x512 .f32) (q : Vec Ideal S1x256x128 .f32) (k v : Vec Ideal S1x704x128 .f32) (bb : Vec Ideal S1x1x256x704 .f32) (ck cv : Vec Ideal S1x256x128 .f32)
    (zx : FVec Ideal S16x2048x5632 .f32) (zc : FVec Ideal S16x256x5632 .f32) (T : FVec Ideal S3x4x256x704 .f32)
    (K : ℕ) (hK : K ≤ 21) (p : Fin 3) (b : Fin 16) (n : Fin 2048) (y : Fin 256) (h : Fin 4) (d : Fin 128)
    (o : ℕ) (ho : S256x512.Slices ![0, o] S256x128) (hoh : o = h.val * 128)
    (hq : ∀ e : Fin 128, q (ix3 0 y e) = zx (ix3 b n ⟨1536 + (h.val * 128 + e.val), by omega⟩))
    (hk : ∀ (x : Fin 704) (e : Fin 128), k (ix3 0 x e) = zx (ix3 b ⟨K * 64 + x.val, by omega⟩ ⟨512 + (h.val * 128 + e.val), by omega⟩))
    (hv : ∀ x : Fin 704, v (ix3 0 x d) = zx (ix3 b ⟨K * 64 + x.val, by omega⟩ ⟨1024 + (h.val * 128 + d.val), by omega⟩))
    (hb : ∀ x : Fin 704, bb (ix4 0 0 y x) = T (ix4 p h y x))
    (hck : ∀ (l : Fin 256) (e : Fin 128), ck (ix3 0 l e) = zc (ix3 b l ⟨512 + (h.val * 128 + e.val), by omega⟩))
    (hcv : ∀ l : Fin 256, cv (ix3 0 l d) = zc (ix3 b l ⟨1024 + (h.val * 128 + d.val), by omega⟩))
    (hg : g (ix3 0 y ⟨h.val * 128 + d.val, by omega⟩) = zx (ix3 b n ⟨4608 + (h.val * 128 + d.val), by omega⟩)) :
    head g ![0, o] ho (core q k v bb ck cv) (ix3 0 y d) = outK zx zc T K hK p b n y h d := by
  rw [head_at g o ho _ y d ⟨h.val * 128 + d.val, by omega⟩ (congrArg (· + d.val) hoh.symm), core_at, pay2_at]
  simp only [hq, hk, hv, hb, hck, hcv, hg]
  rfl

theorem off3 : ∀ t : Fin grid0.N, k0_off3 (ks t) = ![0, ksN ⟨t.val % 8, Nat.mod_lt _ (by norm_num)⟩ * 64, 0] := by decide +kernel
theorem off5 : ∀ t : Fin grid0.N, k0_off5 (ks t) = ![0, ksN ⟨t.val % 8, Nat.mod_lt _ (by norm_num)⟩ * 64, 128] := by decide +kernel
theorem off7 : ∀ t : Fin grid0.N, k0_off7 (ks t) = ![0, ksN ⟨t.val % 8, Nat.mod_lt _ (by norm_num)⟩ * 64, 256] := by decide +kernel
theorem off9 : ∀ t : Fin grid0.N, k0_off9 (ks t) = ![0, ksN ⟨t.val % 8, Nat.mod_lt _ (by norm_num)⟩ * 64, 384] := by decide +kernel
theorem off4 : ∀ t : Fin grid0.N, k0_off4 (pat t) = ![(patN ⟨t.val % 8, Nat.mod_lt _ (by norm_num)⟩).val, 0, 0, 0] := by decide +kernel
theorem off6 : ∀ t : Fin grid0.N, k0_off6 (pat t) = ![(patN ⟨t.val % 8, Nat.mod_lt _ (by norm_num)⟩).val, 1, 0, 0] := by decide +kernel
theorem off8 : ∀ t : Fin grid0.N, k0_off8 (pat t) = ![(patN ⟨t.val % 8, Nat.mod_lt _ (by norm_num)⟩).val, 2, 0, 0] := by decide +kernel
theorem off10 : ∀ t : Fin grid0.N, k0_off10 (pat t) = ![(patN ⟨t.val % 8, Nat.mod_lt _ (by norm_num)⟩).val, 3, 0, 0] := by decide +kernel

/-- Coordinates of a read at offsets. -/
theorem at3 (o : Fin 3 → ℕ) (o1 o2 : ℕ) (ho : o = ![0, o1, o2]) {n1 n2 m1 m2 : ℕ} (i1 : Fin n1) (i2 : Fin n2) (x1 : Fin m1) (x2 : Fin m2)
    (h1 : (i1 : ℕ) = o1 + x1) (h2 : (i2 : ℕ) = o2 + x2) (a : Fin 3) :
    ((ix3 (0 : Fin 1) i1 i2) a : ℕ) = o a + ((ix3 (0 : Fin 1) x1 x2) a : ℕ) := by
  subst ho
  match a with
  | ⟨0, _⟩ => rfl
  | ⟨1, _⟩ => exact h1
  | ⟨2, _⟩ => exact h2
theorem at4 (o : Fin 4 → ℕ) (o0 o1 : ℕ) (ho : o = ![o0, o1, 0, 0]) {n0 n1 n2 n3 : ℕ} (i0 : Fin n0) (i1 : Fin n1) (i2 : Fin n2) (i3 : Fin n3)
    (h0 : (i0 : ℕ) = o0) (h1 : (i1 : ℕ) = o1) (a : Fin 4) :
    ((ix4 i0 i1 i2 i3) a : ℕ) = o a + ((ix4 (0 : Fin 1) (0 : Fin 1) i2 i3) a : ℕ) := by
  subst ho
  match a with
  | ⟨0, _⟩ => exact h0
  | ⟨1, _⟩ => exact h1
  | ⟨2, _⟩ => exact (Nat.zero_add _).symm
  | ⟨3, _⟩ => exact (Nat.zero_add _).symm

theorem tile (c : Dev nD) (t : Fin (cfgM m (ok m)).N) (y : Fin 256) (z : Fin 512) (b : Fin 16) (n : Fin 2048)
    (eb : (b : ℕ) = t.val / 8) (en : (n : ℕ) = t.val % 8 * 256 + y) :
    (show FVec Ideal S1x256x512 .bf16 from outsAt0 m (ok m) (hyps m) c t) (ix3 0 y z)
      = outK (m ((c.tc : Thread nD τ).loc main_arg0)) (m ((c.tc : Thread nD τ).loc main_arg1)) (V m c main_v26)
          (ksN ⟨t.val % 8, Nat.mod_lt _ (by norm_num)⟩) (ks_le _ 0).2.2 (patN ⟨t.val % 8, Nat.mod_lt _ (by norm_num)⟩) b n y
          ⟨z.val / 128, by omega⟩ ⟨z.val % 128, by omega⟩ := by
  have w3 : ∀ w, w = ks t → _ := fun w h => (congrArg k0_off3 h).trans (off3 t)
  have w5 : ∀ w, w = ks t → _ := fun w h => (congrArg k0_off5 h).trans (off5 t)
  have w7 : ∀ w, w = ks t → _ := fun w h => (congrArg k0_off7 h).trans (off7 t)
  have w9 : ∀ w, w = ks t → _ := fun w h => (congrArg k0_off9 h).trans (off9 t)
  have w4 : ∀ w, w = pat t → _ := fun w h => (congrArg k0_off4 h).trans (off4 t)
  have w6 : ∀ w, w = pat t → _ := fun w h => (congrArg k0_off6 h).trans (off6 t)
  have w8 : ∀ w, w = pat t → _ := fun w h => (congrArg k0_off8 h).trans (off8 t)
  have w10 : ∀ w, w = pat t → _ := fun w h => (congrArg k0_off10 h).trans (off10 t)
  unfold outsAt0
  frame_out
  canon_tiles x h
  · idx_vars x
    have hd : x2 = (⟨z.val % 128, by omega⟩ : Fin 128) := Fin.ext (show x2.val = z.val % 128 by omega)
    have hh : (3 : Fin 4) = ⟨z.val / 128, by omega⟩ := Fin.ext (show 3 = z.val / 128 by omega)
    obtain rfl : y = x1 := Fin.ext h1
    obtain rfl : x0 = 0 := Fin.ext h0.symm
    rw [← hh, ← hd]
    refine (congrFun (head3 _ _ _ _ _ _ _) _).trans ?_
    refine piece _ _ _ _ _ _ _ _ _ _ _ _ _ b n y 3 x2 384 _ rfl ?_ ?_ ?_ ?_ ?_ ?_ ?_
    · intro e
      exact (View.ld_unit_apply_of _ _ _ _ _ (ix3 0 y ⟨384 + e.val, by omega⟩) (at3 _ 0 384 rfl y ⟨384 + e.val, by omega⟩ y e (Nat.zero_add _).symm rfl)).trans ((congrFun (Memref.IsWhole.read_unread _ _) _).trans (iblk0 m c t y ⟨384 + e.val, by omega⟩ b n _ eb en rfl))
    · intro x e
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨384 + e.val, by omega⟩) (at3 _ _ 384 (w9 _ (word0 m t)) _ ⟨384 + e.val, by omega⟩ x e rfl rfl)).trans ((congrFun (Memref.IsWhole.read_unread _ _) _).trans (iblk1 m c t _ ⟨384 + e.val, by omega⟩ b _ eb rfl))
    · intro x
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨384 + x2.val, by omega⟩) (at3 _ _ 384 (w9 _ (word0 m t)) _ ⟨384 + x2.val, by omega⟩ x x2 rfl rfl)).trans ((congrFun (Memref.IsWhole.read_unread _ _) _).trans (iblk2 m c t _ ⟨384 + x2.val, by omega⟩ b _ eb rfl))
    · intro x
      exact (View.ld_unit_apply_of _ _ _ _ _ (ix4 (patN ⟨t.val % 8, Nat.mod_lt _ (by norm_num)⟩) 3 y x) (at4 _ _ 3 (w10 _ (word1 m t)) _ (3 : Fin 4) y x rfl rfl)).trans ((congrFun (Memref.IsWhole.read_unread _ _) _).trans (iblk6 m c t _ 3 y x))
    · intro l e
      exact (View.ld_unit_apply_of _ _ _ _ _ (ix3 0 l ⟨384 + e.val, by omega⟩) (at3 _ 0 384 rfl l ⟨384 + e.val, by omega⟩ l e (Nat.zero_add _).symm rfl)).trans ((congrFun (Memref.IsWhole.read_unread _ _) _).trans (iblk3 m c t l ⟨384 + e.val, by omega⟩ b _ eb rfl))
    · intro l
      exact (View.ld_unit_apply_of _ _ _ _ _ (ix3 0 l ⟨384 + x2.val, by omega⟩) (at3 _ 0 384 rfl l ⟨384 + x2.val, by omega⟩ l x2 (Nat.zero_add _).symm rfl)).trans ((congrFun (Memref.IsWhole.read_unread _ _) _).trans (iblk4 m c t l ⟨384 + x2.val, by omega⟩ b _ eb rfl))
    · exact (congrFun (Memref.IsWhole.read_unread _ _) _).trans (iblk5 m c t y ⟨384 + x2.val, by omega⟩ b n _ eb en rfl)
  · idx_vars x
    have hd : x2 = (⟨z.val % 128, by omega⟩ : Fin 128) := Fin.ext (show x2.val = z.val % 128 by omega)
    have hh : (2 : Fin 4) = ⟨z.val / 128, by omega⟩ := Fin.ext (show 2 = z.val / 128 by omega)
    obtain rfl : y = x1 := Fin.ext h1
    obtain rfl : x0 = 0 := Fin.ext h0.symm
    rw [← hh, ← hd]
    refine (congrFun (head2 _ _ _ _ _ _ _) _).trans ?_
    refine piece _ _ _ _ _ _ _ _ _ _ _ _ _ b n y 2 x2 256 _ rfl ?_ ?_ ?_ ?_ ?_ ?_ ?_
    · intro e
      exact (View.ld_unit_apply_of _ _ _ _ _ (ix3 0 y ⟨256 + e.val, by omega⟩) (at3 _ 0 256 rfl y ⟨256 + e.val, by omega⟩ y e (Nat.zero_add _).symm rfl)).trans ((congrFun (Memref.IsWhole.read_unread _ _) _).trans (iblk0 m c t y ⟨256 + e.val, by omega⟩ b n _ eb en rfl))
    · intro x e
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨256 + e.val, by omega⟩) (at3 _ _ 256 (w7 _ (word0 m t)) _ ⟨256 + e.val, by omega⟩ x e rfl rfl)).trans ((congrFun (Memref.IsWhole.read_unread _ _) _).trans (iblk1 m c t _ ⟨256 + e.val, by omega⟩ b _ eb rfl))
    · intro x
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨256 + x2.val, by omega⟩) (at3 _ _ 256 (w7 _ (word0 m t)) _ ⟨256 + x2.val, by omega⟩ x x2 rfl rfl)).trans ((congrFun (Memref.IsWhole.read_unread _ _) _).trans (iblk2 m c t _ ⟨256 + x2.val, by omega⟩ b _ eb rfl))
    · intro x
      exact (View.ld_unit_apply_of _ _ _ _ _ (ix4 (patN ⟨t.val % 8, Nat.mod_lt _ (by norm_num)⟩) 2 y x) (at4 _ _ 2 (w8 _ (word1 m t)) _ (2 : Fin 4) y x rfl rfl)).trans ((congrFun (Memref.IsWhole.read_unread _ _) _).trans (iblk6 m c t _ 2 y x))
    · intro l e
      exact (View.ld_unit_apply_of _ _ _ _ _ (ix3 0 l ⟨256 + e.val, by omega⟩) (at3 _ 0 256 rfl l ⟨256 + e.val, by omega⟩ l e (Nat.zero_add _).symm rfl)).trans ((congrFun (Memref.IsWhole.read_unread _ _) _).trans (iblk3 m c t l ⟨256 + e.val, by omega⟩ b _ eb rfl))
    · intro l
      exact (View.ld_unit_apply_of _ _ _ _ _ (ix3 0 l ⟨256 + x2.val, by omega⟩) (at3 _ 0 256 rfl l ⟨256 + x2.val, by omega⟩ l x2 (Nat.zero_add _).symm rfl)).trans ((congrFun (Memref.IsWhole.read_unread _ _) _).trans (iblk4 m c t l ⟨256 + x2.val, by omega⟩ b _ eb rfl))
    · exact (congrFun (Memref.IsWhole.read_unread _ _) _).trans (iblk5 m c t y ⟨256 + x2.val, by omega⟩ b n _ eb en rfl)
  · idx_vars x
    have hd : x2 = (⟨z.val % 128, by omega⟩ : Fin 128) := Fin.ext (show x2.val = z.val % 128 by omega)
    have hh : (1 : Fin 4) = ⟨z.val / 128, by omega⟩ := Fin.ext (show 1 = z.val / 128 by omega)
    obtain rfl : y = x1 := Fin.ext h1
    obtain rfl : x0 = 0 := Fin.ext h0.symm
    rw [← hh, ← hd]
    refine (congrFun (head1 _ _ _ _ _ _ _) _).trans ?_
    refine piece _ _ _ _ _ _ _ _ _ _ _ _ _ b n y 1 x2 128 _ rfl ?_ ?_ ?_ ?_ ?_ ?_ ?_
    · intro e
      exact (View.ld_unit_apply_of _ _ _ _ _ (ix3 0 y ⟨128 + e.val, by omega⟩) (at3 _ 0 128 rfl y ⟨128 + e.val, by omega⟩ y e (Nat.zero_add _).symm rfl)).trans ((congrFun (Memref.IsWhole.read_unread _ _) _).trans (iblk0 m c t y ⟨128 + e.val, by omega⟩ b n _ eb en rfl))
    · intro x e
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨128 + e.val, by omega⟩) (at3 _ _ 128 (w5 _ (word0 m t)) _ ⟨128 + e.val, by omega⟩ x e rfl rfl)).trans ((congrFun (Memref.IsWhole.read_unread _ _) _).trans (iblk1 m c t _ ⟨128 + e.val, by omega⟩ b _ eb rfl))
    · intro x
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨128 + x2.val, by omega⟩) (at3 _ _ 128 (w5 _ (word0 m t)) _ ⟨128 + x2.val, by omega⟩ x x2 rfl rfl)).trans ((congrFun (Memref.IsWhole.read_unread _ _) _).trans (iblk2 m c t _ ⟨128 + x2.val, by omega⟩ b _ eb rfl))
    · intro x
      exact (View.ld_unit_apply_of _ _ _ _ _ (ix4 (patN ⟨t.val % 8, Nat.mod_lt _ (by norm_num)⟩) 1 y x) (at4 _ _ 1 (w6 _ (word1 m t)) _ (1 : Fin 4) y x rfl rfl)).trans ((congrFun (Memref.IsWhole.read_unread _ _) _).trans (iblk6 m c t _ 1 y x))
    · intro l e
      exact (View.ld_unit_apply_of _ _ _ _ _ (ix3 0 l ⟨128 + e.val, by omega⟩) (at3 _ 0 128 rfl l ⟨128 + e.val, by omega⟩ l e (Nat.zero_add _).symm rfl)).trans ((congrFun (Memref.IsWhole.read_unread _ _) _).trans (iblk3 m c t l ⟨128 + e.val, by omega⟩ b _ eb rfl))
    · intro l
      exact (View.ld_unit_apply_of _ _ _ _ _ (ix3 0 l ⟨128 + x2.val, by omega⟩) (at3 _ 0 128 rfl l ⟨128 + x2.val, by omega⟩ l x2 (Nat.zero_add _).symm rfl)).trans ((congrFun (Memref.IsWhole.read_unread _ _) _).trans (iblk4 m c t l ⟨128 + x2.val, by omega⟩ b _ eb rfl))
    · exact (congrFun (Memref.IsWhole.read_unread _ _) _).trans (iblk5 m c t y ⟨128 + x2.val, by omega⟩ b n _ eb en rfl)
  · idx_vars x
    have hd : x2 = (⟨z.val % 128, by omega⟩ : Fin 128) := Fin.ext (show x2.val = z.val % 128 by omega)
    have hh : (0 : Fin 4) = ⟨z.val / 128, by omega⟩ := Fin.ext (show 0 = z.val / 128 by omega)
    obtain rfl : y = x1 := Fin.ext h1
    obtain rfl : x0 = 0 := Fin.ext h0.symm
    rw [← hh, ← hd]
    refine (congrFun (head0 _ _ _ _ _ _ _) _).trans ?_
    refine piece _ _ _ _ _ _ _ _ _ _ _ _ _ b n y 0 x2 0 _ rfl ?_ ?_ ?_ ?_ ?_ ?_ ?_
    · intro e
      exact (View.ld_unit_apply_of _ _ _ _ _ (ix3 0 y ⟨0 + e.val, by omega⟩) (at3 _ 0 0 rfl y ⟨0 + e.val, by omega⟩ y e (Nat.zero_add _).symm rfl)).trans ((congrFun (Memref.IsWhole.read_unread _ _) _).trans (iblk0 m c t y ⟨0 + e.val, by omega⟩ b n _ eb en rfl))
    · intro x e
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨0 + e.val, by omega⟩) (at3 _ _ 0 (w3 _ (word0 m t)) _ ⟨0 + e.val, by omega⟩ x e rfl rfl)).trans ((congrFun (Memref.IsWhole.read_unread _ _) _).trans (iblk1 m c t _ ⟨0 + e.val, by omega⟩ b _ eb rfl))
    · intro x
      exact (View.ld_unit_apply_of _ _ _ _ _ (ix3 0 ⟨ksN ⟨t.val % 8, Nat.mod_lt _ (by norm_num)⟩ * 64 + x.val, by have := (ks_le ⟨t.val % 8, Nat.mod_lt _ (by norm_num)⟩ 0).2.2; omega⟩ ⟨0 + x2.val, by omega⟩) (at3 _ _ 0 (w3 _ (word0 m t)) _ ⟨0 + x2.val, by omega⟩ x x2 rfl rfl)).trans ((congrFun (Memref.IsWhole.read_unread _ _) _).trans (iblk2 m c t _ ⟨0 + x2.val, by omega⟩ b _ eb rfl))
    · intro x
      exact (View.ld_unit_apply_of _ _ _ _ _ (ix4 (patN ⟨t.val % 8, Nat.mod_lt _ (by norm_num)⟩) 0 y x) (at4 _ _ 0 (w4 _ (word1 m t)) _ (0 : Fin 4) y x rfl rfl)).trans ((congrFun (Memref.IsWhole.read_unread _ _) _).trans (iblk6 m c t _ 0 y x))
    · intro l e
      exact (View.ld_unit_apply_of _ _ _ _ _ (ix3 0 l ⟨0 + e.val, by omega⟩) (at3 _ 0 0 rfl l ⟨0 + e.val, by omega⟩ l e (Nat.zero_add _).symm rfl)).trans ((congrFun (Memref.IsWhole.read_unread _ _) _).trans (iblk3 m c t l ⟨0 + e.val, by omega⟩ b _ eb rfl))
    · intro l
      exact (View.ld_unit_apply_of _ _ _ _ _ (ix3 0 l ⟨0 + x2.val, by omega⟩) (at3 _ 0 0 rfl l ⟨0 + x2.val, by omega⟩ l x2 (Nat.zero_add _).symm rfl)).trans ((congrFun (Memref.IsWhole.read_unread _ _) _).trans (iblk4 m c t l ⟨0 + x2.val, by omega⟩ b _ eb rfl))
    · exact (congrFun (Memref.IsWhole.read_unread _ _) _).trans (iblk5 m c t y ⟨0 + x2.val, by omega⟩ b n _ eb en rfl)

end Cert.KernelIdeal.Eqn

end
-- ==== Proof.NattnRefAt.lean ====
/- The attention reference's result at an index: attention over the 512 keys of the window's rows and the 256 of the context. -/
module

public import proofs.«01_k».proof.Proof.NattnRead
public import proofs.«01_k».proof.Proof.NattnMath
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.Spec

/-- A real number. -/
def Real' (x : EReal) : Prop := ∃ r : ℝ, x = r

theorem Real'.add {x y : EReal} : Real' x → Real' y → Real' (x + y) := by
  rintro ⟨a, rfl⟩ ⟨b, rfl⟩; exact ⟨a + b, (EReal.coe_add a b).symm⟩
theorem Real'.mul {x y : EReal} : Real' x → Real' y → Real' (x * y) := by
  rintro ⟨a, rfl⟩ ⟨b, rfl⟩; exact ⟨a * b, (EReal.coe_mul a b).symm⟩
theorem Real'.sum {ι : Type} (s : Finset ι) (f : ι → EReal) (h : ∀ i, Real' (f i)) : Real' (∑ i ∈ s, f i) :=
  Finset.sum_induction f Real' (fun _ _ => Real'.add) ⟨0, rfl⟩ fun i _ => h i
theorem Real'.ne_top {x : EReal} : Real' x → x ≠ ⊤ := by rintro ⟨a, rfl⟩; exact EReal.coe_ne_top a
theorem Real'.ne_bot {x : EReal} : Real' x → x ≠ ⊥ := by rintro ⟨a, rfl⟩; exact EReal.coe_ne_bot a

end Cert.Spec

namespace Cert.ReferenceIdeal.Eqn

open Cert.ReferenceIdeal Cert.ReferenceIdeal.Gen Cert.Spec

theorem scale_eq : scale = (((Real.sqrt 128)⁻¹ : ℝ) : EReal) := by
  have h : Ideal.ofBits .f32 0x43000000#32 = ((128 : ℝ) : EReal) := by
    simp [Ideal.ofBits, Ideal.ieee, -EReal.coe_mul]; norm_num
  unfold scale
  rw [h, Ideal.rsqrt_coe, if_neg (by norm_num), if_neg (by norm_num)]

variable (zx : FVec Ideal S16x2048x5632 .f32) (zc : FVec Ideal S16x256x5632 .f32) (rpb : FVec Ideal S4x15x31 .f32)

/-- What a key of the window's rows scores, -/
def scoreB (b : Fin 16) (n : Fin 2048) (h : Fin 4) (i : Fin 512) : EReal :=
  (∑ e : Fin 128, zx (ix3 b n ⟨1536 + (h.val * 128 + e.val), by omega⟩)
      * zx (ix3 b ⟨(min (n.val / 64 - 4) 24 + i.val / 64) * 64 + i.val % 64, by omega⟩ ⟨512 + (h.val * 128 + e.val), by omega⟩)) * scale
    + if inWin (ix2 ⟨n.val % 64, by omega⟩ ⟨i.val % 64, by omega⟩) = 1#1
      then rpb (ix3 h ⟨min (n.val / 64 - 4) 24 + i.val / 64 + 7 - n.val / 64, by omega⟩ ⟨min (i.val % 64 + 15 - n.val % 64) 30, by omega⟩) else ⊥
/-- and one of the context. -/
def scoreC (b : Fin 16) (n : Fin 2048) (h : Fin 4) (l : Fin 256) : EReal :=
  (∑ e : Fin 128, zx (ix3 b n ⟨1536 + (h.val * 128 + e.val), by omega⟩)
      * zc (ix3 b l ⟨512 + (h.val * 128 + e.val), by omega⟩)) * scale
/-- The window rows' values, -/
def valB (b : Fin 16) (n : Fin 2048) (h : Fin 4) (d : Fin 128) (i : Fin 512) : EReal :=
  zx (ix3 b ⟨(min (n.val / 64 - 4) 24 + i.val / 64) * 64 + i.val % 64, by omega⟩ ⟨1024 + (h.val * 128 + d.val), by omega⟩)
/-- and the context's. -/
def valC (b : Fin 16) (h : Fin 4) (d : Fin 128) (l : Fin 256) : EReal :=
  zc (ix3 b l ⟨1024 + (h.val * 128 + d.val), by omega⟩)

theorem scores_band (b : Fin 16) (n : Fin 2048) (h : Fin 4) (i : Fin 512) :
    scores zx zc rpb (ix5 b h ⟨n.val / 64, by omega⟩ ⟨n.val % 64, by omega⟩ ⟨i.val, by omega⟩) = scoreB zx rpb b n h i := by
  unfold scores scoreB
  rw [sAll_at, dif_pos (show i.val < 512 from i.isLt), sBand_at, bias_at, vals_at]
  refine congrArg₂ (fun x y : EReal => x * scale + y) (Finset.sum_congr rfl fun e _ => ?_) rfl
  rw [qs_at, band_at, kAll_at]
  refine congrArg₂ (fun x y : EReal => x * y) (congrArg (fun z => zx (ix3 b z ⟨1536 + (h.val * 128 + e.val), by omega⟩)) (Fin.ext ?_)) rfl
  show n.val / 64 * 64 + n.val % 64 = n.val
  omega

theorem scores_ctx (b : Fin 16) (n : Fin 2048) (h : Fin 4) (l : Fin 256) :
    scores zx zc rpb (ix5 b h ⟨n.val / 64, by omega⟩ ⟨n.val % 64, by omega⟩ ⟨512 + l.val, by omega⟩) = scoreC zx zc b n h l := by
  unfold scores scoreC
  rw [sAll_at, dif_neg (show ¬ 512 + l.val < 512 by omega), sCtx_at]
  refine congrArg (fun x : EReal => x * scale) (Finset.sum_congr rfl fun e _ => ?_)
  rw [qs_at, cks_at]
  refine congrArg₂ (fun x y : EReal => x * y) (congrArg (fun z => zx (ix3 b z ⟨1536 + (h.val * 128 + e.val), by omega⟩)) (Fin.ext ?_))
    (congrArg (fun z => zc (ix3 b z ⟨512 + (h.val * 128 + e.val), by omega⟩)) (Fin.ext ?_))
  · show n.val / 64 * 64 + n.val % 64 = n.val
    omega
  · show 512 + l.val - 512 = l.val
    omega

variable (hx : ∀ i, Real' (zx i)) (hc : ∀ i, Real' (zc i)) (hp : ∀ i, Real' (rpb i))

theorem scale_real : Real' scale := ⟨_, scale_eq⟩

include hx hp in
theorem scoreB_ne_top (b : Fin 16) (n : Fin 2048) (h : Fin 4) (i : Fin 512) : scoreB zx rpb b n h i ≠ ⊤ := by
  unfold scoreB
  refine EReal.add_ne_top (((Real'.sum _ _ fun e => (hx _).mul (hx _)).mul scale_real).ne_top) ?_
  split
  · exact (hp _).ne_top
  · exact bot_ne_top

include hx hc in
theorem scoreC_real (b : Fin 16) (n : Fin 2048) (h : Fin 4) (l : Fin 256) : Real' (scoreC zx zc b n h l) :=
  (Real'.sum _ _ fun e => (hx _).mul (hc _)).mul scale_real

include hx hc hp in
theorem mixed_eq (b : Fin 16) (n : Fin 2048) (j : Fin 512) :
    mixed (band (vAll zx)) (cvs zc) (quots (exps (scores zx zc rpb))) (ix3 b n j)
      = attn (scoreB zx rpb b n ⟨j.val / 128, by omega⟩) (scoreC zx zc b n ⟨j.val / 128, by omega⟩)
          (valB zx b n ⟨j.val / 128, by omega⟩ ⟨j.val % 128, by omega⟩) (valC zc b ⟨j.val / 128, by omega⟩ ⟨j.val % 128, by omega⟩) := by
  have hall := attn_eq_all (fun k : Fin 768 => scores zx zc rpb (ix5 b ⟨j.val / 128, by omega⟩ ⟨n.val / 64, by omega⟩ ⟨n.val % 64, by omega⟩ k))
    (valB zx b n ⟨j.val / 128, by omega⟩ ⟨j.val % 128, by omega⟩) (valC zc b ⟨j.val / 128, by omega⟩ ⟨j.val % 128, by omega⟩)
    (fun k => by
      rcases Nat.lt_or_ge k.val 512 with hk | hk
      · have e := scores_band zx zc rpb b n ⟨j.val / 128, by omega⟩ ⟨k.val, hk⟩
        exact fun h => scoreB_ne_top zx rpb hx hp b n _ _ (e.symm.trans h)
      · have e := scores_ctx zx zc rpb b n ⟨j.val / 128, by omega⟩ ⟨k.val - 512, by omega⟩
        have e' : k = ⟨512 + (k.val - 512), by omega⟩ := Fin.ext (by show k.val = 512 + (k.val - 512); omega)
        rw [e']
        exact fun h => (scoreC_real zx zc hx hc b n _ _).ne_top (e.symm.trans h))
    (fun h => (scoreC_real zx zc hx hc b n _ 0).ne_bot ((scores_ctx zx zc rpb b n ⟨j.val / 128, by omega⟩ 0).symm.trans h))
  have hb : (fun i : Fin 512 => scores zx zc rpb (ix5 b ⟨j.val / 128, by omega⟩ ⟨n.val / 64, by omega⟩ ⟨n.val % 64, by omega⟩ ⟨i.val, by omega⟩))
      = scoreB zx rpb b n ⟨j.val / 128, by omega⟩ := funext fun i => scores_band zx zc rpb b n _ i
  have hl : (fun l : Fin 256 => scores zx zc rpb (ix5 b ⟨j.val / 128, by omega⟩ ⟨n.val / 64, by omega⟩ ⟨n.val % 64, by omega⟩ ⟨512 + l.val, by omega⟩))
      = scoreC zx zc b n ⟨j.val / 128, by omega⟩ := funext fun l => scores_ctx zx zc rpb b n _ l
  rw [hb, hl] at hall
  rw [← hall, mixed_at]
  refine congrArg₂ (fun x y : EReal => x + y) (Finset.sum_congr rfl fun i _ => Finset.sum_congr rfl fun k _ => ?_) (Finset.sum_congr rfl fun l _ => ?_)
  · rw [band_at, vAll_at, quots_at, exps_at, top_at]
    refine congrArg₂ (fun x y : EReal => x * y) ?_ ?_
    · refine congrArg (fun z => zx (ix3 b z ⟨1024 + (j.val / 128 * 128 + j.val % 128), by omega⟩)) (Fin.ext ?_)
      show (min (n.val / 64 - 4) 24 + i.val) * 64 + k.val = (min (n.val / 64 - 4) 24 + (i.val * 64 + k.val) / 64) * 64 + (i.val * 64 + k.val) % 64
      omega
    · refine congrArg (Ideal.div _) (Finset.sum_congr rfl fun k' _ => ?_)
      rw [exps_at, top_at]
  · rw [cvs_at, quots_at, exps_at, top_at]
    refine congrArg₂ (fun x y : EReal => x * y) rfl (congrArg (Ideal.div _) (Finset.sum_congr rfl fun k' _ => ?_))
    rw [exps_at, top_at]

/-- The result at an index. -/
def out (b : Fin 16) (n : Fin 2048) (j : Fin 512) : EReal :=
  attn (scoreB zx rpb b n ⟨j.val / 128, by omega⟩) (scoreC zx zc b n ⟨j.val / 128, by omega⟩)
      (valB zx b n ⟨j.val / 128, by omega⟩ ⟨j.val % 128, by omega⟩) (valC zc b ⟨j.val / 128, by omega⟩ ⟨j.val % 128, by omega⟩)
    * (zx (ix3 b n ⟨4608 + j.val, by omega⟩) * Ideal.div 1 (1 + Ideal.exp (-(zx (ix3 b n ⟨4608 + j.val, by omega⟩)))))

include hx hc hp in
theorem out_eq (b : Fin 16) (n : Fin 2048) (j : Fin 512) :
    (truncf .bf16 (mulf (mixed (band (vAll zx)) (cvs zc) (quots (exps (scores zx zc rpb)))) (silu (gates zx))) bitsLt_bf16_f32) (ix3 b n j)
      = out zx zc rpb b n j := by
  refine (show _ = (mixed (band (vAll zx)) (cvs zc) (quots (exps (scores zx zc rpb))) (ix3 b n j) * silu (gates zx) (ix3 b n j) : EReal) from rfl).trans ?_
  rw [mixed_eq zx zc rpb hx hc hp, silu_at, gates_at]
  rfl

end Cert.ReferenceIdeal.Eqn

end
-- ==== Proof.NattnFinal.lean ====
/- The attention kernel's result is the reference's. -/
module

public import proofs.«01_k».proof.Proof.NattnTile
public import proofs.«01_k».proof.Proof.NattnRefAt
public import proofs.«01_k».proof.Proof.NattnFacts
public import proofs.«01_k».proof.Proof.NattnCore
public import proofs.«01_k».proof.Proof.Gen.KernelIdeal.Frame
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Eqn

open Cert.KernelIdeal Cert.KernelIdeal.Gen Cert.Spec

variable (m : (ℓ : Loc nD τ sig) → Buf (Elt Ideal) ℓ)

theorem table_gather (r : FVec Ideal S4x15x31 .f32) (s : IVec S3x4x64x11x64x2 32) (k : IVec S3x4x64x11x64 1) (p : Fin 3) (h : Fin 4) (y : Fin 256) (x : Fin 704) (i : Fin 15) (j : Fin 31)
    (hk : k (ix5 p ⟨y.val / 64, by omega⟩ ⟨y.val % 64, by omega⟩ ⟨x.val / 64, by omega⟩ ⟨x.val % 64, by omega⟩) = 1#1)
    (hi : clampTo 14 (s (ix6 p ⟨y.val / 64, by omega⟩ ⟨y.val % 64, by omega⟩ ⟨x.val / 64, by omega⟩ ⟨x.val % 64, by omega⟩ 0)) = i)
    (hj : clampTo 30 (s (ix6 p ⟨y.val / 64, by omega⟩ ⟨y.val % 64, by omega⟩ ⟨x.val / 64, by omega⟩ ⟨x.val % 64, by omega⟩ 1)) = j) :
    table (Host.gather gather_S4x15x31_S3x4x64x11x64x2_S4x3x4x64x11x64_0_12_n_n_12_5_411 r s) k (ix4 p h y x) = r (ix3 h i j) := by
  rw [table_at, if_pos hk]
  refine (gather_bias _ _ _ _ _ _ _ _).trans (congrArg r ?_)
  exact congrArg₂ (fun a b => ix3 h a b) (Fin.ext hi) (Fin.ext hj)

theorem bias_in (c : Dev nD) (u : Fin 8) (h : Fin 4) (y : Fin 256) (x : Fin 704) (i : Fin 15) (j : Fin 31)
    (hr : min (4 * u.val + y.val / 64 - 4) 24 ≤ ksN u + x.val / 64 ∧ ksN u + x.val / 64 < min (4 * u.val + y.val / 64 - 4) 24 + 8)
    (hw : min (y.val % 64 - 8) 48 ≤ x.val % 64 ∧ x.val % 64 < min (y.val % 64 - 8) 48 + 16)
    (hi : (i : ℕ) = ksN u + x.val / 64 + 7 - (4 * u.val + y.val / 64)) (hj : (j : ℕ) = min (x.val % 64 + 15 - y.val % 64) 30) :
    (show FVec Ideal S3x4x256x704 .f32 from V m c main_v26) (ix4 (patN u) h y x)
      = (show FVec Ideal S4x15x31 .f32 from m ((c.tc : Thread nD τ).loc main_arg2)) (ix3 h i j) := by
  have h2 : y2 (ix3 (patN u) ⟨y.val / 64, by omega⟩ ⟨x.val / 64, by omega⟩) = 1#1 := (y2_at u ⟨y.val / 64, by omega⟩ ⟨x.val / 64, by omega⟩).trans (if_pos hr)
  have h3 : y3 (ix2 ⟨y.val % 64, by omega⟩ ⟨x.val % 64, by omega⟩) = 1#1 := (y3_at ⟨y.val % 64, by omega⟩ ⟨x.val % 64, by omega⟩).trans (if_pos hw)
  have hR := row_at u ⟨y.val / 64, by omega⟩ ⟨x.val / 64, by omega⟩ hr
  have hC := col_at ⟨y.val % 64, by omega⟩ ⟨x.val % 64, by omega⟩
  rw [V_v26 m c y0 y1 y2 y3 (fun _ => rfl) (fun _ => rfl) (fun _ => rfl) (fun _ => rfl)]
  refine table_gather _ _ _ (patN u) h y x i j ?_ ((congrArg (clampTo 14) (starts0 _ _ _ _ _ _ _)).trans (hR.trans hi.symm)) ((congrArg (clampTo 30) (starts1 _ _ _ _ _ _ _)).trans (hC.trans hj.symm))
  rw [mask_at, h2, h3]
  decide

theorem bias_out (c : Dev nD) (u : Fin 8) (h : Fin 4) (y : Fin 256) (x : Fin 704)
    (hr : ¬ ((min (4 * u.val + y.val / 64 - 4) 24 ≤ ksN u + x.val / 64 ∧ ksN u + x.val / 64 < min (4 * u.val + y.val / 64 - 4) 24 + 8)
      ∧ (min (y.val % 64 - 8) 48 ≤ x.val % 64 ∧ x.val % 64 < min (y.val % 64 - 8) 48 + 16))) :
    (show FVec Ideal S3x4x256x704 .f32 from V m c main_v26) (ix4 (patN u) h y x) = (⊥ : EReal) := by
  rw [V_v26 m c y0 y1 y2 y3 (fun _ => rfl) (fun _ => rfl) (fun _ => rfl) (fun _ => rfl), table_at, mask_at]
  refine if_neg ?_
  rw [y2_at u ⟨y.val / 64, by omega⟩ ⟨x.val / 64, by omega⟩, y3_at ⟨y.val % 64, by omega⟩ ⟨x.val % 64, by omega⟩]
  by_cases h1 : (min (4 * u.val + y.val / 64 - 4) 24 ≤ ksN u + x.val / 64 ∧ ksN u + x.val / 64 < min (4 * u.val + y.val / 64 - 4) 24 + 8)
  · by_cases h2 : (min (y.val % 64 - 8) 48 ≤ x.val % 64 ∧ x.val % 64 < min (y.val % 64 - 8) 48 + 16)
    · exact absurd ⟨h1, h2⟩ hr
    · rw [if_pos h1, if_neg h2]; decide
  · rw [if_neg h1]
    by_cases h2 : (min (y.val % 64 - 8) 48 ≤ x.val % 64 ∧ x.val % 64 < min (y.val % 64 - 8) 48 + 16)
    · rw [if_pos h2]; decide
    · rw [if_neg h2]; decide

open Cert.ReferenceIdeal.Eqn in
/-- The window's 512 keys lie among the band's 704, the others weigh nothing. -/
theorem outK_eq (c : Dev nD) (u : Fin 8) (hK : ksN u ≤ 21) (b : Fin 16) (n : Fin 2048) (y : Fin 256) (j : Fin 512)
    (hn : (n : ℕ) = u.val * 256 + y.val)
    (zx : FVec Ideal S16x2048x5632 .f32) (zc : FVec Ideal S16x256x5632 .f32) :
    outK zx zc (V m c main_v26) (ksN u) hK (patN u) b n y ⟨j.val / 128, by omega⟩ ⟨j.val % 128, by omega⟩
      = Cert.ReferenceIdeal.Eqn.out zx zc (m ((c.tc : Thread nD τ).loc main_arg2)) b n j := by
  have hq : n.val / 64 = 4 * u.val + y.val / 64 := by omega
  have hm : n.val % 64 = y.val % 64 := by omega
  obtain ⟨k1, k2, -⟩ := ks_le u ⟨y.val / 64, by omega⟩
  replace k1 : ksN u ≤ min (4 * u.val + y.val / 64 - 4) 24 := k1
  replace k2 : min (4 * u.val + y.val / 64 - 4) 24 + 8 ≤ ksN u + 11 := k2
  have eg : (⟨4608 + (j.val / 128 * 128 + j.val % 128), by omega⟩ : Fin 5632) = ⟨4608 + j.val, by omega⟩ := Fin.ext (show 4608 + (j.val / 128 * 128 + j.val % 128) = 4608 + j.val by omega)
  unfold outK Cert.ReferenceIdeal.Eqn.out
  refine congrArg₂ (fun a b : EReal => a * b) ?_ ?_
  · let e : Fin 512 → Fin 704 := fun i => ⟨(min (n.val / 64 - 4) 24 - ksN u + i.val / 64) * 64 + i.val % 64, by omega⟩
    have he : Function.Injective e := fun i i' h => by
      have := Fin.mk.inj h
      exact Fin.ext (by omega)
    have hrow : ∀ i : Fin 512, ksN u * 64 + (e i).val = (min (n.val / 64 - 4) 24 + i.val / 64) * 64 + i.val % 64 := fun i => by
      show ksN u * 64 + ((min (n.val / 64 - 4) 24 - ksN u + i.val / 64) * 64 + i.val % 64) = _
      omega
    have e1 : ∀ i : Fin 512, (e i).val / 64 = min (n.val / 64 - 4) 24 - ksN u + i.val / 64 := fun i => by
      show ((min (n.val / 64 - 4) 24 - ksN u + i.val / 64) * 64 + i.val % 64) / 64 = _
      omega
    have e2 : ∀ i : Fin 512, (e i).val % 64 = i.val % 64 := fun i => by
      show ((min (n.val / 64 - 4) 24 - ksN u + i.val / 64) * 64 + i.val % 64) % 64 = _
      omega
    have hsc : sc0 = scale := scale_eq.symm
    refine Eq.trans ?_ (attn_embed e he _ (fun x : Fin 704 => (∑ d : Fin 128, zx (ix3 b n ⟨1536 + (j.val / 128 * 128 + d.val), by omega⟩)
          * zx (ix3 b ⟨ksN u * 64 + x.val, by omega⟩ ⟨512 + (j.val / 128 * 128 + d.val), by omega⟩)) * sc0
            + (show FVec Ideal S3x4x256x704 .f32 from V m c main_v26) (ix4 (patN u) ⟨j.val / 128, by omega⟩ y x)) _ _
          (fun x => zx (ix3 b ⟨ksN u * 64 + x.val, by omega⟩ ⟨1024 + (j.val / 128 * 128 + j.val % 128), by omega⟩)) _ (fun i => ?_) (fun i => ?_) (fun x hx => ?_))
    · rw [hsc]
      rfl
    · show (∑ d : Fin 128, zx (ix3 b n ⟨1536 + (j.val / 128 * 128 + d.val), by omega⟩)
          * zx (ix3 b ⟨ksN u * 64 + (e i).val, by omega⟩ ⟨512 + (j.val / 128 * 128 + d.val), by omega⟩)) * sc0 + _ = scoreB _ _ _ _ _ _
      unfold scoreB
      refine congrArg₂ (fun a b : EReal => a + b) ?_ ?_
      · rw [hsc]
        refine congrArg (fun a : EReal => a * scale) (Finset.sum_congr rfl fun d _ => ?_)
        exact congrArg (fun r : Fin 2048 => (zx (ix3 b n ⟨1536 + (j.val / 128 * 128 + d.val), by omega⟩) * zx (ix3 b r ⟨512 + (j.val / 128 * 128 + d.val), by omega⟩) : EReal)) (Fin.ext (hrow i))
      · have hi := inWin_at ⟨n.val % 64, by omega⟩ ⟨i.val % 64, by omega⟩
        by_cases hw : min (n.val % 64 - 8) 48 ≤ i.val % 64 ∧ i.val % 64 < min (n.val % 64 - 8) 48 + 16
        · rw [if_pos (hi.trans (if_pos hw))]
          refine bias_in m c u _ y (e i) _ _ ?_ ?_ ?_ ?_
          · rw [e1]; omega
          · rw [e2, ← hm]; exact hw
          · show min (n.val / 64 - 4) 24 + i.val / 64 + 7 - n.val / 64 = _
            rw [e1]; omega
          · show min (i.val % 64 + 15 - n.val % 64) 30 = _
            rw [e2, hm]
        · rw [if_neg (fun hc => by rw [hi, if_neg hw] at hc; exact absurd hc (by decide))]
          refine bias_out m c u _ y (e i) fun hh => hw ?_
          have := hh.2
          rw [e2, ← hm] at this
          exact this
    · exact congrArg (fun r : Fin 2048 => zx (ix3 b r ⟨1024 + (j.val / 128 * 128 + j.val % 128), by omega⟩)) (Fin.ext (hrow i))
    · show _ + _ = (⊥ : EReal)
      rw [bias_out m c u _ y x fun hh => ?_]
      · exact EReal.add_bot _
      · refine hx ⟨(x.val / 64 + ksN u - min (n.val / 64 - 4) 24) * 64 + x.val % 64, ?_⟩ (Fin.ext ?_)
        · omega
        · show (min (n.val / 64 - 4) 24 - ksN u + ((x.val / 64 + ksN u - min (n.val / 64 - 4) 24) * 64 + x.val % 64) / 64) * 64 + ((x.val / 64 + ksN u - min (n.val / 64 - 4) 24) * 64 + x.val % 64) % 64 = x.val
          omega
  · exact congrArg (fun r : Fin 5632 => (zx (ix3 b n r) * Ideal.div 1 (1 + Ideal.exp (-(zx (ix3 b n r)))) : EReal)) eg

theorem tile' (c : Dev nD) (t : Fin (cfgM m (ok m)).N) (y : S1x256x512.Idx) (J : S16x2048x512.Idx)
    (h0 : (J 0 : ℕ) = t.val / 8) (h1 : (J 1 : ℕ) = t.val % 8 * 256 + (y 1).val) (h2 : (J 2 : ℕ) = (y 2).val) :
    (show FVec Ideal S1x256x512 .bf16 from outsAt0 m (ok m) (hyps m) c t) y
      = Cert.ReferenceIdeal.Eqn.out (m ((c.tc : Thread nD τ).loc main_arg0)) (m ((c.tc : Thread nD τ).loc main_arg1))
          (m ((c.tc : Thread nD τ).loc main_arg2)) (J 0) (J 1) (J 2) := by
  idx_vars y
  obtain rfl : y0 = 0 := Fin.ext (Nat.lt_one_iff.1 y0.isLt)
  have e2 : J 2 = y2 := Fin.ext h2
  rw [e2]
  exact (tile m c t y1 y2 (J 0) (J 1) h0 h1).trans (outK_eq m c ⟨t.val % 8, Nat.mod_lt _ (by norm_num)⟩ _ (J 0) (J 1) y1 y2 h1 _ _)

theorem covers : ((cfgM m (ok m)).win 7).Covers :=
  ⟨(by decide : ∀ a : Fin 3, 0 < (![1, 256, 512] : Fin 3 → ℕ) a), fun β => by
    have b0 : (β (0 : Fin 3)).val < 16 := lt_of_lt_of_eq (β (0 : Fin 3)).isLt (show (16 + 1 - 1) / 1 = 16 by norm_num)
    have b1 : (β (1 : Fin 3)).val < 8 := lt_of_lt_of_eq (β (1 : Fin 3)).isLt (show (2048 + 256 - 1) / 256 = 8 by norm_num)
    have b2 : (β (2 : Fin 3)).val < 1 := lt_of_lt_of_eq (β (2 : Fin 3)).isLt (show (512 + 512 - 1) / 512 = 1 by norm_num)
    have hN : (β (0 : Fin 3)).val * 8 + (β (1 : Fin 3)).val < (cfgM m (ok m)).N := by
      show _ < grid0.N
      rw [N_0]
      omega
    have hi := (idx m ⟨(β (0 : Fin 3)).val * 8 + (β (1 : Fin 3)).val, hN⟩).2.2.2.2.2.2.2.1
    refine ⟨⟨(β (0 : Fin 3)).val * 8 + (β (1 : Fin 3)).val, hN⟩, flush0_7 _ _, fun a => ⟨(congrFun hi a).trans ?_, Or.inl rfl⟩⟩
    match a with
    | ⟨0, _⟩ => show ((β (0 : Fin 3)).val * 8 + (β (1 : Fin 3)).val) / 8 = (β (0 : Fin 3)).val; omega
    | ⟨1, _⟩ => show ((β (0 : Fin 3)).val * 8 + (β (1 : Fin 3)).val) % 8 = (β (1 : Fin 3)).val; omega
    | ⟨2, _⟩ => show 0 = (β (2 : Fin 3)).val; omega⟩

/-- What the run leaves in the result array. -/
theorem final (c : Dev nD) : (dats m (ok m) (hyps m) 0 c).arrAt 7 (cfgM m (ok m)).N
    = fun j : S16x2048x512.Idx => Cert.ReferenceIdeal.Eqn.out (m ((c.tc : Thread nD τ).loc main_arg0)) (m ((c.tc : Thread nD τ).loc main_arg1))
          (m ((c.tc : Thread nD τ).loc main_arg2)) (j 0) (j 1) (j 2) := by
  refine (dats m (ok m) (hyps m) 0 c).arrAt_eq_of_covers 7 _ (covers m) fun t _ y => ?_
  blk_simp
  rw [after0_7]
  refine tile' m c t y _ ?_ ?_ ?_ <;> blk_simp [idx m t]

end Cert.KernelIdeal.Eqn

end
-- ==== Proof.NattnClaim.lean ====
/- The attention: its claims. -/
module

public import proofs.«01_k».proof.Defs
public import proofs.«01_k».proof.Proof.Gen.Kernel.Frame
public import proofs.«01_k».proof.Proof.NattnTablesP
public import proofs.«01_k».proof.Proof.NattnFinal
public import Idealize.ShloMosaic.Lib.Claim
public import Idealize.ShloMosaic.Lib.KernelVsHost

@[expose] public section

set_option maxRecDepth 16384

noncomputable section

open Idealize.ShloMosaic Idealize.ShloMosaic.TcCoe Idealize.SL.Sem

namespace Cert.Proof.Nattn

open Cert.Spec

/-- The predicate's own side conditions. -/
theorem facts_pre : Cert.Pre_finite.Facts where
  bcast_S_S16x2048x5632 := by decide
  bcast_S_S16x256x5632 := by decide
  bcast_S_S4x15x31 := by decide

/-- An entry whose size is below infinity is a real number. -/
theorem real_of (x : EReal) (h : FloatOps.cmpf (F := Ideal) (φ := .f32) .olt (FloatOps.hostAbsf (F := Ideal) (φ := .f32) x) (FloatOps.ofBits (F := Ideal) .f32 0x7F800000#32) = 1#1) : Real' x := by
  have htop : Ideal.ofBits .f32 0x7F800000#32 = ⊤ := by simp [Ideal.ofBits, Ideal.ieee]
  replace h : Ideal.cmp .olt (max x (-x)) (Ideal.ofBits .f32 0x7F800000#32) = 1#1 := h
  rw [htop] at h
  induction x with
  | bot => simp [Ideal.cmp] at h
  | top => simp [Ideal.cmp] at h
  | coe r => exact ⟨r, rfl⟩

/-- The kernel runs, leaves its arguments as they were and every semaphore at zero. -/
theorem quiet : Cert.quiescent_Kernel (hKernel := Cert.Kernel.Gen.facts) := fun m ρ _ => Cert.Kernel.Gen.frame m ρ (Cert.Kernel.Eqn.ok m) (Cert.Kernel.Eqn.hyps m)

/-- So does its ideal twin. -/
theorem quiet_ideal : Cert.quiescent_KernelIdeal (hKernelIdeal := Cert.KernelIdeal.Gen.facts) := fun m ρ _ => Cert.KernelIdeal.Gen.frame m ρ (Cert.KernelIdeal.Eqn.ok m) (Cert.KernelIdeal.Eqn.hyps m)
theorem quiet_ideal_pre : Cert.quiescent_KernelIdeal_pre_finite (hKernelIdeal := Cert.KernelIdeal.Gen.facts) (hPre_finite := facts_pre) := fun m ρ _ => quiet_ideal m ρ trivial

/-- So does the reference. -/
theorem quiet_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)
theorem quiet_ref_pre : Cert.quiescent_ReferenceIdeal_pre_finite (hReferenceIdeal := Cert.ReferenceIdeal.Gen.facts) (hPre_finite := facts_pre) := fun m ρ _ => quiet_ref m ρ trivial

/-- The softmax's scale is what the rounded word stands for. -/
theorem keeps : Cert.preserves_Kernel_KernelIdeal := IdealRules.named_const.statement Cert.KernelIdeal.κ "s" .f32 0x3DB504F3#32 _ rfl

/-- The ideal kernel and the reference leave the same result from the same finite arguments. -/
theorem equal : Cert.algebraic_KernelIdeal_ReferenceIdeal_pre_finite (hKernelIdeal := Cert.KernelIdeal.Gen.facts) (hReferenceIdeal := Cert.ReferenceIdeal.Gen.facts) (hPre_finite := facts_pre) := by
  intro m g m' g' hpre hagree
  refine ⟨fun c => (Cert.KernelIdeal.Gen.dats m (Cert.KernelIdeal.Eqn.ok m) (Cert.KernelIdeal.Eqn.hyps m) 0 c).arrAt 7 (Cert.KernelIdeal.Gen.cfgM m (Cert.KernelIdeal.Eqn.ok m)).N, ?_, ?_⟩
  · exact (θ_run Cert.KernelIdeal.defs _ _).mono (fun r h c => ⟨(h.1 c).1 7, h.2.1 c⟩)
      (θ_run_and (Cert.KernelIdeal.Gen.run_main m g (Cert.KernelIdeal.Eqn.ok m) (Cert.KernelIdeal.Eqn.hyps m)) (Cert.KernelIdeal.Gen.frame m g (Cert.KernelIdeal.Eqn.ok m) (Cert.KernelIdeal.Eqn.hyps m)))
  · refine (θ_run Cert.ReferenceIdeal.defs _ _).mono (fun r h c => ⟨(h c).1.trans ?_, (h c).2⟩) (Cert.ReferenceIdeal.Value.run m' g')
    refine (Cert.ReferenceIdeal.Eqn.res_eq m' c).trans ?_
    obtain ⟨h0, h1, h2⟩ := hagree c
    obtain ⟨p0, p1, p2⟩ := hpre c
    rw [h0, h1, h2]
    refine Eq.trans ?_ (Cert.KernelIdeal.Eqn.final m c).symm
    funext j
    idx_vars j
    exact Cert.ReferenceIdeal.Eqn.out_eq _ _ _ (fun i => real_of _ (congrFun p0 i)) (fun i => real_of _ (congrFun p1 i)) (fun i => real_of _ (congrFun p2 i)) j0 j1 j2

end Cert.Proof.Nattn

end
-- ==== Proof.Norm.lean ====
/- The layer norm with the layer's modulation, one row at a time: the function of a row that the projections begin with. -/
module

public import Idealize.ShloMosaic.PureOps.Ideal.Laws
public import Idealize.ShloMosaic.Lib.Pointwise

@[expose] public section

noncomputable section

open Idealize.ShloMosaic

namespace Cert.Spec

/-- The mean of a row of 2048 entries. -/
def mean (x : Fin 2048 → EReal) : EReal := Ideal.div (∑ k : Fin 2048, x k) (Ideal.ofBits .f32 0x45000000#32)

/-- The normalized row, scaled by `1 + sc` and shifted by `sh`, at entry `k`. -/
def modNorm (x sh sc : Fin 2048 → EReal) (k : Fin 2048) : EReal :=
  (x k - mean x) * Ideal.rsqrt (Ideal.div (∑ l : Fin 2048, (x l - mean x) * (x l - mean x)) (Ideal.ofBits .f32 0x45000000#32)
    + Ideal.ofBits .f32 0x358637BD#32) * (1 + sc k) + sh k

end Cert.Spec

end
-- ==== Proof.MergeValue.lean ====
/- The merge of the branches: the array the pipelined kernel leaves, entry by entry.
   The kernel writes the modulated norm of a row tile into scratch at the first of the four points of the tile and holds it;
   every point gates the four branches' products at a column tile and adds them. -/
module

public import proofs.«01_k».proof.Proof.Gen.MergeIdeal.Value
public import proofs.«01_k».proof.Proof.Gen.MergeReferenceIdeal.Run
public import proofs.«01_k».proof.Proof.Norm
public import Idealize.ShloMosaic.Lib.Pipeline.ValueKit
public import Idealize.ShloMosaic.Lib.Pipeline.ValueKit.Held
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeIdeal.Eqn

open Cert.MergeIdeal Cert.MergeIdeal.Gen

/-- The modulated norm of token `i` of all batches at entry `k`. -/
def tok (X : FVec Ideal S16x2048x2048 .f32) (M : FVec Ideal S16x1x6144 .f32) (i : Fin 32768) (k : Fin 2048) : EReal :=
  Spec.modNorm (fun l => X (ix3 ⟨i.val / 2048, by omega⟩ ⟨i.val % 2048, by omega⟩ l))
    (fun l => M (ix3 ⟨i.val / 2048, by omega⟩ 0 ⟨l.val, by omega⟩))
    (fun l => M (ix3 ⟨i.val / 2048, by omega⟩ 0 ⟨2048 + l.val, by omega⟩)) k

/-- One branch's part of an entry: its gate times its product. -/
def part (h w : Fin 2048 → EReal) (b : EReal) (y u : Fin 512 → EReal) : EReal :=
  Ideal.logistic ((∑ k : Fin 2048, h k * w k) + b) * ∑ l : Fin 512, y l * u l

/-- The part of branch `g` at token `i` and column `j`. -/
def branch (X : FVec Ideal S16x2048x2048 .f32) (M : FVec Ideal S16x1x6144 .f32) (W : FVec Ideal S2048x8192 .bf16) (b : FVec Ideal S4x1x2048 .f32)
    (U : FVec Ideal S4x512x2048 .bf16) (Y : FVec Ideal S32768x512 .bf16) (g : Fin 4) (i : Fin 32768) (j : Fin 2048) : EReal :=
  part (tok X M i) (fun k => W (ix2 k ⟨g.val * 2048 + j.val, by omega⟩)) (b (ix3 g 0 j)) (fun l => Y (ix2 i l)) (fun l => U (ix3 g l j))

/-- The merged branches at token `i` and column `j`. -/
def merged (X : FVec Ideal S16x2048x2048 .f32) (M : FVec Ideal S16x1x6144 .f32) (Y0 Y1 Y2 Y3 : FVec Ideal S32768x512 .bf16)
    (W : FVec Ideal S2048x8192 .bf16) (b : FVec Ideal S4x1x2048 .f32) (U : FVec Ideal S4x512x2048 .bf16) (i : Fin 32768) (j : Fin 2048) : EReal :=
  branch X M W b U Y0 0 i j + branch X M W b U Y1 1 i j + branch X M W b U Y2 2 i j + branch X M W b U Y3 3 i j

variable (m : (ℓ : Loc nD τ sig) → Buf (Elt Ideal) ℓ)

/-- Every window's block index at grid point `t`. -/
theorem idx : ∀ t : Fin cfg0.N, win0_0.index t = ![t.val / 4, 0] ∧ win0_1.index t = ![t.val / 16, 0, 0]
    ∧ win0_2.index t = ![t.val / 4, 0] ∧ win0_3.index t = ![t.val / 4, 0] ∧ win0_4.index t = ![t.val / 4, 0] ∧ win0_5.index t = ![t.val / 4, 0]
    ∧ win0_6.index t = ![0, t.val % 4] ∧ win0_7.index t = ![0, 4 + t.val % 4] ∧ win0_8.index t = ![0, 8 + t.val % 4] ∧ win0_9.index t = ![0, 12 + t.val % 4]
    ∧ win0_10.index t = ![0, 0, t.val % 4]
    ∧ win0_11.index t = ![0, 0, t.val % 4] ∧ win0_12.index t = ![1, 0, t.val % 4] ∧ win0_13.index t = ![2, 0, t.val % 4] ∧ win0_14.index t = ![3, 0, t.val % 4]
    ∧ win0_15.index t = ![t.val / 4, t.val % 4] ∧ t.val < 256 :=
  (by decide +kernel : ∀ t : Fin grid0.N, _)

/-- The region's operand `main_v0` holds the tokens with batch and position merged. -/
theorem V_v0 (c : Dev nD) (i : Fin 32768) (k : Fin 2048) : (show FVec Ideal S32768x2048 .f32 from V m c main_v0) (ix2 i k)
    = (show FVec Ideal S16x2048x2048 .f32 from m ((c.tc : Thread nD τ).loc main_arg0)) (ix3 ⟨i.val / 2048, by omega⟩ ⟨i.val % 2048, by omega⟩ k) := by
  have h : V m c main_v0 = shapeCast S32768x2048 (m ((c.tc : Thread nD τ).loc main_arg0)) shapeCasts_S16x2048x2048_S32768x2048 := by
    unfold V; after_results; try rfl
  rw [h]; clean_types; pointwise

/-- The tokens' block at a point is the argument's rows from `512 (t / 4)` on. -/
theorem iblk0 (c : Dev nD) (t : Fin cfg0.N) (y : Fin 512) (k : Fin 2048) (i : Fin 32768) (hi : (i : ℕ) = t.val / 4 * 512 + y) :
    (show FVec Ideal S512x2048 .f32 from iblk m c 0 t) (ix2 y k)
      = (show FVec Ideal S16x2048x2048 .f32 from m ((c.tc : Thread nD τ).loc main_arg0)) (ix3 ⟨i.val / 2048, by omega⟩ ⟨i.val % 2048, by omega⟩ k) := by
  refine Eq.trans (b := (show FVec Ideal S32768x2048 .f32 from V m c main_v0) (ix2 i k)) ?_ (V_v0 m c i k)
  blk_ext [iblk, idx t]

/-- The modulation's block at a point is the row of its batch. -/
theorem iblk1 (c : Dev nD) (t : Fin cfg0.N) (y : Fin 512) (k : Fin 6144) (i : Fin 32768) (hi : (i : ℕ) = t.val / 4 * 512 + y) :
    (show FVec Ideal S1x1x6144 .f32 from iblk m c 1 t) (ix3 0 0 k)
      = (show FVec Ideal S16x1x6144 .f32 from m ((c.tc : Thread nD τ).loc main_arg1)) (ix3 ⟨i.val / 2048, by omega⟩ 0 k) := by
  blk_ext [iblk, V_main_arg1, idx t]

/-- Branch 0's block at a point is the rows of its tokens. -/
theorem iblk2 (c : Dev nD) (t : Fin cfg0.N) (y : Fin 512) (l : Fin 512) (i : Fin 32768) (hi : (i : ℕ) = t.val / 4 * 512 + y) :
    (show FVec Ideal S512x512 .bf16 from iblk m c 2 t) (ix2 y l)
      = (show FVec Ideal S32768x512 .bf16 from m ((c.tc : Thread nD τ).loc main_arg2)) (ix2 i l) := by
  blk_ext [iblk, V_main_arg2, idx t]

/-- Branch 1's block at a point is the rows of its tokens. -/
theorem iblk3 (c : Dev nD) (t : Fin cfg0.N) (y : Fin 512) (l : Fin 512) (i : Fin 32768) (hi : (i : ℕ) = t.val / 4 * 512 + y) :
    (show FVec Ideal S512x512 .bf16 from iblk m c 3 t) (ix2 y l)
      = (show FVec Ideal S32768x512 .bf16 from m ((c.tc : Thread nD τ).loc main_arg3)) (ix2 i l) := by
  blk_ext [iblk, V_main_arg3, idx t]

/-- Branch 2's block at a point is the rows of its tokens. -/
theorem iblk4 (c : Dev nD) (t : Fin cfg0.N) (y : Fin 512) (l : Fin 512) (i : Fin 32768) (hi : (i : ℕ) = t.val / 4 * 512 + y) :
    (show FVec Ideal S512x512 .bf16 from iblk m c 4 t) (ix2 y l)
      = (show FVec Ideal S32768x512 .bf16 from m ((c.tc : Thread nD τ).loc main_arg4)) (ix2 i l) := by
  blk_ext [iblk, V_main_arg4, idx t]

/-- Branch 3's block at a point is the rows of its tokens. -/
theorem iblk5 (c : Dev nD) (t : Fin cfg0.N) (y : Fin 512) (l : Fin 512) (i : Fin 32768) (hi : (i : ℕ) = t.val / 4 * 512 + y) :
    (show FVec Ideal S512x512 .bf16 from iblk m c 5 t) (ix2 y l)
      = (show FVec Ideal S32768x512 .bf16 from m ((c.tc : Thread nD τ).loc main_arg5)) (ix2 i l) := by
  blk_ext [iblk, V_main_arg5, idx t]

/-- The gate weights of branch 0 at a point are a column tile. -/
theorem iblk6 (c : Dev nD) (t : Fin cfg0.N) (k : Fin 2048) (z : Fin 512) (j : Fin 2048) (hj : (j : ℕ) = t.val % 4 * 512 + z) :
    (show FVec Ideal S2048x512 .bf16 from iblk m c 6 t) (ix2 k z)
      = (show FVec Ideal S2048x8192 .bf16 from m ((c.tc : Thread nD τ).loc main_arg6)) (ix2 k ⟨0 * 2048 + j.val, by omega⟩) := by
  blk_ext [iblk, V_main_arg6, idx t]

/-- The gate weights of branch 1 at a point are a column tile. -/
theorem iblk7 (c : Dev nD) (t : Fin cfg0.N) (k : Fin 2048) (z : Fin 512) (j : Fin 2048) (hj : (j : ℕ) = t.val % 4 * 512 + z) :
    (show FVec Ideal S2048x512 .bf16 from iblk m c 7 t) (ix2 k z)
      = (show FVec Ideal S2048x8192 .bf16 from m ((c.tc : Thread nD τ).loc main_arg6)) (ix2 k ⟨1 * 2048 + j.val, by omega⟩) := by
  blk_ext [iblk, V_main_arg6, idx t]

/-- The gate weights of branch 2 at a point are a column tile. -/
theorem iblk8 (c : Dev nD) (t : Fin cfg0.N) (k : Fin 2048) (z : Fin 512) (j : Fin 2048) (hj : (j : ℕ) = t.val % 4 * 512 + z) :
    (show FVec Ideal S2048x512 .bf16 from iblk m c 8 t) (ix2 k z)
      = (show FVec Ideal S2048x8192 .bf16 from m ((c.tc : Thread nD τ).loc main_arg6)) (ix2 k ⟨2 * 2048 + j.val, by omega⟩) := by
  blk_ext [iblk, V_main_arg6, idx t]

/-- The gate weights of branch 3 at a point are a column tile. -/
theorem iblk9 (c : Dev nD) (t : Fin cfg0.N) (k : Fin 2048) (z : Fin 512) (j : Fin 2048) (hj : (j : ℕ) = t.val % 4 * 512 + z) :
    (show FVec Ideal S2048x512 .bf16 from iblk m c 9 t) (ix2 k z)
      = (show FVec Ideal S2048x8192 .bf16 from m ((c.tc : Thread nD τ).loc main_arg6)) (ix2 k ⟨3 * 2048 + j.val, by omega⟩) := by
  blk_ext [iblk, V_main_arg6, idx t]

/-- The bias' block at a point is a column tile of the four rows. -/
theorem iblk10 (c : Dev nD) (t : Fin cfg0.N) (g : Fin 4) (z : Fin 512) (j : Fin 2048) (hj : (j : ℕ) = t.val % 4 * 512 + z) :
    (show FVec Ideal S4x1x512 .f32 from iblk m c 10 t) (ix3 g 0 z)
      = (show FVec Ideal S4x1x2048 .f32 from m ((c.tc : Thread nD τ).loc main_arg7)) (ix3 g 0 j) := by
  blk_ext [iblk, V_main_arg7, idx t]

/-- The output weights of branch 0 at a point are a column tile. -/
theorem iblk11 (c : Dev nD) (t : Fin cfg0.N) (l : Fin 512) (z : Fin 512) (j : Fin 2048) (hj : (j : ℕ) = t.val % 4 * 512 + z) :
    (show FVec Ideal S1x512x512 .bf16 from iblk m c 11 t) (ix3 0 l z)
      = (show FVec Ideal S4x512x2048 .bf16 from m ((c.tc : Thread nD τ).loc main_arg8)) (ix3 0 l j) := by
  blk_ext [iblk, V_main_arg8, idx t]

/-- The output weights of branch 1 at a point are a column tile. -/
theorem iblk12 (c : Dev nD) (t : Fin cfg0.N) (l : Fin 512) (z : Fin 512) (j : Fin 2048) (hj : (j : ℕ) = t.val % 4 * 512 + z) :
    (show FVec Ideal S1x512x512 .bf16 from iblk m c 12 t) (ix3 0 l z)
      = (show FVec Ideal S4x512x2048 .bf16 from m ((c.tc : Thread nD τ).loc main_arg8)) (ix3 1 l j) := by
  blk_ext [iblk, V_main_arg8, idx t]

/-- The output weights of branch 2 at a point are a column tile. -/
theorem iblk13 (c : Dev nD) (t : Fin cfg0.N) (l : Fin 512) (z : Fin 512) (j : Fin 2048) (hj : (j : ℕ) = t.val % 4 * 512 + z) :
    (show FVec Ideal S1x512x512 .bf16 from iblk m c 13 t) (ix3 0 l z)
      = (show FVec Ideal S4x512x2048 .bf16 from m ((c.tc : Thread nD τ).loc main_arg8)) (ix3 2 l j) := by
  blk_ext [iblk, V_main_arg8, idx t]

/-- The output weights of branch 3 at a point are a column tile. -/
theorem iblk14 (c : Dev nD) (t : Fin cfg0.N) (l : Fin 512) (z : Fin 512) (j : Fin 2048) (hj : (j : ℕ) = t.val % 4 * 512 + z) :
    (show FVec Ideal S1x512x512 .bf16 from iblk m c 14 t) (ix3 0 l z)
      = (show FVec Ideal S4x512x2048 .bf16 from m ((c.tc : Thread nD τ).loc main_arg8)) (ix3 3 l j) := by
  blk_ext [iblk, V_main_arg8, idx t]

/-- The tile the kernel keeps in scratch is the modulated norm of its rows. -/
theorem pay2_at (v10 v12 : FVec Ideal S1x1x2048 .f32) (v14 : FVec Ideal S512x2048 .f32) (y : Fin 512) (k : Fin 2048) :
    k0_pay2 (F := Ideal) v10 v12 v14 (ix2 y k)
      = Spec.modNorm (fun l => v14 (ix2 y l)) (fun l => v10 (ix3 0 0 l)) (fun l => v12 (ix3 0 0 l)) k := by
  pointwise [k0_pay2]
  rfl

/-- The first two branches' parts at an index. -/
theorem pay3_at (h : FVec Ideal S512x2048 .bf16) (w0 : FVec Ideal S2048x512 .bf16) (b0 : FVec Ideal S1x1x512 .f32) (y0 : FVec Ideal S512x512 .bf16)
    (u0 : FVec Ideal S1x512x512 .bf16) (w1 : FVec Ideal S2048x512 .bf16) (b1 : FVec Ideal S1x1x512 .f32) (y1 : FVec Ideal S512x512 .bf16)
    (u1 : FVec Ideal S1x512x512 .bf16) (y z : Fin 512) :
    k0_pay3 (F := Ideal) h w0 b0 y0 u0 w1 b1 y1 u1 (ix2 y z)
      = part (fun k => h (ix2 y k)) (fun k => w0 (ix2 k z)) (b0 (ix3 0 0 z)) (fun l => y0 (ix2 y l)) (fun l => u0 (ix3 0 l z))
        + part (fun k => h (ix2 y k)) (fun k => w1 (ix2 k z)) (b1 (ix3 0 0 z)) (fun l => y1 (ix2 y l)) (fun l => u1 (ix3 0 l z)) := by
  pointwise [k0_pay3]
  rfl

/-- The stored tile at an index: the first two branches' parts and the other two. -/
theorem pay1_at (h : FVec Ideal S512x2048 .bf16) (s : FVec Ideal S512x512 .f32) (w0 : FVec Ideal S2048x512 .bf16) (b0 : FVec Ideal S1x1x512 .f32)
    (y0 : FVec Ideal S512x512 .bf16) (u0 : FVec Ideal S1x512x512 .bf16) (w1 : FVec Ideal S2048x512 .bf16) (b1 : FVec Ideal S1x1x512 .f32)
    (y1 : FVec Ideal S512x512 .bf16) (u1 : FVec Ideal S1x512x512 .bf16) (y z : Fin 512) :
    k0_pay1 (F := Ideal) h s w0 b0 y0 u0 w1 b1 y1 u1 (ix2 y z)
      = s (ix2 y z) + part (fun k => h (ix2 y k)) (fun k => w0 (ix2 k z)) (b0 (ix3 0 0 z)) (fun l => y0 (ix2 y l)) (fun l => u0 (ix3 0 l z))
        + part (fun k => h (ix2 y k)) (fun k => w1 (ix2 k z)) (b1 (ix3 0 0 z)) (fun l => y1 (ix2 y l)) (fun l => u1 (ix3 0 l z)) := by
  pointwise [k0_pay1]
  rfl

/-- What the scratch holds after point `t`: the modulated norm of the point's row tile. -/
theorem held (c : Dev nD) (t : Fin cfg0.N) (y : Fin 512) (k : Fin 2048) (i : Fin 32768) (hi : (i : ℕ) = t.val / 4 * 512 + y) :
    (show FVec Ideal S512x2048 .bf16 from (outsAt0 m c t.val t.isLt).2) (ix2 y k)
      = tok (m ((c.tc : Thread nD τ).loc main_arg0)) (m ((c.tc : Thread nD τ).loc main_arg1)) i k := by
  have ht (t : Fin cfg0.N) : t.val < 256 := lt_of_lt_of_eq t.isLt N_0
  have key := Pipeline.eq_of_write_hold_apply (fun n h => (outsAt0 m c n h).2) 4
    (fun t j => tok (m ((c.tc : Thread nD τ).loc main_arg0)) (m ((c.tc : Thread nD τ).loc main_arg1))
      (⟨t.val / 4 * 512 + (j 0).val, by have := ht t; have : (j 0).val < 512 := (j 0).isLt; omega⟩ : Fin 32768) (j 1))
    (fun t h j => by
      rw [outsAt0_A m c t h]; frame_out
      idx_vars j
      refine (pay2_at _ _ _ j0 j1).trans ?_
      have := ht t
      unfold tok
      congr 1 <;> funext l
      · exact iblk0 m c t j0 l _ rfl
      · clean_types; pointwise; exact iblk1 m c t j0 _ ⟨t.val / 4 * 512 + j0.val, by omega⟩ rfl
      · clean_types; pointwise; exact iblk1 m c t j0 _ ⟨t.val / 4 * 512 + j0.val, by omega⟩ rfl)
    (fun t h j => by rw [outsAt0_B m c t h]; rfl) t (ix2 y k)
  refine key.trans ?_
  exact congrArg (fun r => tok _ _ r k) (Fin.ext (by show 4 * (t.val / 4) / 4 * 512 + y.val = i.val; omega))

/-- Equal pieces make equal parts. -/
theorem part_congr {h h' w w' : Fin 2048 → EReal} {b b' : EReal} {y y' u u' : Fin 512 → EReal} (e1 : ∀ k, h k = h' k) (e2 : ∀ k, w k = w' k)
    (e3 : b = b') (e4 : ∀ l, y l = y' l) (e5 : ∀ l, u l = u' l) : part h w b y u = part h' w' b' y' u' := by
  rw [funext e1, funext e2, e3, funext e4, funext e5]

/-- What grid point `t` leaves in the output tile: the merged branches at the tile's tokens and columns. -/
theorem tile (c : Dev nD) (t : Fin cfg0.N) (y z : Fin 512) (i : Fin 32768) (j : Fin 2048)
    (hi : (i : ℕ) = t.val / 4 * 512 + y) (hj : (j : ℕ) = t.val % 4 * 512 + z) :
    (show FVec Ideal S512x512 .bf16 from (outsAt0 m c t.val t.isLt).1) (ix2 y z)
      = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i j := by
  have hs := held m c t y
  by_cases h : t.val % 4 = 0
  · rw [outsAt0_A m c t h] at hs ⊢
    revert hs; frame_out; intro hs
    refine (pay1_at _ _ _ _ _ _ _ _ _ _ y z).trans ?_
    rw [pay3_at]
    refine congrArg₂ (· + ·) (congrArg₂ (· + ·) (congrArg₂ (· + ·) ?_ ?_) ?_) ?_
    · exact part_congr (fun k => hs k i hi) (fun k => iblk6 m c t k z j hj) (by clean_types; pointwise; exact iblk10 m c t 0 z j hj) (fun l => iblk2 m c t y l i hi) (fun l => iblk11 m c t l z j hj)
    · exact part_congr (fun k => hs k i hi) (fun k => iblk7 m c t k z j hj) (by clean_types; pointwise; exact iblk10 m c t 1 z j hj) (fun l => iblk3 m c t y l i hi) (fun l => iblk12 m c t l z j hj)
    · exact part_congr (fun k => hs k i hi) (fun k => iblk8 m c t k z j hj) (by clean_types; pointwise; exact iblk10 m c t 2 z j hj) (fun l => iblk4 m c t y l i hi) (fun l => iblk13 m c t l z j hj)
    · exact part_congr (fun k => hs k i hi) (fun k => iblk9 m c t k z j hj) (by clean_types; pointwise; exact iblk10 m c t 3 z j hj) (fun l => iblk5 m c t y l i hi) (fun l => iblk14 m c t l z j hj)
  · rw [outsAt0_B m c t h] at hs ⊢
    have hs' : ∀ k, (show FVec Ideal S512x2048 .bf16 from (outsAt0 m c (t.val - 1) (by omega)).2) (ix2 y k)
        = tok (m ((c.tc : Thread nD τ).loc main_arg0)) (m ((c.tc : Thread nD τ).loc main_arg1)) i k := fun k => hs k i hi
    clear hs
    frame_out
    simp only [read_unread_whole]
    refine (pay1_at _ _ _ _ _ _ _ _ _ _ y z).trans ?_
    rw [pay3_at]
    refine congrArg₂ (· + ·) (congrArg₂ (· + ·) (congrArg₂ (· + ·) ?_ ?_) ?_) ?_
    · exact part_congr hs' (fun k => iblk6 m c t k z j hj) (by clean_types; pointwise; exact iblk10 m c t 0 z j hj) (fun l => iblk2 m c t y l i hi) (fun l => iblk11 m c t l z j hj)
    · exact part_congr hs' (fun k => iblk7 m c t k z j hj) (by clean_types; pointwise; exact iblk10 m c t 1 z j hj) (fun l => iblk3 m c t y l i hi) (fun l => iblk12 m c t l z j hj)
    · exact part_congr hs' (fun k => iblk8 m c t k z j hj) (by clean_types; pointwise; exact iblk10 m c t 2 z j hj) (fun l => iblk4 m c t y l i hi) (fun l => iblk13 m c t l z j hj)
    · exact part_congr hs' (fun k => iblk9 m c t k z j hj) (by clean_types; pointwise; exact iblk10 m c t 3 z j hj) (fun l => iblk5 m c t y l i hi) (fun l => iblk14 m c t l z j hj)

/-- The kernel's result: the merged branches of every token. -/
theorem final (c : Dev nD) : (dats m 0 c).arrAt 15 (cfgs 0).N
    = fun x : S32768x2048.Idx => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (x 0) (x 1) := by
  refine (dats m 0 c).arrAt_eq_of_covers 15 _ (by decide +kernel) fun t _ y => ?_
  blk_simp
  rw [after0_15]
  idx_vars y
  exact tile m c t y0 y1 _ _ (by blk_simp [idx t]) (by blk_simp [idx t])

end Cert.MergeIdeal.Eqn

end
-- ==== Proof.MergeRef.lean ====
/- The merge's reference: its result in named pieces, and each piece entry by entry. -/
module

public import proofs.«01_k».proof.Proof.Gen.MergeReferenceIdeal.Run
public import proofs.«01_k».proof.Proof.Norm
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.MergeReferenceIdeal.Eqn

open Cert.MergeReferenceIdeal Cert.MergeReferenceIdeal.Gen

/-- The modulated norm of every token. -/
def hx (X : FVec Ideal S16x2048x2048 .f32) (M : FVec Ideal S16x1x6144 .f32) : FVec Ideal S16x2048x2048 .f32 :=
  addf (mulf (mulf (subf X (broadcastInDim S16x2048x2048 ![0, 1, 2] bcast_S16x2048x1_S16x2048x2048_0_1_2 (Host.divf (broadcastInDim S16x2048x1 ![0, 1] bcast_S16x2048_S16x2048x1_0_1 (Host.reduceAdd X (constant S_ .f32 0x00000000#32) reducesTo_S16x2048x2048_S16x2048_d2 h_S_)) (broadcastInDim S16x2048x1 ![] bcast_S_S16x2048x1 (constant S_ .f32 0x45000000#32))))) (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf (subf X (broadcastInDim S16x2048x2048 ![0, 1, 2] bcast_S16x2048x1_S16x2048x2048_0_1_2 (Host.divf (broadcastInDim S16x2048x1 ![0, 1] bcast_S16x2048_S16x2048x1_0_1 (Host.reduceAdd X (constant S_ .f32 0x00000000#32) reducesTo_S16x2048x2048_S16x2048_d2 h_S_)) (broadcastInDim S16x2048x1 ![] bcast_S_S16x2048x1 (constant S_ .f32 0x45000000#32))))) (subf X (broadcastInDim S16x2048x2048 ![0, 1, 2] bcast_S16x2048x1_S16x2048x2048_0_1_2 (Host.divf (broadcastInDim S16x2048x1 ![0, 1] bcast_S16x2048_S16x2048x1_0_1 (Host.reduceAdd X (constant S_ .f32 0x00000000#32) reducesTo_S16x2048x2048_S16x2048_d2 h_S_)) (broadcastInDim S16x2048x1 ![] bcast_S_S16x2048x1 (constant S_ .f32 0x45000000#32)))))) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S16x1x2048_S16x2048x2048_0_1_2 (addf (broadcastInDim S16x1x2048 ![] bcast_S_S16x1x2048 (constant S_ .f32 0x3F800000#32)) (extractStridedSlice S16x1x2048 ![0, 0, 2048] M slices_S16x1x6144_S16x1x2048_0_0_2048)))) (broadcastInDim S16x2048x2048 ![0, 1, 2] bcast_S16x1x2048_S16x2048x2048_0_1_2 (extractStridedSlice S16x1x2048 ![0, 0, 0] M slices_S16x1x6144_S16x1x2048_0_0_0))
/-- The gates of all branches, before the sigmoid. -/
def gates (h : FVec Ideal S16x2048x2048 .f32) (W : FVec Ideal S2048x8192 .bf16) (b : FVec Ideal S4x1x2048 .f32) : FVec Ideal S16x2048x8192 .f32 :=
  addf (Host.dotGeneral dot_S16x2048x2048_S2048x8192_S16x2048x8192_2_0_01_1_n_n none h (extf .f32 W bitsLt_bf16_f32)) (broadcastInDim S16x2048x8192 ![0, 1, 2] bcast_S1x1x8192_S16x2048x8192_0_1_2 (broadcastInDim S1x1x8192 ![2] bcast_S8192_S1x1x8192_2 (shapeCast _ b shapeCasts_S4x1x2048_S8192)))
/-- The sigmoid. -/
def sigm (x : FVec Ideal S16x2048x2048 .f32) : FVec Ideal S16x2048x2048 .f32 :=
  Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf x)))
/-- A branch times its output weights. -/
def up (Y : FVec Ideal S32768x512 .bf16) (u : FVec Ideal S1x512x2048 .bf16) : FVec Ideal S16x2048x2048 .f32 :=
  Host.dotGeneral dot_S16x2048x512_S512x2048_S16x2048x2048_2_0_01_1_n_n none (shapeCast _ (extf .f32 Y bitsLt_bf16_f32) shapeCasts_S32768x512_S16x2048x512) (extf .f32 (shapeCast _ u shapeCasts_S1x512x2048_S512x2048) bitsLt_bf16_f32)

/-- The modulated norm at an entry. -/
theorem hx_at (X : FVec Ideal S16x2048x2048 .f32) (M : FVec Ideal S16x1x6144 .f32) (b : Fin 16) (n k : Fin 2048) :
    hx X M (ix3 b n k) = Spec.modNorm (fun l => X (ix3 b n l)) (fun l => M (ix3 b 0 ⟨l.val, by omega⟩))
      (fun l => M (ix3 b 0 ⟨2048 + l.val, by omega⟩)) k := by
  unfold hx; pointwise; rfl

/-- A gate at an entry. -/
theorem gates_at (h : FVec Ideal S16x2048x2048 .f32) (W : FVec Ideal S2048x8192 .bf16) (bm : FVec Ideal S4x1x2048 .f32)
    (b : Fin 16) (n : Fin 2048) (g : Fin 4) (j : Fin 2048) (x : Fin 8192) (hx : x.val = g.val * 2048 + j.val) :
    gates h W bm (ix3 b n x) = (∑ k : Fin 2048, h (ix3 b n k) * W (ix2 k x)) + bm (ix3 g 0 j) := by
  unfold gates; pointwise
  have e1 : (⟨x.val / 2048, by omega⟩ : Fin 4) = g := Fin.ext (by show x.val / 2048 = g.val; omega)
  have e2 : (⟨x.val % 2048, by omega⟩ : Fin 2048) = j := Fin.ext (by show x.val % 2048 = j.val; omega)
  exact congrArg₂ (fun p q => _ + bm (ix3 p 0 q)) e1 e2

/-- The sigmoid at an entry. -/
theorem sigm_at (x : FVec Ideal S16x2048x2048 .f32) (i : S16x2048x2048.Idx) : sigm x i = Ideal.logistic (x i) := by
  unfold sigm; pointwise; rfl

/-- A branch's product at an entry. -/
theorem up_at (Y : FVec Ideal S32768x512 .bf16) (u : FVec Ideal S1x512x2048 .bf16) (b : Fin 16) (n j : Fin 2048) (i : Fin 32768)
    (hi : i.val = b.val * 2048 + n.val) : up Y u (ix3 b n j) = ∑ l : Fin 512, Y (ix2 i l) * u (ix3 0 l j) := by
  unfold up; pointwise
  have e : (⟨b.val * 2048 + n.val, by omega⟩ : Fin 32768) = i := Fin.ext hi.symm
  exact Finset.sum_congr rfl fun l _ => congrArg (fun r => Y (ix2 r l) * u (ix3 0 l j)) e

/-- The sum of the four gated branches. -/
def res (X : FVec Ideal S16x2048x2048 .f32) (M : FVec Ideal S16x1x6144 .f32) (Y0 Y1 Y2 Y3 : FVec Ideal S32768x512 .bf16)
    (W : FVec Ideal S2048x8192 .bf16) (b : FVec Ideal S4x1x2048 .f32) (U : FVec Ideal S4x512x2048 .bf16) : FVec Ideal S32768x2048 .bf16 :=
  truncf .bf16 (shapeCast _ (addf (addf (addf (mulf (sigm (extractStridedSlice S16x2048x2048 ![0, 0, 0] (gates (hx X M) W b) slices_S16x2048x8192_S16x2048x2048_0_0_0)) (up Y0 (extractStridedSlice S1x512x2048 ![0, 0, 0] U slices_S4x512x2048_S1x512x2048_0_0_0))) (mulf (sigm (extractStridedSlice S16x2048x2048 ![0, 0, 2048] (gates (hx X M) W b) slices_S16x2048x8192_S16x2048x2048_0_0_2048)) (up Y1 (extractStridedSlice S1x512x2048 ![1, 0, 0] U slices_S4x512x2048_S1x512x2048_1_0_0)))) (mulf (sigm (extractStridedSlice S16x2048x2048 ![0, 0, 4096] (gates (hx X M) W b) slices_S16x2048x8192_S16x2048x2048_0_0_4096)) (up Y2 (extractStridedSlice S1x512x2048 ![2, 0, 0] U slices_S4x512x2048_S1x512x2048_2_0_0)))) (mulf (sigm (extractStridedSlice S16x2048x2048 ![0, 0, 6144] (gates (hx X M) W b) slices_S16x2048x8192_S16x2048x2048_0_0_6144)) (up Y3 (extractStridedSlice S1x512x2048 ![3, 0, 0] U slices_S4x512x2048_S1x512x2048_3_0_0)))) shapeCasts_S16x2048x2048_S32768x2048) bitsLt_bf16_f32

/-- The result is the sum of the four gated branches. -/
theorem res_eq (m : (ℓ : Loc nD τ sig) → Buf (Elt Ideal) ℓ) (c : Dev nD) : Value.res_main_v93 m c =
    res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The last reshape at an entry. -/
theorem flat_at (A : FVec Ideal S16x2048x2048 .f32) (h) (i : Fin 32768) (j : Fin 2048) :
    truncf .bf16 (shapeCast S32768x2048 A h) bitsLt_bf16_f32 (ix2 i j) = A (ix3 ⟨i.val / 2048, by omega⟩ ⟨i.val % 2048, by omega⟩ j) := by
  pointwise

/-- A slice of the gates at an entry. -/
theorem gslice0 (z : FVec Ideal S16x2048x8192 .f32) (b : Fin 16) (n j : Fin 2048) :
    extractStridedSlice S16x2048x2048 ![0, 0, 0] z slices_S16x2048x8192_S16x2048x2048_0_0_0 (ix3 b n j) = z (ix3 b n ⟨0 * 2048 + j.val, by omega⟩) := by
  pointwise; try rfl

/-- A slice of the output weights at an entry. -/
theorem uslice0 (U : FVec Ideal S4x512x2048 .bf16) (l : Fin 512) (j : Fin 2048) :
    extractStridedSlice S1x512x2048 ![0, 0, 0] U slices_S4x512x2048_S1x512x2048_0_0_0 (ix3 0 l j) = U (ix3 0 l j) := by
  pointwise; try rfl

/-- A slice of the gates at an entry. -/
theorem gslice1 (z : FVec Ideal S16x2048x8192 .f32) (b : Fin 16) (n j : Fin 2048) :
    extractStridedSlice S16x2048x2048 ![0, 0, 2048] z slices_S16x2048x8192_S16x2048x2048_0_0_2048 (ix3 b n j) = z (ix3 b n ⟨1 * 2048 + j.val, by omega⟩) := by
  pointwise; try rfl

/-- A slice of the output weights at an entry. -/
theorem uslice1 (U : FVec Ideal S4x512x2048 .bf16) (l : Fin 512) (j : Fin 2048) :
    extractStridedSlice S1x512x2048 ![1, 0, 0] U slices_S4x512x2048_S1x512x2048_1_0_0 (ix3 0 l j) = U (ix3 1 l j) := by
  pointwise; try rfl

/-- A slice of the gates at an entry. -/
theorem gslice2 (z : FVec Ideal S16x2048x8192 .f32) (b : Fin 16) (n j : Fin 2048) :
    extractStridedSlice S16x2048x2048 ![0, 0, 4096] z slices_S16x2048x8192_S16x2048x2048_0_0_4096 (ix3 b n j) = z (ix3 b n ⟨2 * 2048 + j.val, by omega⟩) := by
  pointwise; try rfl

/-- A slice of the output weights at an entry. -/
theorem uslice2 (U : FVec Ideal S4x512x2048 .bf16) (l : Fin 512) (j : Fin 2048) :
    extractStridedSlice S1x512x2048 ![2, 0, 0] U slices_S4x512x2048_S1x512x2048_2_0_0 (ix3 0 l j) = U (ix3 2 l j) := by
  pointwise; try rfl

/-- A slice of the gates at an entry. -/
theorem gslice3 (z : FVec Ideal S16x2048x8192 .f32) (b : Fin 16) (n j : Fin 2048) :
    extractStridedSlice S16x2048x2048 ![0, 0, 6144] z slices_S16x2048x8192_S16x2048x2048_0_0_6144 (ix3 b n j) = z (ix3 b n ⟨3 * 2048 + j.val, by omega⟩) := by
  pointwise; try rfl

/-- A slice of the output weights at an entry. -/
theorem uslice3 (U : FVec Ideal S4x512x2048 .bf16) (l : Fin 512) (j : Fin 2048) :
    extractStridedSlice S1x512x2048 ![3, 0, 0] U slices_S4x512x2048_S1x512x2048_3_0_0 (ix3 0 l j) = U (ix3 3 l j) := by
  pointwise; try rfl

end Cert.MergeReferenceIdeal.Eqn

end
-- ==== Proof.MergeClaim.lean ====
/- The merge of the branches: its claims. -/
module

public import proofs.«01_k».proof.Defs
public import proofs.«01_k».proof.Proof.Gen.Merge.Frame
public import proofs.«01_k».proof.Proof.MergeValue
public import proofs.«01_k».proof.Proof.MergeRef
public import Idealize.ShloMosaic.Lib.Claim

@[expose] public section

set_option maxRecDepth 16384

noncomputable section

open Idealize.ShloMosaic Idealize.ShloMosaic.TcCoe Idealize.SL.Sem

namespace Cert.Proof.Merge

open Cert.MergeReferenceIdeal

/-- The kernel runs, leaves its arguments as they were and every semaphore at zero. -/
theorem quiet : Cert.quiescent_Merge (hMerge := Cert.Merge.Gen.facts) := fun m ρ _ => Cert.Merge.Gen.frame m ρ

/-- So does its ideal twin. -/
theorem quiet_ideal : Cert.quiescent_MergeIdeal (hMergeIdeal := Cert.MergeIdeal.Gen.facts) := fun m ρ _ => Cert.MergeIdeal.Gen.frame m ρ

/-- So does the reference. -/
theorem quiet_ref : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run m ρ)

open Cert.MergeReferenceIdeal.Eqn in
/-- A branch's part of the reference at a token and a column. -/
theorem branch_at (X : FVec Ideal S16x2048x2048 .f32) (M : FVec Ideal S16x1x6144 .f32) (W : FVec Ideal S2048x8192 .bf16) (b : FVec Ideal S4x1x2048 .f32)
    (U : FVec Ideal S4x512x2048 .bf16) (Y : FVec Ideal S32768x512 .bf16) (g : Fin 4) (i : Fin 32768) (j : Fin 2048)
    (z : FVec Ideal S16x2048x2048 .f32) (u : FVec Ideal S1x512x2048 .bf16)
    (hz : z (ix3 ⟨i.val / 2048, by omega⟩ ⟨i.val % 2048, by omega⟩ j)
      = gates (hx X M) W b (ix3 ⟨i.val / 2048, by omega⟩ ⟨i.val % 2048, by omega⟩ ⟨g.val * 2048 + j.val, by omega⟩))
    (hu : ∀ l : Fin 512, u (ix3 0 l j) = U (ix3 g l j)) :
    (sigm z (ix3 ⟨i.val / 2048, by omega⟩ ⟨i.val % 2048, by omega⟩ j) * up Y u (ix3 ⟨i.val / 2048, by omega⟩ ⟨i.val % 2048, by omega⟩ j) : EReal)
      = Cert.MergeIdeal.Eqn.branch X M W b U Y g i j := by
  rw [sigm_at, hz, gates_at _ _ _ _ _ g j _ rfl, up_at Y u _ _ j i (by show i.val = i.val / 2048 * 2048 + i.val % 2048; omega)]
  unfold Cert.MergeIdeal.Eqn.branch Cert.MergeIdeal.Eqn.part
  congr 1
  · congr 2
    exact Finset.sum_congr rfl fun k _ => congrArg (· * _) (hx_at X M _ _ k)
  · exact Finset.sum_congr rfl fun l _ => congrArg (_ * ·) (hu l)

open Cert.MergeReferenceIdeal.Eqn in
/-- The reference's result at a token and a column. -/
theorem res_at (X : FVec Ideal S16x2048x2048 .f32) (M : FVec Ideal S16x1x6144 .f32) (Y0 Y1 Y2 Y3 : FVec Ideal S32768x512 .bf16)
    (W : FVec Ideal S2048x8192 .bf16) (b : FVec Ideal S4x1x2048 .f32) (U : FVec Ideal S4x512x2048 .bf16) (i : Fin 32768) (j : Fin 2048) :
    res X M Y0 Y1 Y2 Y3 W b U (ix2 i j) = Cert.MergeIdeal.Eqn.merged X M Y0 Y1 Y2 Y3 W b U i j := by
  unfold res
  refine (flat_at _ _ i j).trans ?_
  refine congrArg₂ (· + ·) (congrArg₂ (· + ·) (congrArg₂ (· + ·) ?_ ?_) ?_) ?_
  · exact branch_at X M W b U Y0 0 i j _ _ (gslice0 _ _ _ j) (fun l => uslice0 U l j)
  · exact branch_at X M W b U Y1 1 i j _ _ (gslice1 _ _ _ j) (fun l => uslice1 U l j)
  · exact branch_at X M W b U Y2 2 i j _ _ (gslice2 _ _ _ j) (fun l => uslice2 U l j)
  · exact branch_at X M W b U Y3 3 i j _ _ (gslice3 _ _ _ j) (fun l => uslice3 U l j)

open Cert.MergeReferenceIdeal.Eqn in
/-- The same from equal arguments, as an array. -/
theorem res_fun {X X' : FVec Ideal S16x2048x2048 .f32} {M M' : FVec Ideal S16x1x6144 .f32} {Y0 Y0' Y1 Y1' Y2 Y2' Y3 Y3' : FVec Ideal S32768x512 .bf16}
    {W W' : FVec Ideal S2048x8192 .bf16} {b b' : FVec Ideal S4x1x2048 .f32} {U U' : FVec Ideal S4x512x2048 .bf16}
    (h0 : X = X') (h1 : M = M') (h2 : Y0 = Y0') (h3 : Y1 = Y1') (h4 : Y2 = Y2') (h5 : Y3 = Y3') (h6 : W = W') (h7 : b = b') (h8 : U = U') :
    res X M Y0 Y1 Y2 Y3 W b U = fun x : S32768x2048.Idx => Cert.MergeIdeal.Eqn.merged X' M' Y0' Y1' Y2' Y3' W' b' U' (x 0) (x 1) := by
  subst h0 h1 h2 h3 h4 h5 h6 h7 h8
  funext x
  idx_vars x
  exact res_at _ _ _ _ _ _ _ _ _ x0 x1

/-- The ideal kernel and the reference leave the same result from the same arguments. -/
theorem equal : Cert.algebraic_MergeIdeal_MergeReferenceIdeal (hMergeIdeal := Cert.MergeIdeal.Gen.facts) (hMergeReferenceIdeal := Cert.MergeReferenceIdeal.Gen.facts) := by
  pair_intro
  · run_from Cert.MergeIdeal.Gen.run_main m g
  · run_from Cert.MergeReferenceIdeal.Value.run m' g'
    obtain ⟨h0, h1, h2, h3, h4, h5, h6, h7, h8⟩ := hagree c
    exact ((Cert.MergeReferenceIdeal.Eqn.res_eq m' c).trans (res_fun h0 h1 h2 h3 h4 h5 h6 h7 h8)).trans (Cert.MergeIdeal.Eqn.final m c).symm

end Cert.Proof.Merge

end
-- ==== Proof.SguRef.lean ====
/- The gating's reference: its result in named pieces, and each piece entry by entry. -/
module

public import proofs.«01_k».proof.Proof.Gen.SguReferenceIdeal.Run
public import Idealize.ShloMosaic.PureOps.Ideal.Laws
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.Spec

/-- The activation of the gating's two halves: gelu by its tanh form. -/
def gel (x : EReal) : EReal := x * (Ideal.ofBits .f32 0x3F000000#32 * (1 + Ideal.tanh (Ideal.ofBits .f32 0x3F4C422A#32
  * (x + Ideal.ofBits .f32 0x3D372713#32 * (x * x * x)))))

/-- The mean of a row of 512 entries. -/
def mean512 (x : Fin 512 → EReal) : EReal := Ideal.div (∑ k : Fin 512, x k) (Ideal.ofBits .f32 0x44000000#32)

/-- The normalized row of 512 entries at entry `k`. -/
def norm512 (x : Fin 512 → EReal) (k : Fin 512) : EReal :=
  (x k - mean512 x) * Ideal.rsqrt (Ideal.div (∑ l : Fin 512, (x l - mean512 x) * (x l - mean512 x)) (Ideal.ofBits .f32 0x44000000#32)
    + Ideal.ofBits .f32 0x358637BD#32)

end Cert.Spec

namespace Cert.SguReferenceIdeal.Eqn

open Cert.SguReferenceIdeal Cert.SguReferenceIdeal.Gen

/-- The activation of every entry. -/
def gelu (UV : FVec Ideal S16x2048x1024 .f32) : FVec Ideal S16x2048x1024 .f32 :=
  mulf UV (mulf (broadcastInDim S16x2048x1024 ![] bcast_S_S16x2048x1024 (constant S_ .f32 0x3F000000#32)) (addf (broadcastInDim S16x2048x1024 ![] bcast_S_S16x2048x1024 (constant S_ .f32 0x3F800000#32)) (Host.tanh (mulf (broadcastInDim S16x2048x1024 ![] bcast_S_S16x2048x1024 (constant S_ .f32 0x3F4C422A#32)) (addf UV (mulf (broadcastInDim S16x2048x1024 ![] bcast_S_S16x2048x1024 (constant S_ .f32 0x3D372713#32)) (mulf (mulf UV UV) UV)))))))
/-- The norm of every row. -/
def norm (V : FVec Ideal S16x2048x512 .f32) : FVec Ideal S16x2048x512 .f32 :=
  mulf (subf V (broadcastInDim S16x2048x512 ![0, 1, 2] bcast_S16x2048x1_S16x2048x512_0_1_2 (Host.divf (broadcastInDim S16x2048x1 ![0, 1] bcast_S16x2048_S16x2048x1_0_1 (Host.reduceAdd V (constant S_ .f32 0x00000000#32) reducesTo_S16x2048x512_S16x2048_d2 h_S_)) (broadcastInDim S16x2048x1 ![] bcast_S_S16x2048x1 (constant S_ .f32 0x44000000#32))))) (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf (subf V (broadcastInDim S16x2048x512 ![0, 1, 2] bcast_S16x2048x1_S16x2048x512_0_1_2 (Host.divf (broadcastInDim S16x2048x1 ![0, 1] bcast_S16x2048_S16x2048x1_0_1 (Host.reduceAdd V (constant S_ .f32 0x00000000#32) reducesTo_S16x2048x512_S16x2048_d2 h_S_)) (broadcastInDim S16x2048x1 ![] bcast_S_S16x2048x1 (constant S_ .f32 0x44000000#32))))) (subf V (broadcastInDim S16x2048x512 ![0, 1, 2] bcast_S16x2048x1_S16x2048x512_0_1_2 (Host.divf (broadcastInDim S16x2048x1 ![0, 1] bcast_S16x2048_S16x2048x1_0_1 (Host.reduceAdd V (constant S_ .f32 0x00000000#32) reducesTo_S16x2048x512_S16x2048_d2 h_S_)) (broadcastInDim S16x2048x1 ![] bcast_S_S16x2048x1 (constant S_ .f32 0x44000000#32)))))) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))
/-- Every chunk of tokens mixed by the group's matrix. -/
def mix (V : FVec Ideal S16x2048x512 .f32) (w : FVec Ideal S4x128x128 .f32) (b : FVec Ideal S4x128 .f32) : FVec Ideal S16x2048x512 .f32 :=
  shapeCast S16x2048x512 (addf (transpose S16x16x128x4x128 [1, 2, 4, 0, 3] (Host.dotGeneral dot_S16x16x128x4x128_S4x128x128_S4x16x16x128x128_2_2_014_1_3_0 none (shapeCast _ V shapeCasts_S16x2048x512_S16x16x128x4x128) w) transposes_S4x16x16x128x128_S16x16x128x4x128_1_2_4_0_3) (broadcastInDim S16x16x128x4x128 ![0, 1, 2, 3, 4] bcast_S1x1x128x4x1_S16x16x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] b transposes_S4x128_S128x4_1_0))))) shapeCasts_S16x16x128x4x128_S16x2048x512
/-- The gate. -/
def silu (G : FVec Ideal S16x2048x512 .f32) : FVec Ideal S16x2048x512 .f32 :=
  mulf G (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf G))))

/-- The activation at an entry. -/
theorem gelu_at (UV : FVec Ideal S16x2048x1024 .f32) (i : S16x2048x1024.Idx) : gelu UV i = Spec.gel (UV i) := by
  unfold gelu; pointwise; rfl

/-- The norm at an entry. -/
theorem norm_at (V : FVec Ideal S16x2048x512 .f32) (b : Fin 16) (n : Fin 2048) (k : Fin 512) :
    norm V (ix3 b n k) = Spec.norm512 (fun l => V (ix3 b n l)) k := by
  unfold norm; pointwise; rfl

/-- The mix at an entry. -/
theorem mix_at (V : FVec Ideal S16x2048x512 .f32) (w : FVec Ideal S4x128x128 .f32) (bi : FVec Ideal S4x128 .f32) (b : Fin 16) (n : Fin 2048) (k : Fin 512) :
    mix V w bi (ix3 b n k) = (∑ q : Fin 128, w (ix3 ⟨k.val / 128, by omega⟩ ⟨n.val % 128, by omega⟩ q)
      * V (ix3 b ⟨n.val / 128 * 128 + q.val, by omega⟩ k)) + bi (ix2 ⟨k.val / 128, by omega⟩ ⟨n.val % 128, by omega⟩) := by
  unfold mix; pointwise
  exact congrArg (· + _) (Finset.sum_congr rfl fun q _ => mul_comm _ _)

/-- The gate at an entry. -/
theorem silu_at (G : FVec Ideal S16x2048x512 .f32) (i : S16x2048x512.Idx) : silu G i = G i * Ideal.logistic (G i) := by
  unfold silu; pointwise; rfl

/-- The gated product. -/
def res (Z : FVec Ideal S16x2048x5632 .f32) (w : FVec Ideal S4x128x128 .f32) (b : FVec Ideal S4x128 .f32) : FVec Ideal S16x2048x512 .bf16 :=
  truncf .bf16 (mulf (mulf (extractStridedSlice S16x2048x512 ![0, 0, 0] (gelu (extractStridedSlice S16x2048x1024 ![0, 0, 2048] Z slices_S16x2048x5632_S16x2048x1024_0_0_2048)) slices_S16x2048x1024_S16x2048x512_0_0_0) (mix (norm (extractStridedSlice S16x2048x512 ![0, 0, 512] (gelu (extractStridedSlice S16x2048x1024 ![0, 0, 2048] Z slices_S16x2048x5632_S16x2048x1024_0_0_2048)) slices_S16x2048x1024_S16x2048x512_0_0_512)) w b)) (silu (extractStridedSlice S16x2048x512 ![0, 0, 3584] Z slices_S16x2048x5632_S16x2048x512_0_0_3584))) bitsLt_bf16_f32

/-- The result is the gated product. -/
theorem res_eq (m : (ℓ : Loc nD τ sig) → Buf (Elt Ideal) ℓ) (c : Dev nD) : Value.res_main_v47 m c =
    res (m ((c.tc : Thread nD τ).loc main_arg0)) (m ((c.tc : Thread nD τ).loc main_arg1)) (m ((c.tc : Thread nD τ).loc main_arg2)) := rfl

end Cert.SguReferenceIdeal.Eqn

end
-- ==== Proof.SguValue.lean ====
/- The spatial gating: the array the pipelined kernel leaves, entry by entry. Every grid point writes sixteen tiles of 128 tokens by
   128 columns; each is one chunk of tokens mixed by one group's matrix. -/
module

public import proofs.«01_k».proof.Proof.Gen.SguIdeal.Value
public import proofs.«01_k».proof.Proof.SguRef
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguIdeal.Eqn

open Cert.SguIdeal Cert.SguIdeal.Gen

/-- The gating's result at batch `b`, token `n` and column `k`. -/
def gated (Z : FVec Ideal S16x2048x5632 .f32) (w : FVec Ideal S4x128x128 .f32) (bi : FVec Ideal S4x128 .f32)
    (b : Fin 16) (n : Fin 2048) (k : Fin 512) : EReal :=
  Spec.gel (Z (ix3 b n ⟨2048 + k.val, by omega⟩))
    * ((∑ q : Fin 128, w (ix3 ⟨k.val / 128, by omega⟩ ⟨n.val % 128, by omega⟩ q)
        * Spec.norm512 (fun l => Spec.gel (Z (ix3 b ⟨n.val / 128 * 128 + q.val, by omega⟩ ⟨2560 + l.val, by omega⟩))) k)
      + bi (ix2 ⟨k.val / 128, by omega⟩ ⟨n.val % 128, by omega⟩))
    * (Z (ix3 b n ⟨3584 + k.val, by omega⟩) * Ideal.logistic (Z (ix3 b n ⟨3584 + k.val, by omega⟩)))

/-- What a point's tiles hold, from the activated half `u`, the normalized half `v`, the gate `g`, the matrices and the biases. -/
def tiles (u g : FVec Ideal S512x512 .f32) (v : FVec Ideal S512x512 .bf16) (w : FVec Ideal S4x128x128 .bf16) (bi : FVec Ideal S4x128x1 .f32)
    (r k : Fin 512) : EReal :=
  u (ix2 r k) * ((∑ q : Fin 128, w (ix3 ⟨k.val / 128, by omega⟩ ⟨r.val % 128, by omega⟩ q) * v (ix2 ⟨r.val / 128 * 128 + q.val, by omega⟩ k))
    + bi (ix3 ⟨k.val / 128, by omega⟩ ⟨r.val % 128, by omega⟩ 0)) * g (ix2 r k)

/-- One tile's entry is the tiles' entry at its place. -/
theorem tiles_at (u g : FVec Ideal S512x512 .f32) (v : FVec Ideal S512x512 .bf16) (w : FVec Ideal S4x128x128 .bf16) (bi : FVec Ideal S4x128x1 .f32)
    (r k : Fin 512) (p : Fin 128) (a : Fin 4) (rows : Fin 128 → Fin 512) (hk : k.val / 128 = a.val) (hp : r.val % 128 = p.val)
    (hr : ∀ q, (rows q).val = r.val / 128 * 128 + q.val) :
    u (ix2 r k) * ((∑ q : Fin 128, w (ix3 a p q) * v (ix2 (rows q) k)) + bi (ix3 a p 0)) * g (ix2 r k) = tiles u g v w bi r k := by
  unfold tiles
  refine congrArg₂ (fun A C => u (ix2 r k) * (A + C) * g (ix2 r k)) (Finset.sum_congr rfl fun q _ => ?_) ?_
  · exact congrArg₂ (· * ·) (congrArg₂ (fun a p => w (ix3 a p q)) (Fin.ext hk.symm) (Fin.ext hp.symm))
      (congrArg (fun x => v (ix2 x k)) (Fin.ext (hr q)))
  · exact congrArg₂ (fun a p => bi (ix3 a p 0)) (Fin.ext hk.symm) (Fin.ext hp.symm)

variable (m : (ℓ : Loc nD τ sig) → Buf (Elt Ideal) ℓ)

/-- Every window's block index at grid point `t`. -/
theorem idx : ∀ t : Fin cfg0.N, win0_0.index t = ![t.val / 4, t.val % 4, 2] ∧ win0_1.index t = ![t.val / 4, t.val % 4, 7]
    ∧ win0_2.index t = ![0, 0, 0] ∧ win0_3.index t = ![0, 0, 0] ∧ win0_4.index t = ![t.val / 4, t.val % 4, 0] ∧ t.val < 64 :=
  (by decide +kernel : ∀ t : Fin grid0.N, _)

/-- The activated block at an entry. -/
theorem pay2_at (x : FVec Ideal S1x512x1024 .f32) (r : Fin 512) (k : Fin 1024) : k0_pay2 (F := Ideal) x (ix2 r k) = Spec.gel (x (ix3 0 r k)) := by
  pointwise [k0_pay2]
  unfold Spec.gel
  try rw [mul_comm (x (ix3 0 r k)) (x (ix3 0 r k) * x (ix3 0 r k))]
  try rfl

/-- The first half at an entry. -/
theorem pay3_at (x : FVec Ideal S1x512x1024 .f32) (r k : Fin 512) :
    k0_pay3 (F := Ideal) x (ix2 r k) = Spec.gel (x (ix3 0 r ⟨k.val, by omega⟩)) := by
  refine Eq.trans ?_ (pay2_at x r ⟨k.val, by omega⟩)
  unfold k0_pay3; generalize k0_pay2 (F := Ideal) x = z; pointwise

/-- The normalized second half at an entry. -/
theorem pay4_at (x : FVec Ideal S1x512x1024 .f32) (r k : Fin 512) :
    k0_pay4 (F := Ideal) x (ix2 r k) = Spec.norm512 (fun l => Spec.gel (x (ix3 0 r ⟨512 + l.val, by omega⟩))) k := by
  have e : (fun l : Fin 512 => Spec.gel (x (ix3 0 r ⟨512 + l.val, by omega⟩))) = fun l => k0_pay2 (F := Ideal) x (ix2 r ⟨512 + l.val, by omega⟩) :=
    funext fun l => (pay2_at x r _).symm
  rw [e]
  unfold k0_pay4; generalize k0_pay2 (F := Ideal) x = z; pointwise
  rfl

/-- The gate at an entry. -/
theorem pay5_at (x : FVec Ideal S1x512x512 .f32) (r k : Fin 512) :
    k0_pay5 (F := Ideal) x (ix2 r k) = x (ix3 0 r k) * Ideal.logistic (x (ix3 0 r k)) := by
  pointwise [k0_pay5]

/-- What grid point `t` leaves in the output block: the tiles of its blocks. -/
theorem point (c : Dev nD) (t : Fin cfg0.N) (y : S1x512x512.Idx) :
    (show FVec Ideal S1x512x512 .bf16 from outsAt0 m c t) y
      = tiles (k0_pay3 (F := Ideal) (X0_0 m c t)) (k0_pay5 (F := Ideal) (iblk m c 1 t)) (k0_pay4 (F := Ideal) (X0_0 m c t))
          (iblk m c 2 t) (iblk m c 3 t) (y 1) (y 2) := by
  unfold outsAt0
  frame_out
  generalize X0_0 m c t = X
  generalize iblk m c 1 t = G
  generalize iblk m c 2 t = W
  generalize iblk m c 3 t = B
  canon_tiles x h
  all_goals
    open_payloads
    idx_vars x
    pointwise
    refine (tiles_at (k0_pay3 (F := Ideal) X) (k0_pay5 (F := Ideal) G) (k0_pay4 (F := Ideal) X) W B _ _ _ _ _ ?_ ?_ ?_).trans
      (congrArg₂ (tiles _ _ _ _ _) (Fin.ext ?_) (Fin.ext ?_))
  all_goals first
    | omega
    | (dsimp only; omega)
    | (intro q; dsimp only; omega)
    | (simp; omega)

/-- The first window's block at an entry. -/
theorem x0_at (c : Dev nD) (t : Fin cfg0.N) (r : Fin 512) (k : Fin 1024) (b : Fin 16) (n : Fin 2048)
    (hb : b.val = t.val / 4) (hn : n.val = t.val % 4 * 512 + r.val) :
    (show FVec Ideal S1x512x1024 .f32 from X0_0 m c t) (ix3 0 r k)
      = (show FVec Ideal S16x2048x5632 .f32 from m ((c.tc : Thread nD τ).loc main_arg0)) (ix3 b n ⟨2048 + k.val, by omega⟩) := by
  show (cfg0.win 0).fill (cfg0.grid.coords t) dflt0_0 (iblk m c 0 t) (ix3 0 r k) = _
  unfold Pipeline.Window.fill
  rw [dif_pos (moved0_0 t _)]
  blk_ext [iblk, V_main_arg0, idx t]

/-- The second window's block at an entry. -/
theorem iblk1 (c : Dev nD) (t : Fin cfg0.N) (r k : Fin 512) (b : Fin 16) (n : Fin 2048)
    (hb : b.val = t.val / 4) (hn : n.val = t.val % 4 * 512 + r.val) :
    (show FVec Ideal S1x512x512 .f32 from iblk m c 1 t) (ix3 0 r k)
      = (show FVec Ideal S16x2048x5632 .f32 from m ((c.tc : Thread nD τ).loc main_arg0)) (ix3 b n ⟨3584 + k.val, by omega⟩) := by
  blk_ext [iblk, V_main_arg0, idx t]

/-- The matrices that the region reads are the argument's. -/
theorem V_v0 (c : Dev nD) (i : S4x128x128.Idx) : (show FVec Ideal S4x128x128 .bf16 from V m c main_v0) i
    = (show FVec Ideal S4x128x128 .f32 from m ((c.tc : Thread nD τ).loc main_arg1)) i := by
  have h : V m c main_v0 = truncf .bf16 (show FVec Ideal S4x128x128 .f32 from m ((c.tc : Thread nD τ).loc main_arg1)) bitsLt_bf16_f32 := by
    unfold V; after_results; try rfl
  rw [h]; clean_types; pointwise

/-- The matrices' block at an entry. -/
theorem iblk2 (c : Dev nD) (t : Fin cfg0.N) (g : Fin 4) (p q : Fin 128) :
    (show FVec Ideal S4x128x128 .bf16 from iblk m c 2 t) (ix3 g p q)
      = (show FVec Ideal S4x128x128 .f32 from m ((c.tc : Thread nD τ).loc main_arg1)) (ix3 g p q) := by
  refine Eq.trans (b := (show FVec Ideal S4x128x128 .bf16 from V m c main_v0) (ix3 g p q)) ?_ (V_v0 m c _)
  blk_ext [iblk, idx t]

/-- The biases that the region reads are the argument's. -/
theorem V_v1 (c : Dev nD) (g : Fin 4) (p : Fin 128) : (show FVec Ideal S4x128x1 .f32 from V m c main_v1) (ix3 g p 0)
    = (show FVec Ideal S4x128 .f32 from m ((c.tc : Thread nD τ).loc main_arg2)) (ix2 g p) := by
  have h : V m c main_v1 = shapeCast S4x128x1 (m ((c.tc : Thread nD τ).loc main_arg2)) shapeCasts_S4x128_S4x128x1 := by
    unfold V; after_results; try rfl
  rw [h]; clean_types; pointwise

/-- The biases' block at an entry. -/
theorem iblk3 (c : Dev nD) (t : Fin cfg0.N) (g : Fin 4) (p : Fin 128) :
    (show FVec Ideal S4x128x1 .f32 from iblk m c 3 t) (ix3 g p 0)
      = (show FVec Ideal S4x128 .f32 from m ((c.tc : Thread nD τ).loc main_arg2)) (ix2 g p) := by
  refine Eq.trans (b := (show FVec Ideal S4x128x1 .f32 from V m c main_v1) (ix3 g p 0)) ?_ (V_v1 m c g p)
  blk_ext [iblk, idx t]

/-- The tiles of a point are the gating's result at the point's batch and tokens. -/
theorem tiles_eq (c : Dev nD) (t : Fin cfg0.N) (r k : Fin 512) (b : Fin 16) (n : Fin 2048)
    (hb : b.val = t.val / 4) (hn : n.val = t.val % 4 * 512 + r.val) :
    tiles (k0_pay3 (F := Ideal) (X0_0 m c t)) (k0_pay5 (F := Ideal) (iblk m c 1 t)) (k0_pay4 (F := Ideal) (X0_0 m c t))
        (iblk m c 2 t) (iblk m c 3 t) r k
      = gated (m ((c.tc : Thread nD τ).loc main_arg0)) (m ((c.tc : Thread nD τ).loc main_arg1)) (m ((c.tc : Thread nD τ).loc main_arg2)) b n k := by
  unfold tiles gated
  have e : (⟨r.val % 128, by omega⟩ : Fin 128) = ⟨n.val % 128, by omega⟩ := Fin.ext (by show r.val % 128 = n.val % 128; omega)
  refine congrArg₂ (· * ·) (congrArg₂ (· * ·) ?_ (congrArg₂ (· + ·) (Finset.sum_congr rfl fun q _ => congrArg₂ (· * ·) ?_ ?_) ?_)) ?_
  · exact (pay3_at _ r k).trans (congrArg Spec.gel (x0_at m c t r _ b n hb hn))
  · refine (iblk2 m c t _ _ q).trans ?_
    rw [e]
  · refine (pay4_at _ _ k).trans (congrArg (fun f => Spec.norm512 f k) (funext fun l => congrArg Spec.gel ?_))
    refine (x0_at m c t _ _ b ⟨n.val / 128 * 128 + q.val, by omega⟩ hb ?_).trans ?_
    · show n.val / 128 * 128 + q.val = t.val % 4 * 512 + (r.val / 128 * 128 + q.val); omega
    · exact congrArg (fun x => (show FVec Ideal S16x2048x5632 .f32 from m ((c.tc : Thread nD τ).loc main_arg0)) (ix3 b _ x))
        (Fin.ext (show 2048 + (512 + l.val) = 2560 + l.val by omega))
  · refine (iblk3 m c t _ _).trans ?_
    rw [e]
  · refine (pay5_at _ r k).trans ?_
    exact congrArg (fun x => x * Ideal.logistic x) (iblk1 m c t r k b n hb hn)

/-- The same at a column given by its number. -/
theorem tiles_eq_of (c : Dev nD) (t : Fin cfg0.N) (r k : Fin 512) (b : Fin 16) (n : Fin 2048) (k' : Fin 512)
    (hb : b.val = t.val / 4) (hn : n.val = t.val % 4 * 512 + r.val) (hk : k'.val = k.val) :
    tiles (k0_pay3 (F := Ideal) (X0_0 m c t)) (k0_pay5 (F := Ideal) (iblk m c 1 t)) (k0_pay4 (F := Ideal) (X0_0 m c t))
        (iblk m c 2 t) (iblk m c 3 t) r k
      = gated (m ((c.tc : Thread nD τ).loc main_arg0)) (m ((c.tc : Thread nD τ).loc main_arg1)) (m ((c.tc : Thread nD τ).loc main_arg2)) b n k' := by
  obtain rfl : k' = k := Fin.ext hk
  exact tiles_eq m c t r k' b n hb hn

/-- The kernel's result: the gating of every token. -/
theorem final (c : Dev nD) : (dats m 0 c).arrAt 4 (cfgs 0).N
    = fun j : S16x2048x512.Idx => gated (m ((c.tc : Thread nD τ).loc main_arg0)) (m ((c.tc : Thread nD τ).loc main_arg1))
          (m ((c.tc : Thread nD τ).loc main_arg2)) (j 0) (j 1) (j 2) := by
  refine (dats m 0 c).arrAt_eq_of_covers 4 _ (by decide +kernel) fun t _ y => ?_
  blk_simp
  rw [after0_4]
  refine (point m c t y).trans ?_
  idx_vars y
  exact tiles_eq_of m c t y1 y2 _ _ _ (by blk_simp [idx t]) (by blk_simp [idx t]) (by blk_simp [idx t])

end Cert.SguIdeal.Eqn

end
-- ==== Proof.SguClaim.lean ====
/- The spatial gating: its claims. -/
module

public import proofs.«01_k».proof.Defs
public import proofs.«01_k».proof.Proof.Gen.Sgu.Frame
public import proofs.«01_k».proof.Proof.Gen.SguIdeal.Value
public import proofs.«01_k».proof.Proof.Gen.SguReferenceIdeal.Run
public import proofs.«01_k».proof.Proof.SguRef
public import proofs.«01_k».proof.Proof.SguValue
public import Idealize.ShloMosaic.Lib.Claim

@[expose] public section

set_option maxRecDepth 16384

noncomputable section

open Idealize.ShloMosaic Idealize.ShloMosaic.TcCoe Idealize.SL.Sem

namespace Cert.Proof.Sgu

open Cert.SguReferenceIdeal Cert.SguReferenceIdeal.Gen

/-- The kernel runs, leaves its arguments as they were and every semaphore at zero. -/
theorem quiet : Cert.quiescent_Sgu (hSgu := Cert.Sgu.Gen.facts) := fun m ρ _ => Cert.Sgu.Gen.frame m ρ

/-- So does its ideal twin. -/
theorem quiet_ideal : Cert.quiescent_SguIdeal (hSguIdeal := Cert.SguIdeal.Gen.facts) := fun m ρ _ => Cert.SguIdeal.Gen.frame m ρ

/-- So does the reference. -/
theorem quiet_ref : Cert.quiescent_SguReferenceIdeal (hSguReferenceIdeal := Cert.SguReferenceIdeal.Gen.facts) := fun m ρ _ =>
  (θ_run Cert.SguReferenceIdeal.defs _ _).mono (fun r h => ⟨fun c => (h c).2, sem_eq_zero_of_no_sems (by decide) r.2⟩)
    (Cert.SguReferenceIdeal.Value.run m ρ)

open Cert.SguReferenceIdeal.Eqn in
/-- The reference's result at an entry. -/
theorem res_at (Z : FVec Ideal S16x2048x5632 .f32) (w : FVec Ideal S4x128x128 .f32) (bi : FVec Ideal S4x128 .f32) (b : Fin 16) (n : Fin 2048) (k : Fin 512) :
    res Z w bi (ix3 b n k) = Cert.SguIdeal.Eqn.gated Z w bi b n k := by
  unfold res Cert.SguIdeal.Eqn.gated
  refine congrArg₂ (· * ·) (congrArg₂ (· * ·) ?_ ((mix_at _ w bi b n k).trans (congrArg (· + _) (Finset.sum_congr rfl fun q _ => congrArg (_ * ·) ?_)))) ?_
  · refine Eq.trans (b := gelu (extractStridedSlice S16x2048x1024 ![0, 0, 2048] Z slices_S16x2048x5632_S16x2048x1024_0_0_2048) (ix3 b n ⟨k.val, by omega⟩)) ?_
      ((gelu_at _ _).trans (congrArg Spec.gel ?_))
    · generalize gelu _ = z; pointwise
    · pointwise
  · refine (norm_at _ b _ k).trans (congrArg (fun f => Spec.norm512 f k) (funext fun l => ?_))
    refine Eq.trans (b := gelu (extractStridedSlice S16x2048x1024 ![0, 0, 2048] Z slices_S16x2048x5632_S16x2048x1024_0_0_2048)
      (ix3 b ⟨n.val / 128 * 128 + q.val, by omega⟩ ⟨512 + l.val, by omega⟩)) ?_ ((gelu_at _ _).trans (congrArg Spec.gel ?_))
    · generalize gelu _ = z; pointwise
    · pointwise
      exact congrArg (fun x => Z (ix3 b _ x)) (Fin.ext (show 2048 + (512 + l.val) = 2560 + l.val by omega))
  · refine (silu_at _ _).trans (congrArg (fun x => x * Ideal.logistic x) ?_)
    pointwise

open Cert.SguReferenceIdeal.Eqn in
/-- The same from equal arguments, as an array. -/
theorem res_fun {Z Z' : FVec Ideal S16x2048x5632 .f32} {w w' : FVec Ideal S4x128x128 .f32} {b b' : FVec Ideal S4x128 .f32}
    (h0 : Z = Z') (h1 : w = w') (h2 : b = b') :
    res Z w b = fun x : S16x2048x512.Idx => Cert.SguIdeal.Eqn.gated Z' w' b' (x 0) (x 1) (x 2) := by
  subst h0 h1 h2
  funext x
  idx_vars x
  exact res_at _ _ _ x0 x1 x2

/-- The ideal kernel and the reference leave the same result from the same arguments. -/
theorem equal : Cert.algebraic_SguIdeal_SguReferenceIdeal (hSguIdeal := Cert.SguIdeal.Gen.facts) (hSguReferenceIdeal := Cert.SguReferenceIdeal.Gen.facts) := by
  pair_intro
  · run_from Cert.SguIdeal.Gen.run_main m g
  · run_from Cert.SguReferenceIdeal.Value.run m' g'
    obtain ⟨h0, h1, h2⟩ := hagree c
    exact ((Cert.SguReferenceIdeal.Eqn.res_eq m' c).trans (res_fun h0 h1 h2)).trans (Cert.SguIdeal.Eqn.final m c).symm

end Cert.Proof.Sgu

end
-- ==== Proof.InProjValue.lean ====
/- The input projection: the array the pipelined kernel leaves is the reference's composed term of the same arguments.
   The kernel writes the modulated norm of a row tile into scratch at the first of the four points of the tile and holds it;
   every point multiplies it with a column tile of the weights. -/
module

public import proofs.«01_k».proof.Proof.Gen.InProjIdeal.Value
public import proofs.«01_k».proof.Proof.Gen.InProjReferenceIdeal.Run
public import proofs.«01_k».proof.Proof.Norm
public import Idealize.ShloMosaic.Lib.Pipeline.ValueKit
public import Idealize.ShloMosaic.Lib.Pipeline.ValueKit.Held
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Eqn

open Cert.InProjIdeal Cert.InProjIdeal.Gen

/-- The modulated norm of token `i` of all batches at entry `k`. -/
def tok (X : FVec Ideal S16x2048x2048 .f32) (M : FVec Ideal S16x1x6144 .f32) (i : Fin 32768) (k : Fin 2048) : EReal :=
  Spec.modNorm (fun l => X (ix3 ⟨i.val / 2048, by omega⟩ ⟨i.val % 2048, by omega⟩ l))
    (fun l => M (ix3 ⟨i.val / 2048, by omega⟩ 0 ⟨l.val, by omega⟩))
    (fun l => M (ix3 ⟨i.val / 2048, by omega⟩ 0 ⟨2048 + l.val, by omega⟩)) k

/-- The projection's result at token `i` and column `j`. -/
def proj (X : FVec Ideal S16x2048x2048 .f32) (M : FVec Ideal S16x1x6144 .f32) (W : FVec Ideal S2048x5632 .bf16) (b : FVec Ideal S1x5632 .f32)
    (i : Fin 32768) (j : Fin 5632) : EReal :=
  (∑ k : Fin 2048, tok X M i k * W (ix2 k j)) + b (ix2 0 j)

variable (m : (ℓ : Loc nD τ sig) → Buf (Elt Ideal) ℓ)

/-- Every window's block index at grid point `t`. -/
theorem idx : ∀ t : Fin cfg0.N, win0_0.index t = ![t.val / 4, 0] ∧ win0_1.index t = ![t.val / 8, 0, 0]
    ∧ win0_2.index t = ![0, t.val % 4] ∧ win0_3.index t = ![0, t.val % 4] ∧ win0_4.index t = ![t.val / 4, t.val % 4] ∧ t.val < 128 :=
  (by decide +kernel : ∀ t : Fin grid0.N, _)

/-- The region's operand `main_v0` holds the tokens with batch and position merged. -/
theorem V_v0 (c : Dev nD) (i : Fin 32768) (k : Fin 2048) : (show FVec Ideal S32768x2048 .f32 from V m c main_v0) (ix2 i k)
    = (show FVec Ideal S16x2048x2048 .f32 from m ((c.tc : Thread nD τ).loc main_arg0)) (ix3 ⟨i.val / 2048, by omega⟩ ⟨i.val % 2048, by omega⟩ k) := by
  have h : V m c main_v0 = shapeCast S32768x2048 (m ((c.tc : Thread nD τ).loc main_arg0)) shapeCasts_S16x2048x2048_S32768x2048 := by
    unfold V; after_results; try rfl
  rw [h]; clean_types; pointwise

/-- The tokens' block at a point is the argument's rows from `1024 (t / 4)` on. -/
theorem iblk0 (c : Dev nD) (t : Fin cfg0.N) (y : Fin 1024) (k : Fin 2048) (i : Fin 32768) (hi : (i : ℕ) = t.val / 4 * 1024 + y) :
    (show FVec Ideal S1024x2048 .f32 from iblk m c 0 t) (ix2 y k)
      = (show FVec Ideal S16x2048x2048 .f32 from m ((c.tc : Thread nD τ).loc main_arg0)) (ix3 ⟨i.val / 2048, by omega⟩ ⟨i.val % 2048, by omega⟩ k) := by
  refine Eq.trans (b := (show FVec Ideal S32768x2048 .f32 from V m c main_v0) (ix2 i k)) ?_ (V_v0 m c i k)
  blk_ext [iblk, idx t]

/-- The modulation's block at a point is the row of its batch. -/
theorem iblk1 (c : Dev nD) (t : Fin cfg0.N) (y : Fin 1024) (k : Fin 6144) (i : Fin 32768) (hi : (i : ℕ) = t.val / 4 * 1024 + y) :
    (show FVec Ideal S1x1x6144 .f32 from iblk m c 1 t) (ix3 0 0 k)
      = (show FVec Ideal S16x1x6144 .f32 from m ((c.tc : Thread nD τ).loc main_arg1)) (ix3 ⟨i.val / 2048, by omega⟩ 0 k) := by
  blk_ext [iblk, V_main_arg1, idx t]

/-- The weights' block at a point is a column tile. -/
theorem iblk2 (c : Dev nD) (t : Fin cfg0.N) (k : Fin 2048) (y : Fin 1408) (j : Fin 5632) (hj : (j : ℕ) = t.val % 4 * 1408 + y) :
    (show FVec Ideal S2048x1408 .bf16 from iblk m c 2 t) (ix2 k y)
      = (show FVec Ideal S2048x5632 .bf16 from m ((c.tc : Thread nD τ).loc main_arg2)) (ix2 k j) := by
  blk_ext [iblk, V_main_arg2, idx t]

/-- The bias' block at a point is a column tile. -/
theorem iblk3 (c : Dev nD) (t : Fin cfg0.N) (y : Fin 1408) (j : Fin 5632) (hj : (j : ℕ) = t.val % 4 * 1408 + y) :
    (show FVec Ideal S1x1408 .f32 from iblk m c 3 t) (ix2 0 y)
      = (show FVec Ideal S1x5632 .f32 from m ((c.tc : Thread nD τ).loc main_arg3)) (ix2 0 j) := by
  blk_ext [iblk, V_main_arg3, idx t]

/-- The tile the kernel keeps in scratch is the modulated norm of its rows. -/
theorem pay1_at (v10 v12 : FVec Ideal S1x1x2048 .f32) (v14 : FVec Ideal S1024x2048 .f32) (y : Fin 1024) (k : Fin 2048) :
    k0_pay1 (F := Ideal) v10 v12 v14 (ix2 y k)
      = Spec.modNorm (fun l => v14 (ix2 y l)) (fun l => v10 (ix3 0 0 l)) (fun l => v12 (ix3 0 0 l)) k := by
  pointwise [k0_pay1]
  rfl

/-- The projection's tile at an index. -/
theorem pay2_at (v3 : FVec Ideal S1024x2048 .bf16) (v4 : FVec Ideal S2048x1408 .bf16) (v6 : FVec Ideal S1x1408 .f32) (y : Fin 1024) (z : Fin 1408) :
    k0_pay2 (F := Ideal) v3 v4 v6 (ix2 y z) = (∑ k : Fin 2048, v3 (ix2 y k) * v4 (ix2 k z)) + v6 (ix2 0 z) := by
  pointwise [k0_pay2]

/-- What the scratch holds after point `t`: the modulated norm of the point's row tile. -/
theorem held (c : Dev nD) (t : Fin cfg0.N) (y : Fin 1024) (k : Fin 2048) (i : Fin 32768) (hi : (i : ℕ) = t.val / 4 * 1024 + y) :
    (show FVec Ideal S1024x2048 .bf16 from (outsAt0 m c t.val t.isLt).2) (ix2 y k)
      = tok (m ((c.tc : Thread nD τ).loc main_arg0)) (m ((c.tc : Thread nD τ).loc main_arg1)) i k := by
  have ht (t : Fin cfg0.N) : t.val < 128 := lt_of_lt_of_eq t.isLt N_0
  have key := Pipeline.eq_of_write_hold_apply (fun n h => (outsAt0 m c n h).2) 4
    (fun t j => tok (m ((c.tc : Thread nD τ).loc main_arg0)) (m ((c.tc : Thread nD τ).loc main_arg1))
      (⟨t.val / 4 * 1024 + (j 0).val, by have := ht t; have : (j 0).val < 1024 := (j 0).isLt; omega⟩ : Fin 32768) (j 1))
    (fun t h j => by
      rw [outsAt0_A m c t h]; frame_out
      idx_vars j
      refine (pay1_at _ _ _ j0 j1).trans ?_
      have := ht t
      unfold tok
      congr 1 <;> funext l
      · exact iblk0 m c t j0 l _ rfl
      · clean_types; pointwise; exact iblk1 m c t j0 _ ⟨t.val / 4 * 1024 + j0.val, by omega⟩ rfl
      · clean_types; pointwise; exact iblk1 m c t j0 _ ⟨t.val / 4 * 1024 + j0.val, by omega⟩ rfl)
    (fun t h j => by rw [outsAt0_B m c t h]; rfl) t (ix2 y k)
  refine key.trans ?_
  exact congrArg (fun r => tok _ _ r k) (Fin.ext (by show 4 * (t.val / 4) / 4 * 1024 + y.val = i.val; omega))

/-- What grid point `t` leaves in the output tile: the projection at the tile's tokens and columns. -/
theorem tile (c : Dev nD) (t : Fin cfg0.N) (y : Fin 1024) (z : Fin 1408) (i : Fin 32768) (j : Fin 5632)
    (hi : (i : ℕ) = t.val / 4 * 1024 + y) (hj : (j : ℕ) = t.val % 4 * 1408 + z) :
    (show FVec Ideal S1024x1408 .f32 from (outsAt0 m c t.val t.isLt).1) (ix2 y z)
      = proj (m ((c.tc : Thread nD τ).loc main_arg0)) (m ((c.tc : Thread nD τ).loc main_arg1))
          (m ((c.tc : Thread nD τ).loc main_arg2)) (m ((c.tc : Thread nD τ).loc main_arg3)) i j := by
  have hs := held m c t y
  by_cases h : t.val % 4 = 0
  · rw [outsAt0_A m c t h] at hs ⊢
    revert hs; frame_out; intro hs
    refine (pay2_at _ _ _ y z).trans ?_
    exact congrArg₂ (· + ·) (Finset.sum_congr rfl fun k _ => congrArg₂ (· * ·) (hs k i hi) (iblk2 m c t k z j hj))
      (iblk3 m c t z j hj)
  · rw [outsAt0_B m c t h] at hs ⊢
    have hs' : ∀ k, (show FVec Ideal S1024x2048 .bf16 from (outsAt0 m c (t.val - 1) (by omega)).2) (ix2 y k)
        = tok (m ((c.tc : Thread nD τ).loc main_arg0)) (m ((c.tc : Thread nD τ).loc main_arg1)) i k := fun k => hs k i hi
    clear hs
    frame_out
    simp only [read_unread_whole]
    refine (pay2_at _ _ _ y z).trans ?_
    exact congrArg₂ (· + ·) (Finset.sum_congr rfl fun k _ => congrArg₂ (· * ·) (hs' k) (iblk2 m c t k z j hj))
      (iblk3 m c t z j hj)

/-- The kernel's result: the projection of every token. -/
theorem final (c : Dev nD) : (dats m 0 c).arrAt 4 (cfgs 0).N
    = fun j : S32768x5632.Idx => proj (m ((c.tc : Thread nD τ).loc main_arg0)) (m ((c.tc : Thread nD τ).loc main_arg1))
          (m ((c.tc : Thread nD τ).loc main_arg2)) (m ((c.tc : Thread nD τ).loc main_arg3)) (j 0) (j 1) := by
  refine (dats m 0 c).arrAt_eq_of_covers 4 _ (by decide +kernel) fun t _ y => ?_
  blk_simp
  rw [after0_4]
  idx_vars y
  exact tile m c t y0 y1 _ _ (by blk_simp [idx t]) (by blk_simp [idx t])

end Cert.InProjIdeal.Eqn

end
-- ==== Proof.InProjClaim.lean ====
/- The input projection: its claims. -/
module

public import proofs.«01_k».proof.Defs
public import proofs.«01_k».proof.Proof.Gen.InProj.Frame
public import proofs.«01_k».proof.Proof.InProjValue
public import Idealize.ShloMosaic.Lib.Claim

@[expose] public section

set_option maxRecDepth 16384

noncomputable section

open Idealize.ShloMosaic Idealize.ShloMosaic.TcCoe Idealize.SL.Sem

namespace Cert.Proof.InProj

/-- The kernel runs, leaves its arguments as they were and every semaphore at zero. -/
theorem quiet : Cert.quiescent_InProj (hInProj := Cert.InProj.Gen.facts) := fun m ρ _ => Cert.InProj.Gen.frame m ρ

/-- So does its ideal twin. -/
theorem quiet_ideal : Cert.quiescent_InProjIdeal (hInProjIdeal := Cert.InProjIdeal.Gen.facts) := fun m ρ _ => Cert.InProjIdeal.Gen.frame m ρ

/-- So does the reference. -/
theorem quiet_ref : Cert.quiescent_InProjReferenceIdeal (hInProjReferenceIdeal := Cert.InProjReferenceIdeal.Gen.facts) := fun m ρ _ =>
  (θ_run Cert.InProjReferenceIdeal.defs _ _).mono (fun r h => ⟨fun c => (h c).2, sem_eq_zero_of_no_sems (by decide) r.2⟩)
    (Cert.InProjReferenceIdeal.Value.run m ρ)

/-- The ideal kernel and the reference leave the same result from the same arguments. -/
theorem equal : Cert.algebraic_InProjIdeal_InProjReferenceIdeal (hInProjIdeal := Cert.InProjIdeal.Gen.facts) (hInProjReferenceIdeal := Cert.InProjReferenceIdeal.Gen.facts) := by
  pair_intro
  · run_from Cert.InProjIdeal.Gen.run_main m g
  · run_from Cert.InProjReferenceIdeal.Value.run m' g'
    rw [Cert.InProjIdeal.Eqn.final m c]
    clean_types
    funext j
    idx_vars j
    pointwise
    rfl

end Cert.Proof.InProj

end
-- ==== Proof.OutProjValue.lean ====
/- The output projection: the array the pipelined kernel leaves is the reference's composed term of the same arguments. -/
module

public import proofs.«01_k».proof.Proof.Gen.OutProjIdeal.Value
public import proofs.«01_k».proof.Proof.Gen.OutProjReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutProjIdeal.Eqn

open Cert.OutProjIdeal Cert.OutProjIdeal.Gen

variable (m : (ℓ : Loc nD τ sig) → Buf (Elt Ideal) ℓ)
variable (m' : (ℓ : Loc OutProjReferenceIdeal.nD OutProjReferenceIdeal.τ OutProjReferenceIdeal.sig) → Buf (Elt Ideal) ℓ)

/-- Every window's block index at grid point `t`: row tiles move with the point, the gate with the batch. -/
theorem idx : ∀ t : Fin cfg0.N, win0_0.index t = ![t.val, 0] ∧ win0_1.index t = ![t.val, 0]
    ∧ win0_2.index t = ![t.val / 4, 0, 0] ∧ win0_3.index t = ![0, 0] ∧ win0_4.index t = ![0, 0]
    ∧ win0_5.index t = ![0, 0] ∧ win0_6.index t = ![t.val, 0] ∧ t.val < 64 :=
  (by decide +kernel : ∀ t : Fin grid0.N, _)

/-- The region's operand `main_v0` holds the tokens with batch and position merged. -/
theorem V_v0 (c : Dev nD) (i : Fin 32768) (k : Fin 2048) : (show FVec Ideal S32768x2048 .f32 from V m c main_v0) (ix2 i k)
    = (show FVec Ideal S16x2048x2048 .f32 from m ((c.tc : Thread nD τ).loc main_arg1)) (ix3 ⟨i.val / 2048, by omega⟩ ⟨i.val % 2048, by omega⟩ k) := by
  have h : V m c main_v0 = shapeCast S32768x2048 (m ((c.tc : Thread nD τ).loc main_arg1)) shapeCasts_S16x2048x2048_S32768x2048 := by
    unfold V; after_results; try rfl
  rw [h]; clean_types; pointwise

/-- The region's operand `main_v1` holds the norm's scale as a row. -/
theorem V_v1 (c : Dev nD) (k : Fin 2048) : (show FVec Ideal S1x2048 .f32 from V m c main_v1) (ix2 0 k)
    = (show FVec Ideal S2048 .f32 from m ((c.tc : Thread nD τ).loc main_arg4)) (ix1 k) := by
  have h : V m c main_v1 = shapeCast S1x2048 (m ((c.tc : Thread nD τ).loc main_arg4)) shapeCasts_S2048_S1x2048 := by
    unfold V; after_results; try rfl
  rw [h]; clean_types; pointwise

/-- The region's operand `main_v2` holds the norm's shift as a row. -/
theorem V_v2 (c : Dev nD) (k : Fin 2048) : (show FVec Ideal S1x2048 .f32 from V m c main_v2) (ix2 0 k)
    = (show FVec Ideal S2048 .f32 from m ((c.tc : Thread nD τ).loc main_arg5)) (ix1 k) := by
  have h : V m c main_v2 = shapeCast S1x2048 (m ((c.tc : Thread nD τ).loc main_arg5)) shapeCasts_S2048_S1x2048 := by
    unfold V; after_results; try rfl
  rw [h]; clean_types; pointwise

/-- The tokens' block at point `t` is the argument read at rows `512 t` on, batch and position split. -/
theorem iblk1 (c : Dev nD) (t : Fin cfg0.N) (y : Fin 512) (k : Fin 2048) (j : Fin 32768) (hj : (j : ℕ) = t.val * 512 + y) :
    (show FVec Ideal S512x2048 .f32 from iblk m c 1 t) (ix2 y k)
      = (show FVec Ideal S16x2048x2048 .f32 from m ((c.tc : Thread nD τ).loc main_arg1)) (ix3 ⟨j.val / 2048, by omega⟩ ⟨j.val % 2048, by omega⟩ k) := by
  refine Eq.trans (b := (show FVec Ideal S32768x2048 .f32 from V m c main_v0) (ix2 j k)) ?_ (V_v0 m c j k)
  blk_ext [iblk, idx t]

/-- The modulation's block at a point is the row of its batch. -/
theorem iblk2 (c : Dev nD) (t : Fin cfg0.N) (y : Fin 512) (k : Fin 6144) (j : Fin 32768) (hj : (j : ℕ) = t.val * 512 + y) :
    (show FVec Ideal S1x1x6144 .f32 from iblk m c 2 t) (ix3 0 0 k)
      = (show FVec Ideal S16x1x6144 .f32 from m ((c.tc : Thread nD τ).loc main_arg2)) (ix3 ⟨j.val / 2048, by omega⟩ 0 k) := by
  blk_ext [iblk, V_main_arg2, idx t]

/-- The scale's block is the whole row. -/
theorem iblk4 (c : Dev nD) (t : Fin cfg0.N) (k : Fin 2048) :
    (show FVec Ideal S1x2048 .f32 from iblk m c 4 t) (ix2 0 k) = (show FVec Ideal S2048 .f32 from m ((c.tc : Thread nD τ).loc main_arg4)) (ix1 k) := by
  refine Eq.trans (b := (show FVec Ideal S1x2048 .f32 from V m c main_v1) (ix2 0 k)) ?_ (V_v1 m c k)
  blk_ext [iblk, idx t]

/-- The shift's block is the whole row. -/
theorem iblk5 (c : Dev nD) (t : Fin cfg0.N) (k : Fin 2048) :
    (show FVec Ideal S1x2048 .f32 from iblk m c 5 t) (ix2 0 k) = (show FVec Ideal S2048 .f32 from m ((c.tc : Thread nD τ).loc main_arg5)) (ix1 k) := by
  refine Eq.trans (b := (show FVec Ideal S1x2048 .f32 from V m c main_v2) (ix2 0 k)) ?_ (V_v2 m c k)
  blk_ext [iblk, idx t]

set_option maxHeartbeats 2000000 in
/-- What grid point `t` stores at block index `y` is the reference's result at the array index `y` stands for. -/
theorem point (c : Dev nD)
    (h0 : m' ((c.tc : Thread nD τ).loc OutProjReferenceIdeal.main_arg0) = m ((c.tc : Thread nD τ).loc main_arg0))
    (h1 : m' ((c.tc : Thread nD τ).loc OutProjReferenceIdeal.main_arg1) = m ((c.tc : Thread nD τ).loc main_arg1))
    (h2 : m' ((c.tc : Thread nD τ).loc OutProjReferenceIdeal.main_arg2) = m ((c.tc : Thread nD τ).loc main_arg2))
    (h3 : m' ((c.tc : Thread nD τ).loc OutProjReferenceIdeal.main_arg3) = m ((c.tc : Thread nD τ).loc main_arg3))
    (h4 : m' ((c.tc : Thread nD τ).loc OutProjReferenceIdeal.main_arg4) = m ((c.tc : Thread nD τ).loc main_arg4))
    (h5 : m' ((c.tc : Thread nD τ).loc OutProjReferenceIdeal.main_arg5) = m ((c.tc : Thread nD τ).loc main_arg5))
    (t : Fin cfg0.N) (y : S512x2048.Idx) (j : S32768x2048.Idx)
    (hj0 : (j 0 : ℕ) = t.val * 512 + (y 0 : ℕ)) (hj1 : (j 1 : ℕ) = (y 1 : ℕ)) :
    out0_6 (iblk m c 0 t) (iblk m c 1 t) (iblk m c 2 t) (iblk m c 3 t) (iblk m c 4 t) (iblk m c 5 t) y = OutProjReferenceIdeal.Value.res_main_v36 m' c j := by
  frame_out
  unfold OutProjReferenceIdeal.Value.res_main_v36
  rw [h0, h1, h2, h3, h4, h5]

  clean_types
  idx_vars y
  idx_vars j
  pointwise [k0_pay1]
  clear h0 h1 h2 h3 h4 h5
  reads_congr
  · rw [show y1 = j1 from Fin.ext hj1.symm]; exact iblk1 m c t _ _ _ hj0
  · rw [show y1 = j1 from Fin.ext hj1.symm]; exact iblk2 m c t _ _ _ hj0
  · blk_ext [iblk, V_main_arg0, idx t]
  · blk_ext [iblk, V_main_arg3, idx t]
  · exact iblk1 m c t _ _ _ hj0
  · exact iblk2 m c t _ _ _ hj0
  · blk_ext [iblk, V_main_arg3, idx t]
  · exact iblk1 m c t _ _ _ hj0
  · exact iblk2 m c t _ _ _ hj0
  · rw [show y1 = j1 from Fin.ext hj1.symm]; exact iblk4 m c t _
  · rw [show y1 = j1 from Fin.ext hj1.symm]; exact iblk5 m c t _

/-- The array after the run is the reference's result on agreeing arguments. -/
theorem final (c : Dev nD)
    (h0 : m' ((c.tc : Thread nD τ).loc OutProjReferenceIdeal.main_arg0) = m ((c.tc : Thread nD τ).loc main_arg0))
    (h1 : m' ((c.tc : Thread nD τ).loc OutProjReferenceIdeal.main_arg1) = m ((c.tc : Thread nD τ).loc main_arg1))
    (h2 : m' ((c.tc : Thread nD τ).loc OutProjReferenceIdeal.main_arg2) = m ((c.tc : Thread nD τ).loc main_arg2))
    (h3 : m' ((c.tc : Thread nD τ).loc OutProjReferenceIdeal.main_arg3) = m ((c.tc : Thread nD τ).loc main_arg3))
    (h4 : m' ((c.tc : Thread nD τ).loc OutProjReferenceIdeal.main_arg4) = m ((c.tc : Thread nD τ).loc main_arg4))
    (h5 : m' ((c.tc : Thread nD τ).loc OutProjReferenceIdeal.main_arg5) = m ((c.tc : Thread nD τ).loc main_arg5)) :
    (dats m 0 c).arrAt 6 (cfgs 0).N = OutProjReferenceIdeal.Value.res_main_v36 m' c := by
  refine (dats m 0 c).arrAt_eq_of_covers 6 _ (by decide +kernel) fun t _ y => ?_
  blk_simp
  rw [after0_6]
  exact point m m' c h0 h1 h2 h3 h4 h5 t y _ (by blk_simp [idx t]) (by blk_simp [idx t])

end Cert.OutProjIdeal.Eqn

end
-- ==== Proof.OutProjClaim.lean ====
/- The output projection: its claims. -/
module

public import proofs.«01_k».proof.Defs
public import proofs.«01_k».proof.Proof.Gen.OutProj.Frame
public import proofs.«01_k».proof.Proof.OutProjValue
public import Idealize.ShloMosaic.Lib.Claim

@[expose] public section

set_option maxRecDepth 16384

noncomputable section

open Idealize.ShloMosaic Idealize.ShloMosaic.TcCoe Idealize.SL.Sem

namespace Cert.Proof.OutProj

/-- The kernel runs, leaves its arguments as they were and every semaphore at zero. -/
theorem quiet : Cert.quiescent_OutProj (hOutProj := Cert.OutProj.Gen.facts) := fun m ρ _ => Cert.OutProj.Gen.frame m ρ

/-- So does its ideal twin. -/
theorem quiet_ideal : Cert.quiescent_OutProjIdeal (hOutProjIdeal := Cert.OutProjIdeal.Gen.facts) := fun m ρ _ => Cert.OutProjIdeal.Gen.frame m ρ

/-- So does the reference. -/
theorem quiet_ref : Cert.quiescent_OutProjReferenceIdeal (hOutProjReferenceIdeal := Cert.OutProjReferenceIdeal.Gen.facts) := fun m ρ _ =>
  (θ_run Cert.OutProjReferenceIdeal.defs _ _).mono (fun r h => ⟨fun c => (h c).2, sem_eq_zero_of_no_sems (by decide) r.2⟩)
    (Cert.OutProjReferenceIdeal.Value.run m ρ)

/-- The ideal kernel and the reference leave the same result from the same arguments. -/
theorem equal : Cert.algebraic_OutProjIdeal_OutProjReferenceIdeal (hOutProjIdeal := Cert.OutProjIdeal.Gen.facts) (hOutProjReferenceIdeal := Cert.OutProjReferenceIdeal.Gen.facts) := by
  pair_intro
  · run_from Cert.OutProjIdeal.Gen.run_main m g
  · run_from Cert.OutProjReferenceIdeal.Value.run m' g'
    exact (Cert.OutProjIdeal.Eqn.final m m' c (hagree c).1 (hagree c).2.1 (hagree c).2.2.1 (hagree c).2.2.2.1 (hagree c).2.2.2.2.1
      (hagree c).2.2.2.2.2).symm

end Cert.Proof.OutProj

end
-- ==== Proof.InProjLastValue.lean ====
/- The input projection of the last layer's context: the array the pipelined kernel leaves is the reference's composed term of the same arguments.
   The kernel writes the modulated norm of a row tile into scratch at the first of the three points of the tile and holds it;
   every point multiplies it with a column tile of the weights. -/
module

public import proofs.«01_k».proof.Proof.Gen.InProjLastIdeal.Value
public import proofs.«01_k».proof.Proof.Gen.InProjLastReferenceIdeal.Run
public import proofs.«01_k».proof.Proof.Norm
public import Idealize.ShloMosaic.Lib.Pipeline.ValueKit
public import Idealize.ShloMosaic.Lib.Pipeline.ValueKit.Held
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjLastIdeal.Eqn

open Cert.InProjLastIdeal Cert.InProjLastIdeal.Gen

/-- The modulated norm of token `i` of all batches at entry `k`. -/
def tok (X : FVec Ideal S16x256x2048 .f32) (M : FVec Ideal S1x1x6144 .f32) (i : Fin 4096) (k : Fin 2048) : EReal :=
  Spec.modNorm (fun l => X (ix3 ⟨i.val / 256, by omega⟩ ⟨i.val % 256, by omega⟩ l))
    (fun l => M (ix3 0 0 ⟨l.val, by omega⟩))
    (fun l => M (ix3 0 0 ⟨2048 + l.val, by omega⟩)) k

/-- The projection's result at token `i` and column `j`. -/
def proj (X : FVec Ideal S16x256x2048 .f32) (M : FVec Ideal S1x1x6144 .f32) (W : FVec Ideal S2048x5632 .bf16) (b : FVec Ideal S1x5632 .f32)
    (i : Fin 4096) (j : Fin 1536) : EReal :=
  (∑ k : Fin 2048, tok X M i k * W (ix2 k ⟨j.val, by omega⟩)) + b (ix2 0 ⟨j.val, by omega⟩)

variable (m : (ℓ : Loc nD τ sig) → Buf (Elt Ideal) ℓ)

/-- Every window's block index at grid point `t`. -/
theorem idx : ∀ t : Fin cfg0.N, win0_0.index t = ![t.val / 3, 0] ∧ win0_1.index t = ![0, 0, 0]
    ∧ win0_2.index t = ![0, t.val % 3] ∧ win0_3.index t = ![0, t.val % 3] ∧ win0_4.index t = ![t.val / 3, t.val % 3] ∧ t.val < 24 :=
  (by decide +kernel : ∀ t : Fin grid0.N, _)

/-- The region's operand `main_v0` holds the tokens with batch and position merged. -/
theorem V_v0 (c : Dev nD) (i : Fin 4096) (k : Fin 2048) : (show FVec Ideal S4096x2048 .f32 from V m c main_v0) (ix2 i k)
    = (show FVec Ideal S16x256x2048 .f32 from m ((c.tc : Thread nD τ).loc main_arg0)) (ix3 ⟨i.val / 256, by omega⟩ ⟨i.val % 256, by omega⟩ k) := by
  have h : V m c main_v0 = shapeCast S4096x2048 (m ((c.tc : Thread nD τ).loc main_arg0)) shapeCasts_S16x256x2048_S4096x2048 := by
    unfold V; after_results; try rfl
  rw [h]; clean_types; pointwise

/-- The tokens' block at a point is the argument's rows from `512 (t / 4)` on. -/
theorem iblk0 (c : Dev nD) (t : Fin cfg0.N) (y : Fin 512) (k : Fin 2048) (i : Fin 4096) (hi : (i : ℕ) = t.val / 3 * 512 + y) :
    (show FVec Ideal S512x2048 .f32 from iblk m c 0 t) (ix2 y k)
      = (show FVec Ideal S16x256x2048 .f32 from m ((c.tc : Thread nD τ).loc main_arg0)) (ix3 ⟨i.val / 256, by omega⟩ ⟨i.val % 256, by omega⟩ k) := by
  refine Eq.trans (b := (show FVec Ideal S4096x2048 .f32 from V m c main_v0) (ix2 i k)) ?_ (V_v0 m c i k)
  blk_ext [iblk, idx t]

/-- The modulation's block at a point is the row of its batch. -/
theorem iblk1 (c : Dev nD) (t : Fin cfg0.N) (y : Fin 512) (k : Fin 6144) (i : Fin 4096) (hi : (i : ℕ) = t.val / 3 * 512 + y) :
    (show FVec Ideal S1x1x6144 .f32 from iblk m c 1 t) (ix3 0 0 k)
      = (show FVec Ideal S1x1x6144 .f32 from m ((c.tc : Thread nD τ).loc main_arg1)) (ix3 0 0 k) := by
  blk_ext [iblk, V_main_arg1, idx t]

/-- The weights' block at a point is a column tile. -/
theorem iblk2 (c : Dev nD) (t : Fin cfg0.N) (k : Fin 2048) (y : Fin 512) (j : Fin 1536) (hj : (j : ℕ) = t.val % 3 * 512 + y) :
    (show FVec Ideal S2048x512 .bf16 from iblk m c 2 t) (ix2 k y)
      = (show FVec Ideal S2048x5632 .bf16 from m ((c.tc : Thread nD τ).loc main_arg2)) (ix2 k ⟨j.val, by omega⟩) := by
  blk_ext [iblk, V_main_arg2, idx t]

/-- The bias' block at a point is a column tile. -/
theorem iblk3 (c : Dev nD) (t : Fin cfg0.N) (y : Fin 512) (j : Fin 1536) (hj : (j : ℕ) = t.val % 3 * 512 + y) :
    (show FVec Ideal S1x512 .f32 from iblk m c 3 t) (ix2 0 y)
      = (show FVec Ideal S1x5632 .f32 from m ((c.tc : Thread nD τ).loc main_arg3)) (ix2 0 ⟨j.val, by omega⟩) := by
  blk_ext [iblk, V_main_arg3, idx t]

/-- The tile the kernel keeps in scratch is the modulated norm of its rows. -/
theorem pay1_at (v10 v12 : FVec Ideal S1x1x2048 .f32) (v14 : FVec Ideal S512x2048 .f32) (y : Fin 512) (k : Fin 2048) :
    k0_pay1 (F := Ideal) v10 v12 v14 (ix2 y k)
      = Spec.modNorm (fun l => v14 (ix2 y l)) (fun l => v10 (ix3 0 0 l)) (fun l => v12 (ix3 0 0 l)) k := by
  pointwise [k0_pay1]
  rfl

/-- The projection's tile at an index. -/
theorem pay2_at (v3 : FVec Ideal S512x2048 .bf16) (v4 : FVec Ideal S2048x512 .bf16) (v6 : FVec Ideal S1x512 .f32) (y : Fin 512) (z : Fin 512) :
    k0_pay2 (F := Ideal) v3 v4 v6 (ix2 y z) = (∑ k : Fin 2048, v3 (ix2 y k) * v4 (ix2 k z)) + v6 (ix2 0 z) := by
  pointwise [k0_pay2]

/-- What the scratch holds after point `t`: the modulated norm of the point's row tile. -/
theorem held (c : Dev nD) (t : Fin cfg0.N) (y : Fin 512) (k : Fin 2048) (i : Fin 4096) (hi : (i : ℕ) = t.val / 3 * 512 + y) :
    (show FVec Ideal S512x2048 .bf16 from (outsAt0 m c t.val t.isLt).2) (ix2 y k)
      = tok (m ((c.tc : Thread nD τ).loc main_arg0)) (m ((c.tc : Thread nD τ).loc main_arg1)) i k := by
  have ht (t : Fin cfg0.N) : t.val < 24 := lt_of_lt_of_eq t.isLt N_0
  have key := Pipeline.eq_of_write_hold_apply (fun n h => (outsAt0 m c n h).2) 3
    (fun t j => tok (m ((c.tc : Thread nD τ).loc main_arg0)) (m ((c.tc : Thread nD τ).loc main_arg1))
      (⟨t.val / 3 * 512 + (j 0).val, by have := ht t; have : (j 0).val < 512 := (j 0).isLt; omega⟩ : Fin 4096) (j 1))
    (fun t h j => by
      rw [outsAt0_A m c t h]; frame_out
      idx_vars j
      refine (pay1_at _ _ _ j0 j1).trans ?_
      have := ht t
      unfold tok
      congr 1 <;> funext l
      · exact iblk0 m c t j0 l _ rfl
      · clean_types; pointwise; exact iblk1 m c t j0 _ ⟨t.val / 3 * 512 + j0.val, by omega⟩ rfl
      · clean_types; pointwise; exact iblk1 m c t j0 _ ⟨t.val / 3 * 512 + j0.val, by omega⟩ rfl)
    (fun t h j => by rw [outsAt0_B m c t h]; rfl) t (ix2 y k)
  refine key.trans ?_
  exact congrArg (fun r => tok _ _ r k) (Fin.ext (by show 3 * (t.val / 3) / 3 * 512 + y.val = i.val; omega))

/-- What grid point `t` leaves in the output tile: the projection at the tile's tokens and columns. -/
theorem tile (c : Dev nD) (t : Fin cfg0.N) (y : Fin 512) (z : Fin 512) (i : Fin 4096) (j : Fin 1536)
    (hi : (i : ℕ) = t.val / 3 * 512 + y) (hj : (j : ℕ) = t.val % 3 * 512 + z) :
    (show FVec Ideal S512x512 .f32 from (outsAt0 m c t.val t.isLt).1) (ix2 y z)
      = proj (m ((c.tc : Thread nD τ).loc main_arg0)) (m ((c.tc : Thread nD τ).loc main_arg1))
          (m ((c.tc : Thread nD τ).loc main_arg2)) (m ((c.tc : Thread nD τ).loc main_arg3)) i j := by
  have hs := held m c t y
  by_cases h : t.val % 3 = 0
  · rw [outsAt0_A m c t h] at hs ⊢
    revert hs; frame_out; intro hs
    refine (pay2_at _ _ _ y z).trans ?_
    exact congrArg₂ (· + ·) (Finset.sum_congr rfl fun k _ => congrArg₂ (· * ·) (hs k i hi) (iblk2 m c t k z j hj))
      (iblk3 m c t z j hj)
  · rw [outsAt0_B m c t h] at hs ⊢
    have hs' : ∀ k, (show FVec Ideal S512x2048 .bf16 from (outsAt0 m c (t.val - 1) (by omega)).2) (ix2 y k)
        = tok (m ((c.tc : Thread nD τ).loc main_arg0)) (m ((c.tc : Thread nD τ).loc main_arg1)) i k := fun k => hs k i hi
    clear hs
    frame_out
    simp only [read_unread_whole]
    refine (pay2_at _ _ _ y z).trans ?_
    exact congrArg₂ (· + ·) (Finset.sum_congr rfl fun k _ => congrArg₂ (· * ·) (hs' k) (iblk2 m c t k z j hj))
      (iblk3 m c t z j hj)

/-- The kernel's result: the projection of every token. -/
theorem final (c : Dev nD) : (dats m 0 c).arrAt 4 (cfgs 0).N
    = fun j : S4096x1536.Idx => proj (m ((c.tc : Thread nD τ).loc main_arg0)) (m ((c.tc : Thread nD τ).loc main_arg1))
          (m ((c.tc : Thread nD τ).loc main_arg2)) (m ((c.tc : Thread nD τ).loc main_arg3)) (j 0) (j 1) := by
  refine (dats m 0 c).arrAt_eq_of_covers 4 _ (by decide +kernel) fun t _ y => ?_
  blk_simp
  rw [after0_4]
  idx_vars y
  exact tile m c t y0 y1 _ _ (by blk_simp [idx t]) (by blk_simp [idx t])

end Cert.InProjLastIdeal.Eqn

end
-- ==== Proof.InProjLastClaim.lean ====
/- The input projection of the last layer's context: its claims. -/
module

public import proofs.«01_k».proof.Defs
public import proofs.«01_k».proof.Proof.Gen.InProjLast.Frame
public import proofs.«01_k».proof.Proof.InProjLastValue
public import Idealize.ShloMosaic.Lib.Claim

@[expose] public section

set_option maxRecDepth 16384

noncomputable section

open Idealize.ShloMosaic Idealize.ShloMosaic.TcCoe Idealize.SL.Sem

namespace Cert.Proof.InProjLast

/-- The kernel runs, leaves its arguments as they were and every semaphore at zero. -/
theorem quiet : Cert.quiescent_InProjLast (hInProjLast := Cert.InProjLast.Gen.facts) := fun m ρ _ => Cert.InProjLast.Gen.frame m ρ

/-- So does its ideal twin. -/
theorem quiet_ideal : Cert.quiescent_InProjLastIdeal (hInProjLastIdeal := Cert.InProjLastIdeal.Gen.facts) := fun m ρ _ => Cert.InProjLastIdeal.Gen.frame m ρ

/-- So does the reference. -/
theorem quiet_ref : Cert.quiescent_InProjLastReferenceIdeal (hInProjLastReferenceIdeal := Cert.InProjLastReferenceIdeal.Gen.facts) := fun m ρ _ =>
  (θ_run Cert.InProjLastReferenceIdeal.defs _ _).mono (fun r h => ⟨fun c => (h c).2, sem_eq_zero_of_no_sems (by decide) r.2⟩)
    (Cert.InProjLastReferenceIdeal.Value.run m ρ)

/-- The ideal kernel and the reference leave the same result from the same arguments. -/
theorem equal : Cert.algebraic_InProjLastIdeal_InProjLastReferenceIdeal (hInProjLastIdeal := Cert.InProjLastIdeal.Gen.facts) (hInProjLastReferenceIdeal := Cert.InProjLastReferenceIdeal.Gen.facts) := by
  pair_intro
  · run_from Cert.InProjLastIdeal.Gen.run_main m g
  · run_from Cert.InProjLastReferenceIdeal.Value.run m' g'
    rw [Cert.InProjLastIdeal.Eqn.final m c]
    clean_types
    funext j
    idx_vars j
    pointwise
    rfl

end Cert.Proof.InProjLast

end
-- ==== Proof.SguCtxRef.lean ====
/- The gating's reference on the context stream: its result in named pieces, and each piece entry by entry. -/
module

public import proofs.«01_k».proof.Proof.Gen.SguCtxReferenceIdeal.Run
public import proofs.«01_k».proof.Proof.SguRef
public import Idealize.ShloMosaic.PureOps.Ideal.Laws
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.SguCtxReferenceIdeal.Eqn

open Cert.SguCtxReferenceIdeal Cert.SguCtxReferenceIdeal.Gen

/-- The activation of every entry. -/
def gelu (UV : FVec Ideal S16x256x1024 .f32) : FVec Ideal S16x256x1024 .f32 :=
  mulf UV (mulf (broadcastInDim S16x256x1024 ![] bcast_S_S16x256x1024 (constant S_ .f32 0x3F000000#32)) (addf (broadcastInDim S16x256x1024 ![] bcast_S_S16x256x1024 (constant S_ .f32 0x3F800000#32)) (Host.tanh (mulf (broadcastInDim S16x256x1024 ![] bcast_S_S16x256x1024 (constant S_ .f32 0x3F4C422A#32)) (addf UV (mulf (broadcastInDim S16x256x1024 ![] bcast_S_S16x256x1024 (constant S_ .f32 0x3D372713#32)) (mulf (mulf UV UV) UV)))))))
/-- The norm of every row. -/
def norm (V : FVec Ideal S16x256x512 .f32) : FVec Ideal S16x256x512 .f32 :=
  mulf (subf V (broadcastInDim S16x256x512 ![0, 1, 2] bcast_S16x256x1_S16x256x512_0_1_2 (Host.divf (broadcastInDim S16x256x1 ![0, 1] bcast_S16x256_S16x256x1_0_1 (Host.reduceAdd V (constant S_ .f32 0x00000000#32) reducesTo_S16x256x512_S16x256_d2 h_S_)) (broadcastInDim S16x256x1 ![] bcast_S_S16x256x1 (constant S_ .f32 0x44000000#32))))) (broadcastInDim S16x256x512 ![0, 1, 2] bcast_S16x256x1_S16x256x512_0_1_2 (Host.rsqrt (addf (Host.divf (broadcastInDim S16x256x1 ![0, 1] bcast_S16x256_S16x256x1_0_1 (Host.reduceAdd (mulf (subf V (broadcastInDim S16x256x512 ![0, 1, 2] bcast_S16x256x1_S16x256x512_0_1_2 (Host.divf (broadcastInDim S16x256x1 ![0, 1] bcast_S16x256_S16x256x1_0_1 (Host.reduceAdd V (constant S_ .f32 0x00000000#32) reducesTo_S16x256x512_S16x256_d2 h_S_)) (broadcastInDim S16x256x1 ![] bcast_S_S16x256x1 (constant S_ .f32 0x44000000#32))))) (subf V (broadcastInDim S16x256x512 ![0, 1, 2] bcast_S16x256x1_S16x256x512_0_1_2 (Host.divf (broadcastInDim S16x256x1 ![0, 1] bcast_S16x256_S16x256x1_0_1 (Host.reduceAdd V (constant S_ .f32 0x00000000#32) reducesTo_S16x256x512_S16x256_d2 h_S_)) (broadcastInDim S16x256x1 ![] bcast_S_S16x256x1 (constant S_ .f32 0x44000000#32)))))) (constant S_ .f32 0x00000000#32) reducesTo_S16x256x512_S16x256_d2 h_S_)) (broadcastInDim S16x256x1 ![] bcast_S_S16x256x1 (constant S_ .f32 0x44000000#32))) (broadcastInDim S16x256x1 ![] bcast_S_S16x256x1 (constant S_ .f32 0x358637BD#32)))))
/-- Every chunk of tokens mixed by the group's matrix. -/
def mix (V : FVec Ideal S16x256x512 .f32) (w : FVec Ideal S4x128x128 .f32) (b : FVec Ideal S4x128 .f32) : FVec Ideal S16x256x512 .f32 :=
  shapeCast S16x256x512 (addf (transpose S16x2x128x4x128 [1, 2, 4, 0, 3] (Host.dotGeneral dot_S16x2x128x4x128_S4x128x128_S4x16x2x128x128_2_2_014_1_3_0 none (shapeCast _ V shapeCasts_S16x256x512_S16x2x128x4x128) w) transposes_S4x16x2x128x128_S16x2x128x4x128_1_2_4_0_3) (broadcastInDim S16x2x128x4x128 ![0, 1, 2, 3, 4] bcast_S1x1x128x4x1_S16x2x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] b transposes_S4x128_S128x4_1_0))))) shapeCasts_S16x2x128x4x128_S16x256x512
/-- The gate. -/
def silu (G : FVec Ideal S16x256x512 .f32) : FVec Ideal S16x256x512 .f32 :=
  mulf G (Host.divf (broadcastInDim S16x256x512 ![] bcast_S_S16x256x512 (constant S_ .f32 0x3F800000#32)) (addf (broadcastInDim S16x256x512 ![] bcast_S_S16x256x512 (constant S_ .f32 0x3F800000#32)) (Host.exp (Host.negf G))))

/-- The activation at an entry. -/
theorem gelu_at (UV : FVec Ideal S16x256x1024 .f32) (i : S16x256x1024.Idx) : gelu UV i = Spec.gel (UV i) := by
  unfold gelu; pointwise; rfl

/-- The norm at an entry. -/
theorem norm_at (V : FVec Ideal S16x256x512 .f32) (b : Fin 16) (n : Fin 256) (k : Fin 512) :
    norm V (ix3 b n k) = Spec.norm512 (fun l => V (ix3 b n l)) k := by
  unfold norm; pointwise; rfl

/-- The mix at an entry. -/
theorem mix_at (V : FVec Ideal S16x256x512 .f32) (w : FVec Ideal S4x128x128 .f32) (bi : FVec Ideal S4x128 .f32) (b : Fin 16) (n : Fin 256) (k : Fin 512) :
    mix V w bi (ix3 b n k) = (∑ q : Fin 128, w (ix3 ⟨k.val / 128, by omega⟩ ⟨n.val % 128, by omega⟩ q)
      * V (ix3 b ⟨n.val / 128 * 128 + q.val, by omega⟩ k)) + bi (ix2 ⟨k.val / 128, by omega⟩ ⟨n.val % 128, by omega⟩) := by
  unfold mix; pointwise
  exact congrArg (· + _) (Finset.sum_congr rfl fun q _ => mul_comm _ _)

/-- The gate at an entry. -/
theorem silu_at (G : FVec Ideal S16x256x512 .f32) (i : S16x256x512.Idx) : silu G i = G i * Ideal.logistic (G i) := by
  unfold silu; pointwise; rfl

/-- The gated product. -/
def res (Z : FVec Ideal S16x256x5632 .f32) (w : FVec Ideal S4x128x128 .f32) (b : FVec Ideal S4x128 .f32) : FVec Ideal S16x256x512 .bf16 :=
  truncf .bf16 (mulf (mulf (extractStridedSlice S16x256x512 ![0, 0, 0] (gelu (extractStridedSlice S16x256x1024 ![0, 0, 2048] Z slices_S16x256x5632_S16x256x1024_0_0_2048)) slices_S16x256x1024_S16x256x512_0_0_0) (mix (norm (extractStridedSlice S16x256x512 ![0, 0, 512] (gelu (extractStridedSlice S16x256x1024 ![0, 0, 2048] Z slices_S16x256x5632_S16x256x1024_0_0_2048)) slices_S16x256x1024_S16x256x512_0_0_512)) w b)) (silu (extractStridedSlice S16x256x512 ![0, 0, 3584] Z slices_S16x256x5632_S16x256x512_0_0_3584))) bitsLt_bf16_f32

/-- The result is the gated product. -/
theorem res_eq (m : (ℓ : Loc nD τ sig) → Buf (Elt Ideal) ℓ) (c : Dev nD) : Value.res_main_v47 m c =
    res (m ((c.tc : Thread nD τ).loc main_arg0)) (m ((c.tc : Thread nD τ).loc main_arg1)) (m ((c.tc : Thread nD τ).loc main_arg2)) := rfl

end Cert.SguCtxReferenceIdeal.Eqn

end
-- ==== Proof.SguCtxValue.lean ====
/- The spatial gating on the context stream: the array the pipelined kernel leaves, entry by entry. Every grid point writes eight tiles of 128 tokens by
   128 columns; each is one chunk of tokens mixed by one group's matrix. -/
module

public import proofs.«01_k».proof.Proof.Gen.SguCtxIdeal.Value
public import proofs.«01_k».proof.Proof.SguCtxRef
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguCtxIdeal.Eqn

open Cert.SguCtxIdeal Cert.SguCtxIdeal.Gen

/-- The gating's result at batch `b`, token `n` and column `k`. -/
def gated (Z : FVec Ideal S16x256x5632 .f32) (w : FVec Ideal S4x128x128 .f32) (bi : FVec Ideal S4x128 .f32)
    (b : Fin 16) (n : Fin 256) (k : Fin 512) : EReal :=
  Spec.gel (Z (ix3 b n ⟨2048 + k.val, by omega⟩))
    * ((∑ q : Fin 128, w (ix3 ⟨k.val / 128, by omega⟩ ⟨n.val % 128, by omega⟩ q)
        * Spec.norm512 (fun l => Spec.gel (Z (ix3 b ⟨n.val / 128 * 128 + q.val, by omega⟩ ⟨2560 + l.val, by omega⟩))) k)
      + bi (ix2 ⟨k.val / 128, by omega⟩ ⟨n.val % 128, by omega⟩))
    * (Z (ix3 b n ⟨3584 + k.val, by omega⟩) * Ideal.logistic (Z (ix3 b n ⟨3584 + k.val, by omega⟩)))

/-- What a point's tiles hold, from the activated half `u`, the normalized half `v`, the gate `g`, the matrices and the biases. -/
def tiles (u g : FVec Ideal S256x512 .f32) (v : FVec Ideal S256x512 .bf16) (w : FVec Ideal S4x128x128 .bf16) (bi : FVec Ideal S4x128x1 .f32)
    (r : Fin 256) (k : Fin 512) : EReal :=
  u (ix2 r k) * ((∑ q : Fin 128, w (ix3 ⟨k.val / 128, by omega⟩ ⟨r.val % 128, by omega⟩ q) * v (ix2 ⟨r.val / 128 * 128 + q.val, by omega⟩ k))
    + bi (ix3 ⟨k.val / 128, by omega⟩ ⟨r.val % 128, by omega⟩ 0)) * g (ix2 r k)

/-- One tile's entry is the tiles' entry at its place. -/
theorem tiles_at (u g : FVec Ideal S256x512 .f32) (v : FVec Ideal S256x512 .bf16) (w : FVec Ideal S4x128x128 .bf16) (bi : FVec Ideal S4x128x1 .f32)
    (r : Fin 256) (k : Fin 512) (p : Fin 128) (a : Fin 4) (rows : Fin 128 → Fin 256) (hk : k.val / 128 = a.val) (hp : r.val % 128 = p.val)
    (hr : ∀ q, (rows q).val = r.val / 128 * 128 + q.val) :
    u (ix2 r k) * ((∑ q : Fin 128, w (ix3 a p q) * v (ix2 (rows q) k)) + bi (ix3 a p 0)) * g (ix2 r k) = tiles u g v w bi r k := by
  unfold tiles
  refine congrArg₂ (fun A C => u (ix2 r k) * (A + C) * g (ix2 r k)) (Finset.sum_congr rfl fun q _ => ?_) ?_
  · exact congrArg₂ (· * ·) (congrArg₂ (fun a p => w (ix3 a p q)) (Fin.ext hk.symm) (Fin.ext hp.symm))
      (congrArg (fun x => v (ix2 x k)) (Fin.ext (hr q)))
  · exact congrArg₂ (fun a p => bi (ix3 a p 0)) (Fin.ext hk.symm) (Fin.ext hp.symm)

variable (m : (ℓ : Loc nD τ sig) → Buf (Elt Ideal) ℓ)

/-- Every window's block index at grid point `t`. -/
theorem idx : ∀ t : Fin cfg0.N, win0_0.index t = ![t.val, 0, 2] ∧ win0_1.index t = ![t.val, 0, 7]
    ∧ win0_2.index t = ![0, 0, 0] ∧ win0_3.index t = ![0, 0, 0] ∧ win0_4.index t = ![t.val, 0, 0] ∧ t.val < 16 :=
  (by decide +kernel : ∀ t : Fin grid0.N, _)

/-- The activated block at an entry. -/
theorem pay2_at (x : FVec Ideal S1x256x1024 .f32) (r : Fin 256) (k : Fin 1024) : k0_pay3 (F := Ideal) x (ix2 r k) = Spec.gel (x (ix3 0 r k)) := by
  pointwise [k0_pay3]
  unfold Spec.gel
  try rw [mul_comm (x (ix3 0 r k)) (x (ix3 0 r k) * x (ix3 0 r k))]
  try rfl

/-- The first half at an entry. -/
theorem pay3_at (x : FVec Ideal S1x256x1024 .f32) (r : Fin 256) (k : Fin 512) :
    k0_pay4 (F := Ideal) x (ix2 r k) = Spec.gel (x (ix3 0 r ⟨k.val, by omega⟩)) := by
  refine Eq.trans ?_ (pay2_at x r ⟨k.val, by omega⟩)
  unfold k0_pay4; generalize k0_pay3 (F := Ideal) x = z; pointwise

/-- The normalized second half at an entry. -/
theorem pay4_at (x : FVec Ideal S1x256x1024 .f32) (r : Fin 256) (k : Fin 512) :
    k0_pay5 (F := Ideal) x (ix2 r k) = Spec.norm512 (fun l => Spec.gel (x (ix3 0 r ⟨512 + l.val, by omega⟩))) k := by
  have e : (fun l : Fin 512 => Spec.gel (x (ix3 0 r ⟨512 + l.val, by omega⟩))) = fun l => k0_pay3 (F := Ideal) x (ix2 r ⟨512 + l.val, by omega⟩) :=
    funext fun l => (pay2_at x r _).symm
  rw [e]
  unfold k0_pay5; generalize k0_pay3 (F := Ideal) x = z; pointwise
  rfl

/-- The gate at an entry. -/
theorem pay5_at (x : FVec Ideal S1x256x512 .f32) (r : Fin 256) (k : Fin 512) :
    k0_pay6 (F := Ideal) x (ix2 r k) = x (ix3 0 r k) * Ideal.logistic (x (ix3 0 r k)) := by
  pointwise [k0_pay6]

/-- What grid point `t` leaves in the output block: the tiles of its blocks. -/
theorem point (c : Dev nD) (t : Fin cfg0.N) (y : S1x256x512.Idx) :
    (show FVec Ideal S1x256x512 .bf16 from outsAt0 m c t) y
      = tiles (k0_pay4 (F := Ideal) (X0_0 m c t)) (k0_pay6 (F := Ideal) (iblk m c 1 t)) (k0_pay5 (F := Ideal) (X0_0 m c t))
          (iblk m c 2 t) (iblk m c 3 t) (y 1) (y 2) := by
  unfold outsAt0
  frame_out
  generalize X0_0 m c t = X
  generalize iblk m c 1 t = G
  generalize iblk m c 2 t = W
  generalize iblk m c 3 t = B
  canon_tiles x h
  all_goals
    open_payloads
    idx_vars x
    pointwise
    refine (tiles_at (k0_pay4 (F := Ideal) X) (k0_pay6 (F := Ideal) G) (k0_pay5 (F := Ideal) X) W B _ _ _ _ _ ?_ ?_ ?_).trans
      (congrArg₂ (tiles _ _ _ _ _) (Fin.ext ?_) (Fin.ext ?_))
  all_goals first
    | omega
    | (dsimp only; omega)
    | (intro q; dsimp only; omega)
    | (simp; omega)

/-- The first window's block at an entry. -/
theorem x0_at (c : Dev nD) (t : Fin cfg0.N) (r : Fin 256) (k : Fin 1024) (b : Fin 16) (n : Fin 256)
    (hb : b.val = t.val) (hn : n.val = r.val) :
    (show FVec Ideal S1x256x1024 .f32 from X0_0 m c t) (ix3 0 r k)
      = (show FVec Ideal S16x256x5632 .f32 from m ((c.tc : Thread nD τ).loc main_arg0)) (ix3 b n ⟨2048 + k.val, by omega⟩) := by
  show (cfg0.win 0).fill (cfg0.grid.coords t) dflt0_0 (iblk m c 0 t) (ix3 0 r k) = _
  unfold Pipeline.Window.fill
  rw [dif_pos (moved0_0 t _)]
  blk_ext [iblk, V_main_arg0, idx t]

/-- The second window's block at an entry. -/
theorem iblk1 (c : Dev nD) (t : Fin cfg0.N) (r : Fin 256) (k : Fin 512) (b : Fin 16) (n : Fin 256)
    (hb : b.val = t.val) (hn : n.val = r.val) :
    (show FVec Ideal S1x256x512 .f32 from iblk m c 1 t) (ix3 0 r k)
      = (show FVec Ideal S16x256x5632 .f32 from m ((c.tc : Thread nD τ).loc main_arg0)) (ix3 b n ⟨3584 + k.val, by omega⟩) := by
  blk_ext [iblk, V_main_arg0, idx t]

/-- The matrices that the region reads are the argument's. -/
theorem V_v0 (c : Dev nD) (i : S4x128x128.Idx) : (show FVec Ideal S4x128x128 .bf16 from V m c main_v0) i
    = (show FVec Ideal S4x128x128 .f32 from m ((c.tc : Thread nD τ).loc main_arg1)) i := by
  have h : V m c main_v0 = truncf .bf16 (show FVec Ideal S4x128x128 .f32 from m ((c.tc : Thread nD τ).loc main_arg1)) bitsLt_bf16_f32 := by
    unfold V; after_results; try rfl
  rw [h]; clean_types; pointwise

/-- The matrices' block at an entry. -/
theorem iblk2 (c : Dev nD) (t : Fin cfg0.N) (g : Fin 4) (p q : Fin 128) :
    (show FVec Ideal S4x128x128 .bf16 from iblk m c 2 t) (ix3 g p q)
      = (show FVec Ideal S4x128x128 .f32 from m ((c.tc : Thread nD τ).loc main_arg1)) (ix3 g p q) := by
  refine Eq.trans (b := (show FVec Ideal S4x128x128 .bf16 from V m c main_v0) (ix3 g p q)) ?_ (V_v0 m c _)
  blk_ext [iblk, idx t]

/-- The biases that the region reads are the argument's. -/
theorem V_v1 (c : Dev nD) (g : Fin 4) (p : Fin 128) : (show FVec Ideal S4x128x1 .f32 from V m c main_v1) (ix3 g p 0)
    = (show FVec Ideal S4x128 .f32 from m ((c.tc : Thread nD τ).loc main_arg2)) (ix2 g p) := by
  have h : V m c main_v1 = shapeCast S4x128x1 (m ((c.tc : Thread nD τ).loc main_arg2)) shapeCasts_S4x128_S4x128x1 := by
    unfold V; after_results; try rfl
  rw [h]; clean_types; pointwise

/-- The biases' block at an entry. -/
theorem iblk3 (c : Dev nD) (t : Fin cfg0.N) (g : Fin 4) (p : Fin 128) :
    (show FVec Ideal S4x128x1 .f32 from iblk m c 3 t) (ix3 g p 0)
      = (show FVec Ideal S4x128 .f32 from m ((c.tc : Thread nD τ).loc main_arg2)) (ix2 g p) := by
  refine Eq.trans (b := (show FVec Ideal S4x128x1 .f32 from V m c main_v1) (ix3 g p 0)) ?_ (V_v1 m c g p)
  blk_ext [iblk, idx t]

/-- The tiles of a point are the gating's result at the point's batch and tokens. -/
theorem tiles_eq (c : Dev nD) (t : Fin cfg0.N) (r : Fin 256) (k : Fin 512) (b : Fin 16) (n : Fin 256)
    (hb : b.val = t.val) (hn : n.val = r.val) :
    tiles (k0_pay4 (F := Ideal) (X0_0 m c t)) (k0_pay6 (F := Ideal) (iblk m c 1 t)) (k0_pay5 (F := Ideal) (X0_0 m c t))
        (iblk m c 2 t) (iblk m c 3 t) r k
      = gated (m ((c.tc : Thread nD τ).loc main_arg0)) (m ((c.tc : Thread nD τ).loc main_arg1)) (m ((c.tc : Thread nD τ).loc main_arg2)) b n k := by
  unfold tiles gated
  have e : (⟨r.val % 128, by omega⟩ : Fin 128) = ⟨n.val % 128, by omega⟩ := Fin.ext (by show r.val % 128 = n.val % 128; omega)
  refine congrArg₂ (· * ·) (congrArg₂ (· * ·) ?_ (congrArg₂ (· + ·) (Finset.sum_congr rfl fun q _ => congrArg₂ (· * ·) ?_ ?_) ?_)) ?_
  · exact (pay3_at _ r k).trans (congrArg Spec.gel (x0_at m c t r _ b n hb hn))
  · refine (iblk2 m c t _ _ q).trans ?_
    rw [e]
  · refine (pay4_at _ _ k).trans (congrArg (fun f => Spec.norm512 f k) (funext fun l => congrArg Spec.gel ?_))
    refine (x0_at m c t _ _ b ⟨n.val / 128 * 128 + q.val, by omega⟩ hb ?_).trans ?_
    · show n.val / 128 * 128 + q.val = (r.val / 128 * 128 + q.val); omega
    · exact congrArg (fun x => (show FVec Ideal S16x256x5632 .f32 from m ((c.tc : Thread nD τ).loc main_arg0)) (ix3 b _ x))
        (Fin.ext (show 2048 + (512 + l.val) = 2560 + l.val by omega))
  · refine (iblk3 m c t _ _).trans ?_
    rw [e]
  · refine (pay5_at _ r k).trans ?_
    exact congrArg (fun x => x * Ideal.logistic x) (iblk1 m c t r k b n hb hn)

/-- The same at a column given by its number. -/
theorem tiles_eq_of (c : Dev nD) (t : Fin cfg0.N) (r : Fin 256) (k : Fin 512) (b : Fin 16) (n : Fin 256) (k' : Fin 512)
    (hb : b.val = t.val) (hn : n.val = r.val) (hk : k'.val = k.val) :
    tiles (k0_pay4 (F := Ideal) (X0_0 m c t)) (k0_pay6 (F := Ideal) (iblk m c 1 t)) (k0_pay5 (F := Ideal) (X0_0 m c t))
        (iblk m c 2 t) (iblk m c 3 t) r k
      = gated (m ((c.tc : Thread nD τ).loc main_arg0)) (m ((c.tc : Thread nD τ).loc main_arg1)) (m ((c.tc : Thread nD τ).loc main_arg2)) b n k' := by
  obtain rfl : k' = k := Fin.ext hk
  exact tiles_eq m c t r k' b n hb hn

/-- The kernel's result: the gating of every token. -/
theorem final (c : Dev nD) : (dats m 0 c).arrAt 4 (cfgs 0).N
    = fun j : S16x256x512.Idx => gated (m ((c.tc : Thread nD τ).loc main_arg0)) (m ((c.tc : Thread nD τ).loc main_arg1))
          (m ((c.tc : Thread nD τ).loc main_arg2)) (j 0) (j 1) (j 2) := by
  refine (dats m 0 c).arrAt_eq_of_covers 4 _ (by decide +kernel) fun t _ y => ?_
  blk_simp
  rw [after0_4]
  refine (point m c t y).trans ?_
  idx_vars y
  exact tiles_eq_of m c t y1 y2 _ _ _ (by blk_simp [idx t]) (by blk_simp [idx t]) (by blk_simp [idx t])

end Cert.SguCtxIdeal.Eqn

end
-- ==== Proof.SguCtxClaim.lean ====
/- The spatial gating on the context stream: its claims. -/
module

public import proofs.«01_k».proof.Defs
public import proofs.«01_k».proof.Proof.Gen.SguCtx.Frame
public import proofs.«01_k».proof.Proof.Gen.SguCtxIdeal.Value
public import proofs.«01_k».proof.Proof.Gen.SguCtxReferenceIdeal.Run
public import proofs.«01_k».proof.Proof.SguCtxRef
public import proofs.«01_k».proof.Proof.SguCtxValue
public import Idealize.ShloMosaic.Lib.Claim

@[expose] public section

set_option maxRecDepth 16384

noncomputable section

open Idealize.ShloMosaic Idealize.ShloMosaic.TcCoe Idealize.SL.Sem

namespace Cert.Proof.SguCtx

open Cert.SguCtxReferenceIdeal Cert.SguCtxReferenceIdeal.Gen

/-- The kernel runs, leaves its arguments as they were and every semaphore at zero. -/
theorem quiet : Cert.quiescent_SguCtx (hSguCtx := Cert.SguCtx.Gen.facts) := fun m ρ _ => Cert.SguCtx.Gen.frame m ρ

/-- So does its ideal twin. -/
theorem quiet_ideal : Cert.quiescent_SguCtxIdeal (hSguCtxIdeal := Cert.SguCtxIdeal.Gen.facts) := fun m ρ _ => Cert.SguCtxIdeal.Gen.frame m ρ

/-- So does the reference. -/
theorem quiet_ref : Cert.quiescent_SguCtxReferenceIdeal (hSguCtxReferenceIdeal := Cert.SguCtxReferenceIdeal.Gen.facts) := fun m ρ _ =>
  (θ_run Cert.SguCtxReferenceIdeal.defs _ _).mono (fun r h => ⟨fun c => (h c).2, sem_eq_zero_of_no_sems (by decide) r.2⟩)
    (Cert.SguCtxReferenceIdeal.Value.run m ρ)

open Cert.SguCtxReferenceIdeal.Eqn in
/-- The reference's result at an entry. -/
theorem res_at (Z : FVec Ideal S16x256x5632 .f32) (w : FVec Ideal S4x128x128 .f32) (bi : FVec Ideal S4x128 .f32) (b : Fin 16) (n : Fin 256) (k : Fin 512) :
    res Z w bi (ix3 b n k) = Cert.SguCtxIdeal.Eqn.gated Z w bi b n k := by
  unfold res Cert.SguCtxIdeal.Eqn.gated
  refine congrArg₂ (· * ·) (congrArg₂ (· * ·) ?_ ((mix_at _ w bi b n k).trans (congrArg (· + _) (Finset.sum_congr rfl fun q _ => congrArg (_ * ·) ?_)))) ?_
  · refine Eq.trans (b := gelu (extractStridedSlice S16x256x1024 ![0, 0, 2048] Z slices_S16x256x5632_S16x256x1024_0_0_2048) (ix3 b n ⟨k.val, by omega⟩)) ?_
      ((gelu_at _ _).trans (congrArg Spec.gel ?_))
    · generalize gelu _ = z; pointwise
    · pointwise
  · refine (norm_at _ b _ k).trans (congrArg (fun f => Spec.norm512 f k) (funext fun l => ?_))
    refine Eq.trans (b := gelu (extractStridedSlice S16x256x1024 ![0, 0, 2048] Z slices_S16x256x5632_S16x256x1024_0_0_2048)
      (ix3 b ⟨n.val / 128 * 128 + q.val, by omega⟩ ⟨512 + l.val, by omega⟩)) ?_ ((gelu_at _ _).trans (congrArg Spec.gel ?_))
    · generalize gelu _ = z; pointwise
    · pointwise
      exact congrArg (fun x => Z (ix3 b _ x)) (Fin.ext (show 2048 + (512 + l.val) = 2560 + l.val by omega))
  · refine (silu_at _ _).trans (congrArg (fun x => x * Ideal.logistic x) ?_)
    pointwise

open Cert.SguCtxReferenceIdeal.Eqn in
/-- The same from equal arguments, as an array. -/
theorem res_fun {Z Z' : FVec Ideal S16x256x5632 .f32} {w w' : FVec Ideal S4x128x128 .f32} {b b' : FVec Ideal S4x128 .f32}
    (h0 : Z = Z') (h1 : w = w') (h2 : b = b') :
    res Z w b = fun x : S16x256x512.Idx => Cert.SguCtxIdeal.Eqn.gated Z' w' b' (x 0) (x 1) (x 2) := by
  subst h0 h1 h2
  funext x
  idx_vars x
  exact res_at _ _ _ x0 x1 x2

/-- The ideal kernel and the reference leave the same result from the same arguments. -/
theorem equal : Cert.algebraic_SguCtxIdeal_SguCtxReferenceIdeal (hSguCtxIdeal := Cert.SguCtxIdeal.Gen.facts) (hSguCtxReferenceIdeal := Cert.SguCtxReferenceIdeal.Gen.facts) := by
  pair_intro
  · run_from Cert.SguCtxIdeal.Gen.run_main m g
  · run_from Cert.SguCtxReferenceIdeal.Value.run m' g'
    obtain ⟨h0, h1, h2⟩ := hagree c
    exact ((Cert.SguCtxReferenceIdeal.Eqn.res_eq m' c).trans (res_fun h0 h1 h2)).trans (Cert.SguCtxIdeal.Eqn.final m c).symm

end Cert.Proof.SguCtx

end
-- ==== Proof.AdaValue.lean ====
/- The modulation's projection: the array the pipelined kernel leaves, entry by entry. -/
module

public import proofs.«01_k».proof.Proof.Gen.AdaIdeal.Value
public import Idealize.ShloMosaic.PureOps.Ideal.Laws
public import Idealize.ShloMosaic.Lib.Pipeline.ValueKit
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdaIdeal.Eqn

open Cert.AdaIdeal Cert.AdaIdeal.Gen

/-- The modulation of layer `l` for condition row `r` at column `j`. -/
def ada (S : FVec Ideal S24x2048 .f32) (W : FVec Ideal S4x2048x6144 .f32) (b : FVec Ideal S4x6144 .f32)
    (l : Fin 4) (r : Fin 24) (j : Fin 6144) : EReal :=
  (∑ k : Fin 2048, S (ix2 r k) * Ideal.logistic (S (ix2 r k)) * W (ix3 l k j)) + b (ix2 l j)

variable (m : (ℓ : Loc nD τ sig) → Buf (Elt Ideal) ℓ)

/-- Every window's block index at grid point `t`. -/
theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

/-- The conditions' block is the argument. -/
theorem iblk0 (c : Dev nD) (t : Fin cfg0.N) (r : Fin 24) (k : Fin 2048) :
    (show FVec Ideal S24x2048 .f32 from iblk m c 0 t) (ix2 r k)
      = (show FVec Ideal S24x2048 .f32 from m ((c.tc : Thread nD τ).loc main_arg0)) (ix2 r k) := by
  blk_ext [iblk, V_main_arg0, idx t]

/-- The weights' block is a column tile of the layer's matrix. -/
theorem iblk1 (c : Dev nD) (t : Fin cfg0.N) (k : Fin 2048) (y : Fin 1024) (l : Fin 4) (j : Fin 6144)
    (hl : l.val = t.val / 6) (hj : j.val = t.val % 6 * 1024 + y.val) :
    (show FVec Ideal S1x2048x1024 .f32 from iblk m c 1 t) (ix3 0 k y)
      = (show FVec Ideal S4x2048x6144 .f32 from m ((c.tc : Thread nD τ).loc main_arg1)) (ix3 l k j) := by
  blk_ext [iblk, V_main_arg1, idx t]

/-- The biases that the region reads are the argument's. -/
theorem V_v0 (c : Dev nD) (l : Fin 4) (j : Fin 6144) : (show FVec Ideal S4x1x6144 .f32 from V m c main_v0) (ix3 l 0 j)
    = (show FVec Ideal S4x6144 .f32 from m ((c.tc : Thread nD τ).loc main_arg2)) (ix2 l j) := by
  have h : V m c main_v0 = shapeCast S4x1x6144 (m ((c.tc : Thread nD τ).loc main_arg2)) shapeCasts_S4x6144_S4x1x6144 := by
    unfold V; after_results; try rfl
  rw [h]; clean_types; pointwise

/-- The biases' block is a column tile of the layer's row. -/
theorem iblk2 (c : Dev nD) (t : Fin cfg0.N) (y : Fin 1024) (l : Fin 4) (j : Fin 6144)
    (hl : l.val = t.val / 6) (hj : j.val = t.val % 6 * 1024 + y.val) :
    (show FVec Ideal S1x1x1024 .f32 from iblk m c 2 t) (ix3 0 0 y)
      = (show FVec Ideal S4x6144 .f32 from m ((c.tc : Thread nD τ).loc main_arg2)) (ix2 l j) := by
  refine Eq.trans (b := (show FVec Ideal S4x1x6144 .f32 from V m c main_v0) (ix3 l 0 j)) ?_ (V_v0 m c l j)
  blk_ext [iblk, idx t]

/-- The tile at an entry. -/
theorem pay1_at (v0 : FVec Ideal S24x2048 .f32) (v4 : FVec Ideal S1x2048x1024 .f32) (v8 : FVec Ideal S1x1x1024 .f32) (r : Fin 24) (y : Fin 1024) :
    k0_pay1 (F := Ideal) v0 v4 v8 (ix3 0 r y)
      = (∑ k : Fin 2048, v0 (ix2 r k) * Ideal.logistic (v0 (ix2 r k)) * v4 (ix3 0 k y)) + v8 (ix3 0 0 y) := by
  pointwise [k0_pay1]

/-- What grid point `t` leaves in the output tile. -/
theorem tile (c : Dev nD) (t : Fin cfg0.N) (x : Fin 1) (r : Fin 24) (y : Fin 1024) (l : Fin 4) (r' : Fin 24) (j : Fin 6144)
    (hl : l.val = t.val / 6) (hr : r'.val = r.val) (hj : j.val = t.val % 6 * 1024 + y.val) :
    out0_3 (F := Ideal) (iblk m c 0 t) (iblk m c 1 t) (iblk m c 2 t) (ix3 x r y)
      = ada (m ((c.tc : Thread nD τ).loc main_arg0)) (m ((c.tc : Thread nD τ).loc main_arg1)) (m ((c.tc : Thread nD τ).loc main_arg2)) l r' j := by
  obtain rfl : r' = r := Fin.ext hr
  obtain rfl : x = 0 := Subsingleton.elim _ _
  frame_out
  refine (pay1_at _ _ _ r' y).trans ?_
  unfold ada
  exact congrArg₂ (· + ·) (Finset.sum_congr rfl fun k _ => congrArg₂ (fun s w => s * Ideal.logistic s * w) (iblk0 m c t r' k)
    (iblk1 m c t k y l j hl hj)) (iblk2 m c t y l j hl hj)

/-- The kernel's result: the modulation of every layer. -/
theorem final (c : Dev nD) : (dats m 0 c).arrAt 3 (cfgs 0).N
    = fun j : S4x24x6144.Idx => ada (m ((c.tc : Thread nD τ).loc main_arg0)) (m ((c.tc : Thread nD τ).loc main_arg1))
          (m ((c.tc : Thread nD τ).loc main_arg2)) (j 0) (j 1) (j 2) := by
  refine (dats m 0 c).arrAt_eq_of_covers 3 _ (by decide +kernel) fun t _ y => ?_
  blk_simp
  rw [after0_3]
  idx_vars y
  exact tile m c t y0 y1 y2 _ _ _ (by blk_simp [idx t]) (by blk_simp [idx t]) (by blk_simp [idx t])

end Cert.AdaIdeal.Eqn

end
-- ==== Proof.AdaClaim.lean ====
/- The modulation's projection: its claims. -/
module

public import proofs.«01_k».proof.Defs
public import proofs.«01_k».proof.Proof.Gen.Ada.Frame
public import proofs.«01_k».proof.Proof.AdaValue
public import proofs.«01_k».proof.Proof.Gen.AdaReferenceIdeal.Run
public import Idealize.ShloMosaic.Lib.Claim

@[expose] public section

set_option maxRecDepth 16384

noncomputable section

open Idealize.ShloMosaic Idealize.ShloMosaic.TcCoe Idealize.SL.Sem

namespace Cert.Proof.Ada

/-- The kernel runs, leaves its arguments as they were and every semaphore at zero. -/
theorem quiet : Cert.quiescent_Ada (hAda := Cert.Ada.Gen.facts) := fun m ρ _ => Cert.Ada.Gen.frame m ρ

/-- So does its ideal twin. -/
theorem quiet_ideal : Cert.quiescent_AdaIdeal (hAdaIdeal := Cert.AdaIdeal.Gen.facts) := fun m ρ _ => Cert.AdaIdeal.Gen.frame m ρ

/-- So does the reference. -/
theorem quiet_ref : Cert.quiescent_AdaReferenceIdeal (hAdaReferenceIdeal := Cert.AdaReferenceIdeal.Gen.facts) := fun m ρ _ =>
  (θ_run Cert.AdaReferenceIdeal.defs _ _).mono (fun r h => ⟨fun c => (h c).2, sem_eq_zero_of_no_sems (by decide) r.2⟩)
    (Cert.AdaReferenceIdeal.Value.run m ρ)

/-- The ideal kernel and the reference leave the same result from the same arguments. -/
theorem equal : Cert.algebraic_AdaIdeal_AdaReferenceIdeal (hAdaIdeal := Cert.AdaIdeal.Gen.facts) (hAdaReferenceIdeal := Cert.AdaReferenceIdeal.Gen.facts) := by
  pair_intro
  · run_from Cert.AdaIdeal.Gen.run_main m g
  · run_from Cert.AdaReferenceIdeal.Value.run m' g'
    rw [Cert.AdaIdeal.Eqn.final m c]
    clean_types
    funext j
    idx_vars j
    pointwise [Cert.AdaIdeal.Eqn.ada]
    exact congrArg (fun z : EReal => z + _) (Finset.sum_congr rfl fun k _ => mul_comm _ _)

end Cert.Proof.Ada

end
-- ==== Proof.InProjCtxValue.lean ====
/- The input projection on the context stream: the array the pipelined kernel leaves is the reference's composed term of the same arguments.
   The kernel writes the modulated norm of a row tile into scratch at the first of the four points of the tile and holds it;
   every point multiplies it with a column tile of the weights. -/
module

public import proofs.«01_k».proof.Proof.Gen.InProjCtxIdeal.Value
public import proofs.«01_k».proof.Proof.Gen.InProjCtxReferenceIdeal.Run
public import proofs.«01_k».proof.Proof.Norm
public import Idealize.ShloMosaic.Lib.Pipeline.ValueKit
public import Idealize.ShloMosaic.Lib.Pipeline.ValueKit.Held
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjCtxIdeal.Eqn

open Cert.InProjCtxIdeal Cert.InProjCtxIdeal.Gen

/-- The modulated norm of token `i` of all batches at entry `k`. -/
def tok (X : FVec Ideal S16x256x2048 .f32) (M : FVec Ideal S1x1x6144 .f32) (i : Fin 4096) (k : Fin 2048) : EReal :=
  Spec.modNorm (fun l => X (ix3 ⟨i.val / 256, by omega⟩ ⟨i.val % 256, by omega⟩ l))
    (fun l => M (ix3 0 0 ⟨l.val, by omega⟩))
    (fun l => M (ix3 0 0 ⟨2048 + l.val, by omega⟩)) k

/-- The projection's result at token `i` and column `j`. -/
def proj (X : FVec Ideal S16x256x2048 .f32) (M : FVec Ideal S1x1x6144 .f32) (W : FVec Ideal S2048x5632 .bf16) (b : FVec Ideal S1x5632 .f32)
    (i : Fin 4096) (j : Fin 5632) : EReal :=
  (∑ k : Fin 2048, tok X M i k * W (ix2 k j)) + b (ix2 0 j)

variable (m : (ℓ : Loc nD τ sig) → Buf (Elt Ideal) ℓ)

/-- Every window's block index at grid point `t`. -/
theorem idx : ∀ t : Fin cfg0.N, win0_0.index t = ![t.val / 4, 0] ∧ win0_1.index t = ![0, 0, 0]
    ∧ win0_2.index t = ![0, t.val % 4] ∧ win0_3.index t = ![0, t.val % 4] ∧ win0_4.index t = ![t.val / 4, t.val % 4] ∧ t.val < 32 :=
  (by decide +kernel : ∀ t : Fin grid0.N, _)

/-- The region's operand `main_v0` holds the tokens with batch and position merged. -/
theorem V_v0 (c : Dev nD) (i : Fin 4096) (k : Fin 2048) : (show FVec Ideal S4096x2048 .f32 from V m c main_v0) (ix2 i k)
    = (show FVec Ideal S16x256x2048 .f32 from m ((c.tc : Thread nD τ).loc main_arg0)) (ix3 ⟨i.val / 256, by omega⟩ ⟨i.val % 256, by omega⟩ k) := by
  have h : V m c main_v0 = shapeCast S4096x2048 (m ((c.tc : Thread nD τ).loc main_arg0)) shapeCasts_S16x256x2048_S4096x2048 := by
    unfold V; after_results; try rfl
  rw [h]; clean_types; pointwise

/-- The tokens' block at a point is the argument's rows from `512 (t / 4)` on. -/
theorem iblk0 (c : Dev nD) (t : Fin cfg0.N) (y : Fin 512) (k : Fin 2048) (i : Fin 4096) (hi : (i : ℕ) = t.val / 4 * 512 + y) :
    (show FVec Ideal S512x2048 .f32 from iblk m c 0 t) (ix2 y k)
      = (show FVec Ideal S16x256x2048 .f32 from m ((c.tc : Thread nD τ).loc main_arg0)) (ix3 ⟨i.val / 256, by omega⟩ ⟨i.val % 256, by omega⟩ k) := by
  refine Eq.trans (b := (show FVec Ideal S4096x2048 .f32 from V m c main_v0) (ix2 i k)) ?_ (V_v0 m c i k)
  blk_ext [iblk, idx t]

/-- The modulation's block at a point is the row of its batch. -/
theorem iblk1 (c : Dev nD) (t : Fin cfg0.N) (y : Fin 512) (k : Fin 6144) (i : Fin 4096) (hi : (i : ℕ) = t.val / 4 * 512 + y) :
    (show FVec Ideal S1x1x6144 .f32 from iblk m c 1 t) (ix3 0 0 k)
      = (show FVec Ideal S1x1x6144 .f32 from m ((c.tc : Thread nD τ).loc main_arg1)) (ix3 0 0 k) := by
  blk_ext [iblk, V_main_arg1, idx t]

/-- The weights' block at a point is a column tile. -/
theorem iblk2 (c : Dev nD) (t : Fin cfg0.N) (k : Fin 2048) (y : Fin 1408) (j : Fin 5632) (hj : (j : ℕ) = t.val % 4 * 1408 + y) :
    (show FVec Ideal S2048x1408 .bf16 from iblk m c 2 t) (ix2 k y)
      = (show FVec Ideal S2048x5632 .bf16 from m ((c.tc : Thread nD τ).loc main_arg2)) (ix2 k j) := by
  blk_ext [iblk, V_main_arg2, idx t]

/-- The bias' block at a point is a column tile. -/
theorem iblk3 (c : Dev nD) (t : Fin cfg0.N) (y : Fin 1408) (j : Fin 5632) (hj : (j : ℕ) = t.val % 4 * 1408 + y) :
    (show FVec Ideal S1x1408 .f32 from iblk m c 3 t) (ix2 0 y)
      = (show FVec Ideal S1x5632 .f32 from m ((c.tc : Thread nD τ).loc main_arg3)) (ix2 0 j) := by
  blk_ext [iblk, V_main_arg3, idx t]

/-- The tile the kernel keeps in scratch is the modulated norm of its rows. -/
theorem pay1_at (v10 v12 : FVec Ideal S1x1x2048 .f32) (v14 : FVec Ideal S512x2048 .f32) (y : Fin 512) (k : Fin 2048) :
    k0_pay1 (F := Ideal) v10 v12 v14 (ix2 y k)
      = Spec.modNorm (fun l => v14 (ix2 y l)) (fun l => v10 (ix3 0 0 l)) (fun l => v12 (ix3 0 0 l)) k := by
  pointwise [k0_pay1]
  rfl

/-- The projection's tile at an index. -/
theorem pay2_at (v3 : FVec Ideal S512x2048 .bf16) (v4 : FVec Ideal S2048x1408 .bf16) (v6 : FVec Ideal S1x1408 .f32) (y : Fin 512) (z : Fin 1408) :
    k0_pay2 (F := Ideal) v3 v4 v6 (ix2 y z) = (∑ k : Fin 2048, v3 (ix2 y k) * v4 (ix2 k z)) + v6 (ix2 0 z) := by
  pointwise [k0_pay2]

/-- What the scratch holds after point `t`: the modulated norm of the point's row tile. -/
theorem held (c : Dev nD) (t : Fin cfg0.N) (y : Fin 512) (k : Fin 2048) (i : Fin 4096) (hi : (i : ℕ) = t.val / 4 * 512 + y) :
    (show FVec Ideal S512x2048 .bf16 from (outsAt0 m c t.val t.isLt).2) (ix2 y k)
      = tok (m ((c.tc : Thread nD τ).loc main_arg0)) (m ((c.tc : Thread nD τ).loc main_arg1)) i k := by
  have ht (t : Fin cfg0.N) : t.val < 32 := lt_of_lt_of_eq t.isLt N_0
  have key := Pipeline.eq_of_write_hold_apply (fun n h => (outsAt0 m c n h).2) 4
    (fun t j => tok (m ((c.tc : Thread nD τ).loc main_arg0)) (m ((c.tc : Thread nD τ).loc main_arg1))
      (⟨t.val / 4 * 512 + (j 0).val, by have := ht t; have : (j 0).val < 512 := (j 0).isLt; omega⟩ : Fin 4096) (j 1))
    (fun t h j => by
      rw [outsAt0_A m c t h]; frame_out
      idx_vars j
      refine (pay1_at _ _ _ j0 j1).trans ?_
      have := ht t
      unfold tok
      congr 1 <;> funext l
      · exact iblk0 m c t j0 l _ rfl
      · clean_types; pointwise; exact iblk1 m c t j0 _ ⟨t.val / 4 * 512 + j0.val, by omega⟩ rfl
      · clean_types; pointwise; exact iblk1 m c t j0 _ ⟨t.val / 4 * 512 + j0.val, by omega⟩ rfl)
    (fun t h j => by rw [outsAt0_B m c t h]; rfl) t (ix2 y k)
  refine key.trans ?_
  exact congrArg (fun r => tok _ _ r k) (Fin.ext (by show 4 * (t.val / 4) / 4 * 512 + y.val = i.val; omega))

/-- What grid point `t` leaves in the output tile: the projection at the tile's tokens and columns. -/
theorem tile (c : Dev nD) (t : Fin cfg0.N) (y : Fin 512) (z : Fin 1408) (i : Fin 4096) (j : Fin 5632)
    (hi : (i : ℕ) = t.val / 4 * 512 + y) (hj : (j : ℕ) = t.val % 4 * 1408 + z) :
    (show FVec Ideal S512x1408 .f32 from (outsAt0 m c t.val t.isLt).1) (ix2 y z)
      = proj (m ((c.tc : Thread nD τ).loc main_arg0)) (m ((c.tc : Thread nD τ).loc main_arg1))
          (m ((c.tc : Thread nD τ).loc main_arg2)) (m ((c.tc : Thread nD τ).loc main_arg3)) i j := by
  have hs := held m c t y
  by_cases h : t.val % 4 = 0
  · rw [outsAt0_A m c t h] at hs ⊢
    revert hs; frame_out; intro hs
    refine (pay2_at _ _ _ y z).trans ?_
    exact congrArg₂ (· + ·) (Finset.sum_congr rfl fun k _ => congrArg₂ (· * ·) (hs k i hi) (iblk2 m c t k z j hj))
      (iblk3 m c t z j hj)
  · rw [outsAt0_B m c t h] at hs ⊢
    have hs' : ∀ k, (show FVec Ideal S512x2048 .bf16 from (outsAt0 m c (t.val - 1) (by omega)).2) (ix2 y k)
        = tok (m ((c.tc : Thread nD τ).loc main_arg0)) (m ((c.tc : Thread nD τ).loc main_arg1)) i k := fun k => hs k i hi
    clear hs
    frame_out
    simp only [read_unread_whole]
    refine (pay2_at _ _ _ y z).trans ?_
    exact congrArg₂ (· + ·) (Finset.sum_congr rfl fun k _ => congrArg₂ (· * ·) (hs' k) (iblk2 m c t k z j hj))
      (iblk3 m c t z j hj)

/-- The kernel's result: the projection of every token. -/
theorem final (c : Dev nD) : (dats m 0 c).arrAt 4 (cfgs 0).N
    = fun j : S4096x5632.Idx => proj (m ((c.tc : Thread nD τ).loc main_arg0)) (m ((c.tc : Thread nD τ).loc main_arg1))
          (m ((c.tc : Thread nD τ).loc main_arg2)) (m ((c.tc : Thread nD τ).loc main_arg3)) (j 0) (j 1) := by
  refine (dats m 0 c).arrAt_eq_of_covers 4 _ (by decide +kernel) fun t _ y => ?_
  blk_simp
  rw [after0_4]
  idx_vars y
  exact tile m c t y0 y1 _ _ (by blk_simp [idx t]) (by blk_simp [idx t])

end Cert.InProjCtxIdeal.Eqn

end
-- ==== Proof.InProjCtxClaim.lean ====
/- The input projection on the context stream: its claims. -/
module

public import proofs.«01_k».proof.Defs
public import proofs.«01_k».proof.Proof.Gen.InProjCtx.Frame
public import proofs.«01_k».proof.Proof.InProjCtxValue
public import Idealize.ShloMosaic.Lib.Claim

@[expose] public section

set_option maxRecDepth 16384

noncomputable section

open Idealize.ShloMosaic Idealize.ShloMosaic.TcCoe Idealize.SL.Sem

namespace Cert.Proof.InProjCtx

/-- The kernel runs, leaves its arguments as they were and every semaphore at zero. -/
theorem quiet : Cert.quiescent_InProjCtx (hInProjCtx := Cert.InProjCtx.Gen.facts) := fun m ρ _ => Cert.InProjCtx.Gen.frame m ρ

/-- So does its ideal twin. -/
theorem quiet_ideal : Cert.quiescent_InProjCtxIdeal (hInProjCtxIdeal := Cert.InProjCtxIdeal.Gen.facts) := fun m ρ _ => Cert.InProjCtxIdeal.Gen.frame m ρ

/-- So does the reference. -/
theorem quiet_ref : Cert.quiescent_InProjCtxReferenceIdeal (hInProjCtxReferenceIdeal := Cert.InProjCtxReferenceIdeal.Gen.facts) := fun m ρ _ =>
  (θ_run Cert.InProjCtxReferenceIdeal.defs _ _).mono (fun r h => ⟨fun c => (h c).2, sem_eq_zero_of_no_sems (by decide) r.2⟩)
    (Cert.InProjCtxReferenceIdeal.Value.run m ρ)

/-- The ideal kernel and the reference leave the same result from the same arguments. -/
theorem equal : Cert.algebraic_InProjCtxIdeal_InProjCtxReferenceIdeal (hInProjCtxIdeal := Cert.InProjCtxIdeal.Gen.facts) (hInProjCtxReferenceIdeal := Cert.InProjCtxReferenceIdeal.Gen.facts) := by
  pair_intro
  · run_from Cert.InProjCtxIdeal.Gen.run_main m g
  · run_from Cert.InProjCtxReferenceIdeal.Value.run m' g'
    rw [Cert.InProjCtxIdeal.Eqn.final m c]
    clean_types
    funext j
    idx_vars j
    pointwise
    rfl

end Cert.Proof.InProjCtx

end
-- ==== Proof.MergeCtxValue.lean ====
/- The merge of the branches on the context stream: the array the pipelined kernel leaves, entry by entry.
   The kernel writes the modulated norm of a row tile into scratch at the first of the four points of the tile and holds it;
   every point gates the four branches' products at a column tile and adds them. -/
module

public import proofs.«01_k».proof.Proof.Gen.MergeCtxIdeal.Value
public import proofs.«01_k».proof.Proof.Gen.MergeCtxReferenceIdeal.Run
public import proofs.«01_k».proof.Proof.Norm
public import Idealize.ShloMosaic.Lib.Pipeline.ValueKit
public import Idealize.ShloMosaic.Lib.Pipeline.ValueKit.Held
public import Idealize.ShloMosaic.Lib.Pointwise
public import Idealize.ShloMosaic.Lib.Tactic.CleanTypes
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeCtxIdeal.Eqn

open Cert.MergeCtxIdeal Cert.MergeCtxIdeal.Gen

/-- The modulated norm of token `i` of all batches at entry `k`. -/
def tok (X : FVec Ideal S16x256x2048 .f32) (M : FVec Ideal S1x1x6144 .f32) (i : Fin 4096) (k : Fin 2048) : EReal :=
  Spec.modNorm (fun l => X (ix3 ⟨i.val / 256, by omega⟩ ⟨i.val % 256, by omega⟩ l))
    (fun l => M (ix3 0 0 ⟨l.val, by omega⟩))
    (fun l => M (ix3 0 0 ⟨2048 + l.val, by omega⟩)) k

/-- One branch's part of an entry: its gate times its product. -/
def part (h w : Fin 2048 → EReal) (b : EReal) (y u : Fin 512 → EReal) : EReal :=
  Ideal.logistic ((∑ k : Fin 2048, h k * w k) + b) * ∑ l : Fin 512, y l * u l

/-- The part of branch `g` at token `i` and column `j`. -/
def branch (X : FVec Ideal S16x256x2048 .f32) (M : FVec Ideal S1x1x6144 .f32) (W : FVec Ideal S2048x8192 .bf16) (b : FVec Ideal S4x1x2048 .f32)
    (U : FVec Ideal S4x512x2048 .bf16) (Y : FVec Ideal S4096x512 .bf16) (g : Fin 4) (i : Fin 4096) (j : Fin 2048) : EReal :=
  part (tok X M i) (fun k => W (ix2 k ⟨g.val * 2048 + j.val, by omega⟩)) (b (ix3 g 0 j)) (fun l => Y (ix2 i l)) (fun l => U (ix3 g l j))

/-- The merged branches at token `i` and column `j`. -/
def merged (X : FVec Ideal S16x256x2048 .f32) (M : FVec Ideal S1x1x6144 .f32) (Y0 Y1 Y2 Y3 : FVec Ideal S4096x512 .bf16)
    (W : FVec Ideal S2048x8192 .bf16) (b : FVec Ideal S4x1x2048 .f32) (U : FVec Ideal S4x512x2048 .bf16) (i : Fin 4096) (j : Fin 2048) : EReal :=
  branch X M W b U Y0 0 i j + branch X M W b U Y1 1 i j + branch X M W b U Y2 2 i j + branch X M W b U Y3 3 i j

variable (m : (ℓ : Loc nD τ sig) → Buf (Elt Ideal) ℓ)

/-- Every window's block index at grid point `t`. -/
theorem idx : ∀ t : Fin cfg0.N, win0_0.index t = ![t.val / 4, 0] ∧ win0_1.index t = ![0, 0, 0]
    ∧ win0_2.index t = ![t.val / 4, 0] ∧ win0_3.index t = ![t.val / 4, 0] ∧ win0_4.index t = ![t.val / 4, 0] ∧ win0_5.index t = ![t.val / 4, 0]
    ∧ win0_6.index t = ![0, t.val % 4] ∧ win0_7.index t = ![0, 4 + t.val % 4] ∧ win0_8.index t = ![0, 8 + t.val % 4] ∧ win0_9.index t = ![0, 12 + t.val % 4]
    ∧ win0_10.index t = ![0, 0, t.val % 4]
    ∧ win0_11.index t = ![0, 0, t.val % 4] ∧ win0_12.index t = ![1, 0, t.val % 4] ∧ win0_13.index t = ![2, 0, t.val % 4] ∧ win0_14.index t = ![3, 0, t.val % 4]
    ∧ win0_15.index t = ![t.val / 4, t.val % 4] ∧ t.val < 32 :=
  (by decide +kernel : ∀ t : Fin grid0.N, _)

/-- The region's operand `main_v0` holds the tokens with batch and position merged. -/
theorem V_v0 (c : Dev nD) (i : Fin 4096) (k : Fin 2048) : (show FVec Ideal S4096x2048 .f32 from V m c main_v0) (ix2 i k)
    = (show FVec Ideal S16x256x2048 .f32 from m ((c.tc : Thread nD τ).loc main_arg0)) (ix3 ⟨i.val / 256, by omega⟩ ⟨i.val % 256, by omega⟩ k) := by
  have h : V m c main_v0 = shapeCast S4096x2048 (m ((c.tc : Thread nD τ).loc main_arg0)) shapeCasts_S16x256x2048_S4096x2048 := by
    unfold V; after_results; try rfl
  rw [h]; clean_types; pointwise

/-- The tokens' block at a point is the argument's rows from `512 (t / 4)` on. -/
theorem iblk0 (c : Dev nD) (t : Fin cfg0.N) (y : Fin 512) (k : Fin 2048) (i : Fin 4096) (hi : (i : ℕ) = t.val / 4 * 512 + y) :
    (show FVec Ideal S512x2048 .f32 from iblk m c 0 t) (ix2 y k)
      = (show FVec Ideal S16x256x2048 .f32 from m ((c.tc : Thread nD τ).loc main_arg0)) (ix3 ⟨i.val / 256, by omega⟩ ⟨i.val % 256, by omega⟩ k) := by
  refine Eq.trans (b := (show FVec Ideal S4096x2048 .f32 from V m c main_v0) (ix2 i k)) ?_ (V_v0 m c i k)
  blk_ext [iblk, idx t]

/-- The modulation's block at a point is the row of its batch. -/
theorem iblk1 (c : Dev nD) (t : Fin cfg0.N) (y : Fin 512) (k : Fin 6144) (i : Fin 4096) (hi : (i : ℕ) = t.val / 4 * 512 + y) :
    (show FVec Ideal S1x1x6144 .f32 from iblk m c 1 t) (ix3 0 0 k)
      = (show FVec Ideal S1x1x6144 .f32 from m ((c.tc : Thread nD τ).loc main_arg1)) (ix3 0 0 k) := by
  blk_ext [iblk, V_main_arg1, idx t]

/-- Branch 0's block at a point is the rows of its tokens. -/
theorem iblk2 (c : Dev nD) (t : Fin cfg0.N) (y : Fin 512) (l : Fin 512) (i : Fin 4096) (hi : (i : ℕ) = t.val / 4 * 512 + y) :
    (show FVec Ideal S512x512 .bf16 from iblk m c 2 t) (ix2 y l)
      = (show FVec Ideal S4096x512 .bf16 from m ((c.tc : Thread nD τ).loc main_arg2)) (ix2 i l) := by
  blk_ext [iblk, V_main_arg2, idx t]

/-- Branch 1's block at a point is the rows of its tokens. -/
theorem iblk3 (c : Dev nD) (t : Fin cfg0.N) (y : Fin 512) (l : Fin 512) (i : Fin 4096) (hi : (i : ℕ) = t.val / 4 * 512 + y) :
    (show FVec Ideal S512x512 .bf16 from iblk m c 3 t) (ix2 y l)
      = (show FVec Ideal S4096x512 .bf16 from m ((c.tc : Thread nD τ).loc main_arg3)) (ix2 i l) := by
  blk_ext [iblk, V_main_arg3, idx t]

/-- Branch 2's block at a point is the rows of its tokens. -/
theorem iblk4 (c : Dev nD) (t : Fin cfg0.N) (y : Fin 512) (l : Fin 512) (i : Fin 4096) (hi : (i : ℕ) = t.val / 4 * 512 + y) :
    (show FVec Ideal S512x512 .bf16 from iblk m c 4 t) (ix2 y l)
      = (show FVec Ideal S4096x512 .bf16 from m ((c.tc : Thread nD τ).loc main_arg4)) (ix2 i l) := by
  blk_ext [iblk, V_main_arg4, idx t]

/-- Branch 3's block at a point is the rows of its tokens. -/
theorem iblk5 (c : Dev nD) (t : Fin cfg0.N) (y : Fin 512) (l : Fin 512) (i : Fin 4096) (hi : (i : ℕ) = t.val / 4 * 512 + y) :
    (show FVec Ideal S512x512 .bf16 from iblk m c 5 t) (ix2 y l)
      = (show FVec Ideal S4096x512 .bf16 from m ((c.tc : Thread nD τ).loc main_arg5)) (ix2 i l) := by
  blk_ext [iblk, V_main_arg5, idx t]

/-- The gate weights of branch 0 at a point are a column tile. -/
theorem iblk6 (c : Dev nD) (t : Fin cfg0.N) (k : Fin 2048) (z : Fin 512) (j : Fin 2048) (hj : (j : ℕ) = t.val % 4 * 512 + z) :
    (show FVec Ideal S2048x512 .bf16 from iblk m c 6 t) (ix2 k z)
      = (show FVec Ideal S2048x8192 .bf16 from m ((c.tc : Thread nD τ).loc main_arg6)) (ix2 k ⟨0 * 2048 + j.val, by omega⟩) := by
  blk_ext [iblk, V_main_arg6, idx t]

/-- The gate weights of branch 1 at a point are a column tile. -/
theorem iblk7 (c : Dev nD) (t : Fin cfg0.N) (k : Fin 2048) (z : Fin 512) (j : Fin 2048) (hj : (j : ℕ) = t.val % 4 * 512 + z) :
    (show FVec Ideal S2048x512 .bf16 from iblk m c 7 t) (ix2 k z)
      = (show FVec Ideal S2048x8192 .bf16 from m ((c.tc : Thread nD τ).loc main_arg6)) (ix2 k ⟨1 * 2048 + j.val, by omega⟩) := by
  blk_ext [iblk, V_main_arg6, idx t]

/-- The gate weights of branch 2 at a point are a column tile. -/
theorem iblk8 (c : Dev nD) (t : Fin cfg0.N) (k : Fin 2048) (z : Fin 512) (j : Fin 2048) (hj : (j : ℕ) = t.val % 4 * 512 + z) :
    (show FVec Ideal S2048x512 .bf16 from iblk m c 8 t) (ix2 k z)
      = (show FVec Ideal S2048x8192 .bf16 from m ((c.tc : Thread nD τ).loc main_arg6)) (ix2 k ⟨2 * 2048 + j.val, by omega⟩) := by
  blk_ext [iblk, V_main_arg6, idx t]

/-- The gate weights of branch 3 at a point are a column tile. -/
theorem iblk9 (c : Dev nD) (t : Fin cfg0.N) (k : Fin 2048) (z : Fin 512) (j : Fin 2048) (hj : (j : ℕ) = t.val % 4 * 512 + z) :
    (show FVec Ideal S2048x512 .bf16 from iblk m c 9 t) (ix2 k z)
      = (show FVec Ideal S2048x8192 .bf16 from m ((c.tc : Thread nD τ).loc main_arg6)) (ix2 k ⟨3 * 2048 + j.val, by omega⟩) := by
  blk_ext [iblk, V_main_arg6, idx t]

/-- The bias' block at a point is a column tile of the four rows. -/
theorem iblk10 (c : Dev nD) (t : Fin cfg0.N) (g : Fin 4) (z : Fin 512) (j : Fin 2048) (hj : (j : ℕ) = t.val % 4 * 512 + z) :
    (show FVec Ideal S4x1x512 .f32 from iblk m c 10 t) (ix3 g 0 z)
      = (show FVec Ideal S4x1x2048 .f32 from m ((c.tc : Thread nD τ).loc main_arg7)) (ix3 g 0 j) := by
  blk_ext [iblk, V_main_arg7, idx t]

/-- The output weights of branch 0 at a point are a column tile. -/
theorem iblk11 (c : Dev nD) (t : Fin cfg0.N) (l : Fin 512) (z : Fin 512) (j : Fin 2048) (hj : (j : ℕ) = t.val % 4 * 512 + z) :
    (show FVec Ideal S1x512x512 .bf16 from iblk m c 11 t) (ix3 0 l z)
      = (show FVec Ideal S4x512x2048 .bf16 from m ((c.tc : Thread nD τ).loc main_arg8)) (ix3 0 l j) := by
  blk_ext [iblk, V_main_arg8, idx t]

/-- The output weights of branch 1 at a point are a column tile. -/
theorem iblk12 (c : Dev nD) (t : Fin cfg0.N) (l : Fin 512) (z : Fin 512) (j : Fin 2048) (hj : (j : ℕ) = t.val % 4 * 512 + z) :
    (show FVec Ideal S1x512x512 .bf16 from iblk m c 12 t) (ix3 0 l z)
      = (show FVec Ideal S4x512x2048 .bf16 from m ((c.tc : Thread nD τ).loc main_arg8)) (ix3 1 l j) := by
  blk_ext [iblk, V_main_arg8, idx t]

/-- The output weights of branch 2 at a point are a column tile. -/
theorem iblk13 (c : Dev nD) (t : Fin cfg0.N) (l : Fin 512) (z : Fin 512) (j : Fin 2048) (hj : (j : ℕ) = t.val % 4 * 512 + z) :
    (show FVec Ideal S1x512x512 .bf16 from iblk m c 13 t) (ix3 0 l z)
      = (show FVec Ideal S4x512x2048 .bf16 from m ((c.tc : Thread nD τ).loc main_arg8)) (ix3 2 l j) := by
  blk_ext [iblk, V_main_arg8, idx t]

/-- The output weights of branch 3 at a point are a column tile. -/
theorem iblk14 (c : Dev nD) (t : Fin cfg0.N) (l : Fin 512) (z : Fin 512) (j : Fin 2048) (hj : (j : ℕ) = t.val % 4 * 512 + z) :
    (show FVec Ideal S1x512x512 .bf16 from iblk m c 14 t) (ix3 0 l z)
      = (show FVec Ideal S4x512x2048 .bf16 from m ((c.tc : Thread nD τ).loc main_arg8)) (ix3 3 l j) := by
  blk_ext [iblk, V_main_arg8, idx t]

/-- The tile the kernel keeps in scratch is the modulated norm of its rows. -/
theorem pay2_at (v10 v12 : FVec Ideal S1x1x2048 .f32) (v14 : FVec Ideal S512x2048 .f32) (y : Fin 512) (k : Fin 2048) :
    k0_pay2 (F := Ideal) v10 v12 v14 (ix2 y k)
      = Spec.modNorm (fun l => v14 (ix2 y l)) (fun l => v10 (ix3 0 0 l)) (fun l => v12 (ix3 0 0 l)) k := by
  pointwise [k0_pay2]
  rfl

/-- The first two branches' parts at an index. -/
theorem pay3_at (h : FVec Ideal S512x2048 .bf16) (w0 : FVec Ideal S2048x512 .bf16) (b0 : FVec Ideal S1x1x512 .f32) (y0 : FVec Ideal S512x512 .bf16)
    (u0 : FVec Ideal S1x512x512 .bf16) (w1 : FVec Ideal S2048x512 .bf16) (b1 : FVec Ideal S1x1x512 .f32) (y1 : FVec Ideal S512x512 .bf16)
    (u1 : FVec Ideal S1x512x512 .bf16) (y z : Fin 512) :
    k0_pay3 (F := Ideal) h w0 b0 y0 u0 w1 b1 y1 u1 (ix2 y z)
      = part (fun k => h (ix2 y k)) (fun k => w0 (ix2 k z)) (b0 (ix3 0 0 z)) (fun l => y0 (ix2 y l)) (fun l => u0 (ix3 0 l z))
        + part (fun k => h (ix2 y k)) (fun k => w1 (ix2 k z)) (b1 (ix3 0 0 z)) (fun l => y1 (ix2 y l)) (fun l => u1 (ix3 0 l z)) := by
  pointwise [k0_pay3]
  rfl

/-- The stored tile at an index: the first two branches' parts and the other two. -/
theorem pay1_at (h : FVec Ideal S512x2048 .bf16) (s : FVec Ideal S512x512 .f32) (w0 : FVec Ideal S2048x512 .bf16) (b0 : FVec Ideal S1x1x512 .f32)
    (y0 : FVec Ideal S512x512 .bf16) (u0 : FVec Ideal S1x512x512 .bf16) (w1 : FVec Ideal S2048x512 .bf16) (b1 : FVec Ideal S1x1x512 .f32)
    (y1 : FVec Ideal S512x512 .bf16) (u1 : FVec Ideal S1x512x512 .bf16) (y z : Fin 512) :
    k0_pay1 (F := Ideal) h s w0 b0 y0 u0 w1 b1 y1 u1 (ix2 y z)
      = s (ix2 y z) + part (fun k => h (ix2 y k)) (fun k => w0 (ix2 k z)) (b0 (ix3 0 0 z)) (fun l => y0 (ix2 y l)) (fun l => u0 (ix3 0 l z))
        + part (fun k => h (ix2 y k)) (fun k => w1 (ix2 k z)) (b1 (ix3 0 0 z)) (fun l => y1 (ix2 y l)) (fun l => u1 (ix3 0 l z)) := by
  pointwise [k0_pay1]
  rfl

/-- What the scratch holds after point `t`: the modulated norm of the point's row tile. -/
theorem held (c : Dev nD) (t : Fin cfg0.N) (y : Fin 512) (k : Fin 2048) (i : Fin 4096) (hi : (i : ℕ) = t.val / 4 * 512 + y) :
    (show FVec Ideal S512x2048 .bf16 from (outsAt0 m c t.val t.isLt).2) (ix2 y k)
      = tok (m ((c.tc : Thread nD τ).loc main_arg0)) (m ((c.tc : Thread nD τ).loc main_arg1)) i k := by
  have ht (t : Fin cfg0.N) : t.val < 32 := lt_of_lt_of_eq t.isLt N_0
  have key := Pipeline.eq_of_write_hold_apply (fun n h => (outsAt0 m c n h).2) 4
    (fun t j => tok (m ((c.tc : Thread nD τ).loc main_arg0)) (m ((c.tc : Thread nD τ).loc main_arg1))
      (⟨t.val / 4 * 512 + (j 0).val, by have := ht t; have : (j 0).val < 512 := (j 0).isLt; omega⟩ : Fin 4096) (j 1))
    (fun t h j => by
      rw [outsAt0_A m c t h]; frame_out
      idx_vars j
      refine (pay2_at _ _ _ j0 j1).trans ?_
      have := ht t
      unfold tok
      congr 1 <;> funext l
      · exact iblk0 m c t j0 l _ rfl
      · clean_types; pointwise; exact iblk1 m c t j0 _ ⟨t.val / 4 * 512 + j0.val, by omega⟩ rfl
      · clean_types; pointwise; exact iblk1 m c t j0 _ ⟨t.val / 4 * 512 + j0.val, by omega⟩ rfl)
    (fun t h j => by rw [outsAt0_B m c t h]; rfl) t (ix2 y k)
  refine key.trans ?_
  exact congrArg (fun r => tok _ _ r k) (Fin.ext (by show 4 * (t.val / 4) / 4 * 512 + y.val = i.val; omega))

/-- Equal pieces make equal parts. -/
theorem part_congr {h h' w w' : Fin 2048 → EReal} {b b' : EReal} {y y' u u' : Fin 512 → EReal} (e1 : ∀ k, h k = h' k) (e2 : ∀ k, w k = w' k)
    (e3 : b = b') (e4 : ∀ l, y l = y' l) (e5 : ∀ l, u l = u' l) : part h w b y u = part h' w' b' y' u' := by
  rw [funext e1, funext e2, e3, funext e4, funext e5]

/-- What grid point `t` leaves in the output tile: the merged branches at the tile's tokens and columns. -/
theorem tile (c : Dev nD) (t : Fin cfg0.N) (y z : Fin 512) (i : Fin 4096) (j : Fin 2048)
    (hi : (i : ℕ) = t.val / 4 * 512 + y) (hj : (j : ℕ) = t.val % 4 * 512 + z) :
    (show FVec Ideal S512x512 .bf16 from (outsAt0 m c t.val t.isLt).1) (ix2 y z)
      = merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) i j := by
  have hs := held m c t y
  by_cases h : t.val % 4 = 0
  · rw [outsAt0_A m c t h] at hs ⊢
    revert hs; frame_out; intro hs
    refine (pay1_at _ _ _ _ _ _ _ _ _ _ y z).trans ?_
    rw [pay3_at]
    refine congrArg₂ (· + ·) (congrArg₂ (· + ·) (congrArg₂ (· + ·) ?_ ?_) ?_) ?_
    · exact part_congr (fun k => hs k i hi) (fun k => iblk6 m c t k z j hj) (by clean_types; pointwise; exact iblk10 m c t 0 z j hj) (fun l => iblk2 m c t y l i hi) (fun l => iblk11 m c t l z j hj)
    · exact part_congr (fun k => hs k i hi) (fun k => iblk7 m c t k z j hj) (by clean_types; pointwise; exact iblk10 m c t 1 z j hj) (fun l => iblk3 m c t y l i hi) (fun l => iblk12 m c t l z j hj)
    · exact part_congr (fun k => hs k i hi) (fun k => iblk8 m c t k z j hj) (by clean_types; pointwise; exact iblk10 m c t 2 z j hj) (fun l => iblk4 m c t y l i hi) (fun l => iblk13 m c t l z j hj)
    · exact part_congr (fun k => hs k i hi) (fun k => iblk9 m c t k z j hj) (by clean_types; pointwise; exact iblk10 m c t 3 z j hj) (fun l => iblk5 m c t y l i hi) (fun l => iblk14 m c t l z j hj)
  · rw [outsAt0_B m c t h] at hs ⊢
    have hs' : ∀ k, (show FVec Ideal S512x2048 .bf16 from (outsAt0 m c (t.val - 1) (by omega)).2) (ix2 y k)
        = tok (m ((c.tc : Thread nD τ).loc main_arg0)) (m ((c.tc : Thread nD τ).loc main_arg1)) i k := fun k => hs k i hi
    clear hs
    frame_out
    simp only [read_unread_whole]
    refine (pay1_at _ _ _ _ _ _ _ _ _ _ y z).trans ?_
    rw [pay3_at]
    refine congrArg₂ (· + ·) (congrArg₂ (· + ·) (congrArg₂ (· + ·) ?_ ?_) ?_) ?_
    · exact part_congr hs' (fun k => iblk6 m c t k z j hj) (by clean_types; pointwise; exact iblk10 m c t 0 z j hj) (fun l => iblk2 m c t y l i hi) (fun l => iblk11 m c t l z j hj)
    · exact part_congr hs' (fun k => iblk7 m c t k z j hj) (by clean_types; pointwise; exact iblk10 m c t 1 z j hj) (fun l => iblk3 m c t y l i hi) (fun l => iblk12 m c t l z j hj)
    · exact part_congr hs' (fun k => iblk8 m c t k z j hj) (by clean_types; pointwise; exact iblk10 m c t 2 z j hj) (fun l => iblk4 m c t y l i hi) (fun l => iblk13 m c t l z j hj)
    · exact part_congr hs' (fun k => iblk9 m c t k z j hj) (by clean_types; pointwise; exact iblk10 m c t 3 z j hj) (fun l => iblk5 m c t y l i hi) (fun l => iblk14 m c t l z j hj)

/-- The kernel's result: the merged branches of every token. -/
theorem final (c : Dev nD) : (dats m 0 c).arrAt 15 (cfgs 0).N
    = fun x : S4096x2048.Idx => merged (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (x 0) (x 1) := by
  refine (dats m 0 c).arrAt_eq_of_covers 15 _ (by decide +kernel) fun t _ y => ?_
  blk_simp
  rw [after0_15]
  idx_vars y
  exact tile m c t y0 y1 _ _ (by blk_simp [idx t]) (by blk_simp [idx t])

end Cert.MergeCtxIdeal.Eqn

end
-- ==== Proof.MergeCtxRef.lean ====
/- The merge's reference on the context stream: its result in named pieces, and each piece entry by entry. -/
module

public import proofs.«01_k».proof.Proof.Gen.MergeCtxReferenceIdeal.Run
public import proofs.«01_k».proof.Proof.Norm
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.MergeCtxReferenceIdeal.Eqn

open Cert.MergeCtxReferenceIdeal Cert.MergeCtxReferenceIdeal.Gen

/-- The modulated norm of every token. -/
def hx (X : FVec Ideal S16x256x2048 .f32) (M : FVec Ideal S1x1x6144 .f32) : FVec Ideal S16x256x2048 .f32 :=
  addf (mulf (mulf (subf X (broadcastInDim S16x256x2048 ![0, 1, 2] bcast_S16x256x1_S16x256x2048_0_1_2 (Host.divf (broadcastInDim S16x256x1 ![0, 1] bcast_S16x256_S16x256x1_0_1 (Host.reduceAdd X (constant S_ .f32 0x00000000#32) reducesTo_S16x256x2048_S16x256_d2 h_S_)) (broadcastInDim S16x256x1 ![] bcast_S_S16x256x1 (constant S_ .f32 0x45000000#32))))) (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf (subf X (broadcastInDim S16x256x2048 ![0, 1, 2] bcast_S16x256x1_S16x256x2048_0_1_2 (Host.divf (broadcastInDim S16x256x1 ![0, 1] bcast_S16x256_S16x256x1_0_1 (Host.reduceAdd X (constant S_ .f32 0x00000000#32) reducesTo_S16x256x2048_S16x256_d2 h_S_)) (broadcastInDim S16x256x1 ![] bcast_S_S16x256x1 (constant S_ .f32 0x45000000#32))))) (subf X (broadcastInDim S16x256x2048 ![0, 1, 2] bcast_S16x256x1_S16x256x2048_0_1_2 (Host.divf (broadcastInDim S16x256x1 ![0, 1] bcast_S16x256_S16x256x1_0_1 (Host.reduceAdd X (constant S_ .f32 0x00000000#32) reducesTo_S16x256x2048_S16x256_d2 h_S_)) (broadcastInDim S16x256x1 ![] bcast_S_S16x256x1 (constant S_ .f32 0x45000000#32)))))) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (addf (broadcastInDim S1x1x2048 ![] bcast_S_S1x1x2048 (constant S_ .f32 0x3F800000#32)) (extractStridedSlice S1x1x2048 ![0, 0, 2048] M slices_S1x1x6144_S1x1x2048_0_0_2048)))) (broadcastInDim S16x256x2048 ![0, 1, 2] bcast_S1x1x2048_S16x256x2048_0_1_2 (extractStridedSlice S1x1x2048 ![0, 0, 0] M slices_S1x1x6144_S1x1x2048_0_0_0))
/-- The gates of all branches, before the sigmoid. -/
def gates (h : FVec Ideal S16x256x2048 .f32) (W : FVec Ideal S2048x8192 .bf16) (b : FVec Ideal S4x1x2048 .f32) : FVec Ideal S16x256x8192 .f32 :=
  addf (Host.dotGeneral dot_S16x256x2048_S2048x8192_S16x256x8192_2_0_01_1_n_n none h (extf .f32 W bitsLt_bf16_f32)) (broadcastInDim S16x256x8192 ![0, 1, 2] bcast_S1x1x8192_S16x256x8192_0_1_2 (broadcastInDim S1x1x8192 ![2] bcast_S8192_S1x1x8192_2 (shapeCast _ b shapeCasts_S4x1x2048_S8192)))
/-- The sigmoid. -/
def sigm (x : FVec Ideal S16x256x2048 .f32) : FVec Ideal S16x256x2048 .f32 :=
  Host.divf (broadcastInDim S16x256x2048 ![] bcast_S_S16x256x2048 (constant S_ .f32 0x3F800000#32)) (addf (broadcastInDim S16x256x2048 ![] bcast_S_S16x256x2048 (constant S_ .f32 0x3F800000#32)) (Host.exp (Host.negf x)))
/-- A branch times its output weights. -/
def up (Y : FVec Ideal S4096x512 .bf16) (u : FVec Ideal S1x512x2048 .bf16) : FVec Ideal S16x256x2048 .f32 :=
  Host.dotGeneral dot_S16x256x512_S512x2048_S16x256x2048_2_0_01_1_n_n none (shapeCast _ (extf .f32 Y bitsLt_bf16_f32) shapeCasts_S4096x512_S16x256x512) (extf .f32 (shapeCast _ u shapeCasts_S1x512x2048_S512x2048) bitsLt_bf16_f32)

/-- The modulated norm at an entry. -/
theorem hx_at (X : FVec Ideal S16x256x2048 .f32) (M : FVec Ideal S1x1x6144 .f32) (b : Fin 16) (n : Fin 256) (k : Fin 2048) :
    hx X M (ix3 b n k) = Spec.modNorm (fun l => X (ix3 b n l)) (fun l => M (ix3 0 0 ⟨l.val, by omega⟩))
      (fun l => M (ix3 0 0 ⟨2048 + l.val, by omega⟩)) k := by
  unfold hx; pointwise; rfl

/-- A gate at an entry. -/
theorem gates_at (h : FVec Ideal S16x256x2048 .f32) (W : FVec Ideal S2048x8192 .bf16) (bm : FVec Ideal S4x1x2048 .f32)
    (b : Fin 16) (n : Fin 256) (g : Fin 4) (j : Fin 2048) (x : Fin 8192) (hx : x.val = g.val * 2048 + j.val) :
    gates h W bm (ix3 b n x) = (∑ k : Fin 2048, h (ix3 b n k) * W (ix2 k x)) + bm (ix3 g 0 j) := by
  unfold gates; pointwise
  have e1 : (⟨x.val / 2048, by omega⟩ : Fin 4) = g := Fin.ext (by show x.val / 2048 = g.val; omega)
  have e2 : (⟨x.val % 2048, by omega⟩ : Fin 2048) = j := Fin.ext (by show x.val % 2048 = j.val; omega)
  exact congrArg₂ (fun p q => _ + bm (ix3 p 0 q)) e1 e2

/-- The sigmoid at an entry. -/
theorem sigm_at (x : FVec Ideal S16x256x2048 .f32) (i : S16x256x2048.Idx) : sigm x i = Ideal.logistic (x i) := by
  unfold sigm; pointwise; rfl

/-- A branch's product at an entry. -/
theorem up_at (Y : FVec Ideal S4096x512 .bf16) (u : FVec Ideal S1x512x2048 .bf16) (b : Fin 16) (n : Fin 256) (j : Fin 2048) (i : Fin 4096)
    (hi : i.val = b.val * 256 + n.val) : up Y u (ix3 b n j) = ∑ l : Fin 512, Y (ix2 i l) * u (ix3 0 l j) := by
  unfold up; pointwise
  have e : (⟨b.val * 256 + n.val, by omega⟩ : Fin 4096) = i := Fin.ext hi.symm
  exact Finset.sum_congr rfl fun l _ => congrArg (fun r => Y (ix2 r l) * u (ix3 0 l j)) e

/-- The sum of the four gated branches. -/
def res (X : FVec Ideal S16x256x2048 .f32) (M : FVec Ideal S1x1x6144 .f32) (Y0 Y1 Y2 Y3 : FVec Ideal S4096x512 .bf16)
    (W : FVec Ideal S2048x8192 .bf16) (b : FVec Ideal S4x1x2048 .f32) (U : FVec Ideal S4x512x2048 .bf16) : FVec Ideal S4096x2048 .bf16 :=
  truncf .bf16 (shapeCast _ (addf (addf (addf (mulf (sigm (extractStridedSlice S16x256x2048 ![0, 0, 0] (gates (hx X M) W b) slices_S16x256x8192_S16x256x2048_0_0_0)) (up Y0 (extractStridedSlice S1x512x2048 ![0, 0, 0] U slices_S4x512x2048_S1x512x2048_0_0_0))) (mulf (sigm (extractStridedSlice S16x256x2048 ![0, 0, 2048] (gates (hx X M) W b) slices_S16x256x8192_S16x256x2048_0_0_2048)) (up Y1 (extractStridedSlice S1x512x2048 ![1, 0, 0] U slices_S4x512x2048_S1x512x2048_1_0_0)))) (mulf (sigm (extractStridedSlice S16x256x2048 ![0, 0, 4096] (gates (hx X M) W b) slices_S16x256x8192_S16x256x2048_0_0_4096)) (up Y2 (extractStridedSlice S1x512x2048 ![2, 0, 0] U slices_S4x512x2048_S1x512x2048_2_0_0)))) (mulf (sigm (extractStridedSlice S16x256x2048 ![0, 0, 6144] (gates (hx X M) W b) slices_S16x256x8192_S16x256x2048_0_0_6144)) (up Y3 (extractStridedSlice S1x512x2048 ![3, 0, 0] U slices_S4x512x2048_S1x512x2048_3_0_0)))) shapeCasts_S16x256x2048_S4096x2048) bitsLt_bf16_f32

/-- The result is the sum of the four gated branches. -/
theorem res_eq (m : (ℓ : Loc nD τ sig) → Buf (Elt Ideal) ℓ) (c : Dev nD) : Value.res_main_v93 m c =
    res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The last reshape at an entry. -/
theorem flat_at (A : FVec Ideal S16x256x2048 .f32) (h) (i : Fin 4096) (j : Fin 2048) :
    truncf .bf16 (shapeCast S4096x2048 A h) bitsLt_bf16_f32 (ix2 i j) = A (ix3 ⟨i.val / 256, by omega⟩ ⟨i.val % 256, by omega⟩ j) := by
  pointwise

/-- A slice of the gates at an entry. -/
theorem gslice0 (z : FVec Ideal S16x256x8192 .f32) (b : Fin 16) (n : Fin 256) (j : Fin 2048) :
    extractStridedSlice S16x256x2048 ![0, 0, 0] z slices_S16x256x8192_S16x256x2048_0_0_0 (ix3 b n j) = z (ix3 b n ⟨0 * 2048 + j.val, by omega⟩) := by
  pointwise; try rfl

/-- A slice of the output weights at an entry. -/
theorem uslice0 (U : FVec Ideal S4x512x2048 .bf16) (l : Fin 512) (j : Fin 2048) :
    extractStridedSlice S1x512x2048 ![0, 0, 0] U slices_S4x512x2048_S1x512x2048_0_0_0 (ix3 0 l j) = U (ix3 0 l j) := by
  pointwise; try rfl

/-- A slice of the gates at an entry. -/
theorem gslice1 (z : FVec Ideal S16x256x8192 .f32) (b : Fin 16) (n : Fin 256) (j : Fin 2048) :
    extractStridedSlice S16x256x2048 ![0, 0, 2048] z slices_S16x256x8192_S16x256x2048_0_0_2048 (ix3 b n j) = z (ix3 b n ⟨1 * 2048 + j.val, by omega⟩) := by
  pointwise; try rfl

/-- A slice of the output weights at an entry. -/
theorem uslice1 (U : FVec Ideal S4x512x2048 .bf16) (l : Fin 512) (j : Fin 2048) :
    extractStridedSlice S1x512x2048 ![1, 0, 0] U slices_S4x512x2048_S1x512x2048_1_0_0 (ix3 0 l j) = U (ix3 1 l j) := by
  pointwise; try rfl

/-- A slice of the gates at an entry. -/
theorem gslice2 (z : FVec Ideal S16x256x8192 .f32) (b : Fin 16) (n : Fin 256) (j : Fin 2048) :
    extractStridedSlice S16x256x2048 ![0, 0, 4096] z slices_S16x256x8192_S16x256x2048_0_0_4096 (ix3 b n j) = z (ix3 b n ⟨2 * 2048 + j.val, by omega⟩) := by
  pointwise; try rfl

/-- A slice of the output weights at an entry. -/
theorem uslice2 (U : FVec Ideal S4x512x2048 .bf16) (l : Fin 512) (j : Fin 2048) :
    extractStridedSlice S1x512x2048 ![2, 0, 0] U slices_S4x512x2048_S1x512x2048_2_0_0 (ix3 0 l j) = U (ix3 2 l j) := by
  pointwise; try rfl

/-- A slice of the gates at an entry. -/
theorem gslice3 (z : FVec Ideal S16x256x8192 .f32) (b : Fin 16) (n : Fin 256) (j : Fin 2048) :
    extractStridedSlice S16x256x2048 ![0, 0, 6144] z slices_S16x256x8192_S16x256x2048_0_0_6144 (ix3 b n j) = z (ix3 b n ⟨3 * 2048 + j.val, by omega⟩) := by
  pointwise; try rfl

/-- A slice of the output weights at an entry. -/
theorem uslice3 (U : FVec Ideal S4x512x2048 .bf16) (l : Fin 512) (j : Fin 2048) :
    extractStridedSlice S1x512x2048 ![3, 0, 0] U slices_S4x512x2048_S1x512x2048_3_0_0 (ix3 0 l j) = U (ix3 3 l j) := by
  pointwise; try rfl

end Cert.MergeCtxReferenceIdeal.Eqn

end
-- ==== Proof.MergeCtxClaim.lean ====
/- The merge of the branches on the context stream: its claims. -/
module

public import proofs.«01_k».proof.Defs
public import proofs.«01_k».proof.Proof.Gen.MergeCtx.Frame
public import proofs.«01_k».proof.Proof.MergeCtxValue
public import proofs.«01_k».proof.Proof.MergeCtxRef
public import Idealize.ShloMosaic.Lib.Claim

@[expose] public section

set_option maxRecDepth 16384

noncomputable section

open Idealize.ShloMosaic Idealize.ShloMosaic.TcCoe Idealize.SL.Sem

namespace Cert.Proof.MergeCtx

open Cert.MergeCtxReferenceIdeal

/-- The kernel runs, leaves its arguments as they were and every semaphore at zero. -/
theorem quiet : Cert.quiescent_MergeCtx (hMergeCtx := Cert.MergeCtx.Gen.facts) := fun m ρ _ => Cert.MergeCtx.Gen.frame m ρ

/-- So does its ideal twin. -/
theorem quiet_ideal : Cert.quiescent_MergeCtxIdeal (hMergeCtxIdeal := Cert.MergeCtxIdeal.Gen.facts) := fun m ρ _ => Cert.MergeCtxIdeal.Gen.frame m ρ

/-- So does the reference. -/
theorem quiet_ref : Cert.quiescent_MergeCtxReferenceIdeal (hMergeCtxReferenceIdeal := Cert.MergeCtxReferenceIdeal.Gen.facts) := fun m ρ _ =>
  (θ_run Cert.MergeCtxReferenceIdeal.defs _ _).mono (fun r h => ⟨fun c => (h c).2, sem_eq_zero_of_no_sems (by decide) r.2⟩)
    (Cert.MergeCtxReferenceIdeal.Value.run m ρ)

open Cert.MergeCtxReferenceIdeal.Eqn in
/-- A branch's part of the reference at a token and a column. -/
theorem branch_at (X : FVec Ideal S16x256x2048 .f32) (M : FVec Ideal S1x1x6144 .f32) (W : FVec Ideal S2048x8192 .bf16) (b : FVec Ideal S4x1x2048 .f32)
    (U : FVec Ideal S4x512x2048 .bf16) (Y : FVec Ideal S4096x512 .bf16) (g : Fin 4) (i : Fin 4096) (j : Fin 2048)
    (z : FVec Ideal S16x256x2048 .f32) (u : FVec Ideal S1x512x2048 .bf16)
    (hz : z (ix3 ⟨i.val / 256, by omega⟩ ⟨i.val % 256, by omega⟩ j)
      = gates (hx X M) W b (ix3 ⟨i.val / 256, by omega⟩ ⟨i.val % 256, by omega⟩ ⟨g.val * 2048 + j.val, by omega⟩))
    (hu : ∀ l : Fin 512, u (ix3 0 l j) = U (ix3 g l j)) :
    (sigm z (ix3 ⟨i.val / 256, by omega⟩ ⟨i.val % 256, by omega⟩ j) * up Y u (ix3 ⟨i.val / 256, by omega⟩ ⟨i.val % 256, by omega⟩ j) : EReal)
      = Cert.MergeCtxIdeal.Eqn.branch X M W b U Y g i j := by
  rw [sigm_at, hz, gates_at _ _ _ _ _ g j _ rfl, up_at Y u _ _ j i (by show i.val = i.val / 256 * 256 + i.val % 256; omega)]
  unfold Cert.MergeCtxIdeal.Eqn.branch Cert.MergeCtxIdeal.Eqn.part
  congr 1
  · congr 2
    exact Finset.sum_congr rfl fun k _ => congrArg (· * _) (hx_at X M _ _ k)
  · exact Finset.sum_congr rfl fun l _ => congrArg (_ * ·) (hu l)

open Cert.MergeCtxReferenceIdeal.Eqn in
/-- The reference's result at a token and a column. -/
theorem res_at (X : FVec Ideal S16x256x2048 .f32) (M : FVec Ideal S1x1x6144 .f32) (Y0 Y1 Y2 Y3 : FVec Ideal S4096x512 .bf16)
    (W : FVec Ideal S2048x8192 .bf16) (b : FVec Ideal S4x1x2048 .f32) (U : FVec Ideal S4x512x2048 .bf16) (i : Fin 4096) (j : Fin 2048) :
    res X M Y0 Y1 Y2 Y3 W b U (ix2 i j) = Cert.MergeCtxIdeal.Eqn.merged X M Y0 Y1 Y2 Y3 W b U i j := by
  unfold res
  refine (flat_at _ _ i j).trans ?_
  refine congrArg₂ (· + ·) (congrArg₂ (· + ·) (congrArg₂ (· + ·) ?_ ?_) ?_) ?_
  · exact branch_at X M W b U Y0 0 i j _ _ (gslice0 _ _ _ j) (fun l => uslice0 U l j)
  · exact branch_at X M W b U Y1 1 i j _ _ (gslice1 _ _ _ j) (fun l => uslice1 U l j)
  · exact branch_at X M W b U Y2 2 i j _ _ (gslice2 _ _ _ j) (fun l => uslice2 U l j)
  · exact branch_at X M W b U Y3 3 i j _ _ (gslice3 _ _ _ j) (fun l => uslice3 U l j)

open Cert.MergeCtxReferenceIdeal.Eqn in
/-- The same from equal arguments, as an array. -/
theorem res_fun {X X' : FVec Ideal S16x256x2048 .f32} {M M' : FVec Ideal S1x1x6144 .f32} {Y0 Y0' Y1 Y1' Y2 Y2' Y3 Y3' : FVec Ideal S4096x512 .bf16}
    {W W' : FVec Ideal S2048x8192 .bf16} {b b' : FVec Ideal S4x1x2048 .f32} {U U' : FVec Ideal S4x512x2048 .bf16}
    (h0 : X = X') (h1 : M = M') (h2 : Y0 = Y0') (h3 : Y1 = Y1') (h4 : Y2 = Y2') (h5 : Y3 = Y3') (h6 : W = W') (h7 : b = b') (h8 : U = U') :
    res X M Y0 Y1 Y2 Y3 W b U = fun x : S4096x2048.Idx => Cert.MergeCtxIdeal.Eqn.merged X' M' Y0' Y1' Y2' Y3' W' b' U' (x 0) (x 1) := by
  subst h0 h1 h2 h3 h4 h5 h6 h7 h8
  funext x
  idx_vars x
  exact res_at _ _ _ _ _ _ _ _ _ x0 x1

/-- The ideal kernel and the reference leave the same result from the same arguments. -/
theorem equal : Cert.algebraic_MergeCtxIdeal_MergeCtxReferenceIdeal (hMergeCtxIdeal := Cert.MergeCtxIdeal.Gen.facts) (hMergeCtxReferenceIdeal := Cert.MergeCtxReferenceIdeal.Gen.facts) := by
  pair_intro
  · run_from Cert.MergeCtxIdeal.Gen.run_main m g
  · run_from Cert.MergeCtxReferenceIdeal.Value.run m' g'
    obtain ⟨h0, h1, h2, h3, h4, h5, h6, h7, h8⟩ := hagree c
    exact ((Cert.MergeCtxReferenceIdeal.Eqn.res_eq m' c).trans (res_fun h0 h1 h2 h3 h4 h5 h6 h7 h8)).trans (Cert.MergeCtxIdeal.Eqn.final m c).symm

end Cert.Proof.MergeCtx

end
-- ==== Proof.OutProjCtxValue.lean ====
/- The output projection on the context stream: the array the pipelined kernel leaves is the reference's composed term of the same arguments. -/
module

public import proofs.«01_k».proof.Proof.Gen.OutProjCtxIdeal.Value
public import proofs.«01_k».proof.Proof.Gen.OutProjCtxReferenceIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutProjCtxIdeal.Eqn

open Cert.OutProjCtxIdeal Cert.OutProjCtxIdeal.Gen

variable (m : (ℓ : Loc nD τ sig) → Buf (Elt Ideal) ℓ)
variable (m' : (ℓ : Loc OutProjCtxReferenceIdeal.nD OutProjCtxReferenceIdeal.τ OutProjCtxReferenceIdeal.sig) → Buf (Elt Ideal) ℓ)

/-- Every window's block index at grid point `t`: row tiles move with the point, the gate with the batch. -/
theorem idx : ∀ t : Fin cfg0.N, win0_0.index t = ![t.val, 0] ∧ win0_1.index t = ![t.val, 0]
    ∧ win0_2.index t = ![0, 0, 0] ∧ win0_3.index t = ![0, 0] ∧ win0_4.index t = ![0, 0]
    ∧ win0_5.index t = ![0, 0] ∧ win0_6.index t = ![t.val, 0] ∧ t.val < 8 :=
  (by decide +kernel : ∀ t : Fin grid0.N, _)

/-- The region's operand `main_v0` holds the tokens with batch and position merged. -/
theorem V_v0 (c : Dev nD) (i : Fin 4096) (k : Fin 2048) : (show FVec Ideal S4096x2048 .f32 from V m c main_v0) (ix2 i k)
    = (show FVec Ideal S16x256x2048 .f32 from m ((c.tc : Thread nD τ).loc main_arg1)) (ix3 ⟨i.val / 256, by omega⟩ ⟨i.val % 256, by omega⟩ k) := by
  have h : V m c main_v0 = shapeCast S4096x2048 (m ((c.tc : Thread nD τ).loc main_arg1)) shapeCasts_S16x256x2048_S4096x2048 := by
    unfold V; after_results; try rfl
  rw [h]; clean_types; pointwise

/-- The region's operand `main_v1` holds the norm's scale as a row. -/
theorem V_v1 (c : Dev nD) (k : Fin 2048) : (show FVec Ideal S1x2048 .f32 from V m c main_v1) (ix2 0 k)
    = (show FVec Ideal S2048 .f32 from m ((c.tc : Thread nD τ).loc main_arg4)) (ix1 k) := by
  have h : V m c main_v1 = shapeCast S1x2048 (m ((c.tc : Thread nD τ).loc main_arg4)) shapeCasts_S2048_S1x2048 := by
    unfold V; after_results; try rfl
  rw [h]; clean_types; pointwise

/-- The region's operand `main_v2` holds the norm's shift as a row. -/
theorem V_v2 (c : Dev nD) (k : Fin 2048) : (show FVec Ideal S1x2048 .f32 from V m c main_v2) (ix2 0 k)
    = (show FVec Ideal S2048 .f32 from m ((c.tc : Thread nD τ).loc main_arg5)) (ix1 k) := by
  have h : V m c main_v2 = shapeCast S1x2048 (m ((c.tc : Thread nD τ).loc main_arg5)) shapeCasts_S2048_S1x2048 := by
    unfold V; after_results; try rfl
  rw [h]; clean_types; pointwise

/-- The tokens' block at point `t` is the argument read at rows `512 t` on, batch and position split. -/
theorem iblk1 (c : Dev nD) (t : Fin cfg0.N) (y : Fin 512) (k : Fin 2048) (j : Fin 4096) (hj : (j : ℕ) = t.val * 512 + y) :
    (show FVec Ideal S512x2048 .f32 from iblk m c 1 t) (ix2 y k)
      = (show FVec Ideal S16x256x2048 .f32 from m ((c.tc : Thread nD τ).loc main_arg1)) (ix3 ⟨j.val / 256, by omega⟩ ⟨j.val % 256, by omega⟩ k) := by
  refine Eq.trans (b := (show FVec Ideal S4096x2048 .f32 from V m c main_v0) (ix2 j k)) ?_ (V_v0 m c j k)
  blk_ext [iblk, idx t]

/-- The modulation's block at a point is the row of its batch. -/
theorem iblk2 (c : Dev nD) (t : Fin cfg0.N) (y : Fin 512) (k : Fin 6144) (j : Fin 4096) (hj : (j : ℕ) = t.val * 512 + y) :
    (show FVec Ideal S1x1x6144 .f32 from iblk m c 2 t) (ix3 0 0 k)
      = (show FVec Ideal S1x1x6144 .f32 from m ((c.tc : Thread nD τ).loc main_arg2)) (ix3 0 0 k) := by
  blk_ext [iblk, V_main_arg2, idx t]

/-- The scale's block is the whole row. -/
theorem iblk4 (c : Dev nD) (t : Fin cfg0.N) (k : Fin 2048) :
    (show FVec Ideal S1x2048 .f32 from iblk m c 4 t) (ix2 0 k) = (show FVec Ideal S2048 .f32 from m ((c.tc : Thread nD τ).loc main_arg4)) (ix1 k) := by
  refine Eq.trans (b := (show FVec Ideal S1x2048 .f32 from V m c main_v1) (ix2 0 k)) ?_ (V_v1 m c k)
  blk_ext [iblk, idx t]

/-- The shift's block is the whole row. -/
theorem iblk5 (c : Dev nD) (t : Fin cfg0.N) (k : Fin 2048) :
    (show FVec Ideal S1x2048 .f32 from iblk m c 5 t) (ix2 0 k) = (show FVec Ideal S2048 .f32 from m ((c.tc : Thread nD τ).loc main_arg5)) (ix1 k) := by
  refine Eq.trans (b := (show FVec Ideal S1x2048 .f32 from V m c main_v2) (ix2 0 k)) ?_ (V_v2 m c k)
  blk_ext [iblk, idx t]

set_option maxHeartbeats 2000000 in
/-- What grid point `t` stores at block index `y` is the reference's result at the array index `y` stands for. -/
theorem point (c : Dev nD)
    (h0 : m' ((c.tc : Thread nD τ).loc OutProjCtxReferenceIdeal.main_arg0) = m ((c.tc : Thread nD τ).loc main_arg0))
    (h1 : m' ((c.tc : Thread nD τ).loc OutProjCtxReferenceIdeal.main_arg1) = m ((c.tc : Thread nD τ).loc main_arg1))
    (h2 : m' ((c.tc : Thread nD τ).loc OutProjCtxReferenceIdeal.main_arg2) = m ((c.tc : Thread nD τ).loc main_arg2))
    (h3 : m' ((c.tc : Thread nD τ).loc OutProjCtxReferenceIdeal.main_arg3) = m ((c.tc : Thread nD τ).loc main_arg3))
    (h4 : m' ((c.tc : Thread nD τ).loc OutProjCtxReferenceIdeal.main_arg4) = m ((c.tc : Thread nD τ).loc main_arg4))
    (h5 : m' ((c.tc : Thread nD τ).loc OutProjCtxReferenceIdeal.main_arg5) = m ((c.tc : Thread nD τ).loc main_arg5))
    (t : Fin cfg0.N) (y : S512x2048.Idx) (j : S4096x2048.Idx)
    (hj0 : (j 0 : ℕ) = t.val * 512 + (y 0 : ℕ)) (hj1 : (j 1 : ℕ) = (y 1 : ℕ)) :
    out0_6 (iblk m c 0 t) (iblk m c 1 t) (iblk m c 2 t) (iblk m c 3 t) (iblk m c 4 t) (iblk m c 5 t) y = OutProjCtxReferenceIdeal.Value.res_main_v36 m' c j := by
  frame_out
  unfold OutProjCtxReferenceIdeal.Value.res_main_v36
  rw [h0, h1, h2, h3, h4, h5]

  clean_types
  idx_vars y
  idx_vars j
  pointwise [k0_pay1]
  clear h0 h1 h2 h3 h4 h5
  reads_congr
  · rw [show y1 = j1 from Fin.ext hj1.symm]; exact iblk1 m c t _ _ _ hj0
  · rw [show y1 = j1 from Fin.ext hj1.symm]; exact iblk2 m c t _ _ _ hj0
  · blk_ext [iblk, V_main_arg0, idx t]
  · blk_ext [iblk, V_main_arg3, idx t]
  · exact iblk1 m c t _ _ _ hj0
  · exact iblk2 m c t _ _ _ hj0
  · blk_ext [iblk, V_main_arg3, idx t]
  · exact iblk1 m c t _ _ _ hj0
  · rw [show y1 = j1 from Fin.ext hj1.symm]; exact iblk4 m c t _
  · rw [show y1 = j1 from Fin.ext hj1.symm]; exact iblk5 m c t _

/-- The array after the run is the reference's result on agreeing arguments. -/
theorem final (c : Dev nD)
    (h0 : m' ((c.tc : Thread nD τ).loc OutProjCtxReferenceIdeal.main_arg0) = m ((c.tc : Thread nD τ).loc main_arg0))
    (h1 : m' ((c.tc : Thread nD τ).loc OutProjCtxReferenceIdeal.main_arg1) = m ((c.tc : Thread nD τ).loc main_arg1))
    (h2 : m' ((c.tc : Thread nD τ).loc OutProjCtxReferenceIdeal.main_arg2) = m ((c.tc : Thread nD τ).loc main_arg2))
    (h3 : m' ((c.tc : Thread nD τ).loc OutProjCtxReferenceIdeal.main_arg3) = m ((c.tc : Thread nD τ).loc main_arg3))
    (h4 : m' ((c.tc : Thread nD τ).loc OutProjCtxReferenceIdeal.main_arg4) = m ((c.tc : Thread nD τ).loc main_arg4))
    (h5 : m' ((c.tc : Thread nD τ).loc OutProjCtxReferenceIdeal.main_arg5) = m ((c.tc : Thread nD τ).loc main_arg5)) :
    (dats m 0 c).arrAt 6 (cfgs 0).N = OutProjCtxReferenceIdeal.Value.res_main_v36 m' c := by
  refine (dats m 0 c).arrAt_eq_of_covers 6 _ (by decide +kernel) fun t _ y => ?_
  blk_simp
  rw [after0_6]
  exact point m m' c h0 h1 h2 h3 h4 h5 t y _ (by blk_simp [idx t]) (by blk_simp [idx t])

end Cert.OutProjCtxIdeal.Eqn

end
-- ==== Proof.OutProjCtxClaim.lean ====
/- The output projection on the context stream: its claims. -/
module

public import proofs.«01_k».proof.Defs
public import proofs.«01_k».proof.Proof.Gen.OutProjCtx.Frame
public import proofs.«01_k».proof.Proof.OutProjCtxValue
public import Idealize.ShloMosaic.Lib.Claim

@[expose] public section

set_option maxRecDepth 16384

noncomputable section

open Idealize.ShloMosaic Idealize.ShloMosaic.TcCoe Idealize.SL.Sem

namespace Cert.Proof.OutProjCtx

/-- The kernel runs, leaves its arguments as they were and every semaphore at zero. -/
theorem quiet : Cert.quiescent_OutProjCtx (hOutProjCtx := Cert.OutProjCtx.Gen.facts) := fun m ρ _ => Cert.OutProjCtx.Gen.frame m ρ

/-- So does its ideal twin. -/
theorem quiet_ideal : Cert.quiescent_OutProjCtxIdeal (hOutProjCtxIdeal := Cert.OutProjCtxIdeal.Gen.facts) := fun m ρ _ => Cert.OutProjCtxIdeal.Gen.frame m ρ

/-- So does the reference. -/
theorem quiet_ref : Cert.quiescent_OutProjCtxReferenceIdeal (hOutProjCtxReferenceIdeal := Cert.OutProjCtxReferenceIdeal.Gen.facts) := fun m ρ _ =>
  (θ_run Cert.OutProjCtxReferenceIdeal.defs _ _).mono (fun r h => ⟨fun c => (h c).2, sem_eq_zero_of_no_sems (by decide) r.2⟩)
    (Cert.OutProjCtxReferenceIdeal.Value.run m ρ)

/-- The ideal kernel and the reference leave the same result from the same arguments. -/
theorem equal : Cert.algebraic_OutProjCtxIdeal_OutProjCtxReferenceIdeal (hOutProjCtxIdeal := Cert.OutProjCtxIdeal.Gen.facts) (hOutProjCtxReferenceIdeal := Cert.OutProjCtxReferenceIdeal.Gen.facts) := by
  pair_intro
  · run_from Cert.OutProjCtxIdeal.Gen.run_main m g
  · run_from Cert.OutProjCtxReferenceIdeal.Value.run m' g'
    exact (Cert.OutProjCtxIdeal.Eqn.final m m' c (hagree c).1 (hagree c).2.1 (hagree c).2.2.1 (hagree c).2.2.2.1 (hagree c).2.2.2.2.1
      (hagree c).2.2.2.2.2).symm

end Cert.Proof.OutProjCtx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguReferenceIdeal
public import proofs.«01_k».proof.Proof.Gen.InProjIdeal.Value
public import proofs.«01_k».proof.Proof.Gen.MergeIdeal.Value
public import proofs.«01_k».proof.Proof.Gen.OutProjIdeal.Value
public import proofs.«01_k».proof.Proof.Gen.SguIdeal.Value
public import proofs.«01_k».proof.Proof.Gen.ReferenceIdeal.Run
public import proofs.«01_k».proof.Proof.Gen.InProjReferenceIdeal.Run
public import proofs.«01_k».proof.Proof.Gen.MergeReferenceIdeal.Run
public import proofs.«01_k».proof.Proof.Gen.OutProjReferenceIdeal.Run
public import proofs.«01_k».proof.Proof.Gen.SguReferenceIdeal.Run
public import proofs.«01_k».proof.Proof.Gen.InProjCtx
public import proofs.«01_k».proof.Proof.Gen.InProjCtx.Skeleton
public import proofs.«01_k».proof.Proof.Gen.InProjCtx.Launch
public import proofs.«01_k».proof.Proof.Gen.InProjCtx.Points
public import proofs.«01_k».proof.Proof.Gen.InProjCtx.Frame
public import proofs.«01_k».proof.Proof.Gen.InProjCtxIdeal
public import proofs.«01_k».proof.Proof.Gen.InProjCtxIdeal.Skeleton
public import proofs.«01_k».proof.Proof.Gen.InProjCtxIdeal.Launch
public import proofs.«01_k».proof.Proof.Gen.InProjCtxIdeal.Points
public import proofs.«01_k».proof.Proof.Gen.InProjCtxIdeal.Frame
public import proofs.«01_k».proof.Proof.Gen.InProjCtxReferenceIdeal
public import proofs.«01_k».proof.Proof.Gen.InProjCtxIdeal.Value
public import proofs.«01_k».proof.Proof.Gen.InProjCtxReferenceIdeal.Run
public import proofs.«01_k».proof.Proof.Gen.MergeCtx
public import proofs.«01_k».proof.Proof.Gen.MergeCtx.Skeleton
public import proofs.«01_k».proof.Proof.Gen.MergeCtx.Launch
public import proofs.«01_k».proof.Proof.Gen.MergeCtx.Points
public import proofs.«01_k».proof.Proof.Gen.MergeCtx.Frame
public import proofs.«01_k».proof.Proof.Gen.MergeCtxIdeal
public import proofs.«01_k».proof.Proof.Gen.MergeCtxIdeal.Skeleton
public import proofs.«01_k».proof.Proof.Gen.MergeCtxIdeal.Launch
public import proofs.«01_k».proof.Proof.Gen.MergeCtxIdeal.Points
public import proofs.«01_k».proof.Proof.Gen.MergeCtxIdeal.Frame
public import proofs.«01_k».proof.Proof.Gen.MergeCtxReferenceIdeal
public import proofs.«01_k».proof.Proof.Gen.MergeCtxIdeal.Value
public import proofs.«01_k».proof.Proof.Gen.MergeCtxReferenceIdeal.Run
public import proofs.«01_k».proof.Proof.Gen.OutProjCtx
public import proofs.«01_k».proof.Proof.Gen.OutProjCtx.Skeleton
public import proofs.«01_k».proof.Proof.Gen.OutProjCtx.Launch
public import proofs.«01_k».proof.Proof.Gen.OutProjCtx.Points
public import proofs.«01_k».proof.Proof.Gen.OutProjCtx.Frame
public import proofs.«01_k».proof.Proof.Gen.OutProjCtxIdeal
public import proofs.«01_k».proof.Proof.Gen.OutProjCtxIdeal.Skeleton
public import proofs.«01_k».proof.Proof.Gen.OutProjCtxIdeal.Launch
public import proofs.«01_k».proof.Proof.Gen.OutProjCtxIdeal.Points
public import proofs.«01_k».proof.Proof.Gen.OutProjCtxIdeal.Frame
public import proofs.«01_k».proof.Proof.Gen.OutProjCtxReferenceIdeal
public import proofs.«01_k».proof.Proof.Gen.OutProjCtxIdeal.Value
public import proofs.«01_k».proof.Proof.Gen.OutProjCtxReferenceIdeal.Run
public import proofs.«01_k».proof.Proof.Gen.InProjLast
public import proofs.«01_k».proof.Proof.Gen.InProjLast.Skeleton
public import proofs.«01_k».proof.Proof.Gen.InProjLast.Launch
public import proofs.«01_k».proof.Proof.Gen.InProjLast.Points
public import proofs.«01_k».proof.Proof.Gen.InProjLast.Frame
public import proofs.«01_k».proof.Proof.Gen.InProjLastIdeal
public import proofs.«01_k».proof.Proof.Gen.InProjLastIdeal.Skeleton
public import proofs.«01_k».proof.Proof.Gen.InProjLastIdeal.Launch
public import proofs.«01_k».proof.Proof.Gen.InProjLastIdeal.Points
public import proofs.«01_k».proof.Proof.Gen.InProjLastIdeal.Frame
public import proofs.«01_k».proof.Proof.Gen.InProjLastReferenceIdeal
public import proofs.«01_k».proof.Proof.Gen.InProjLastIdeal.Value
public import proofs.«01_k».proof.Proof.Gen.InProjLastReferenceIdeal.Run
public import proofs.«01_k».proof.Proof.Gen.SguCtx
public import proofs.«01_k».proof.Proof.Gen.SguCtx.Skeleton
public import proofs.«01_k».proof.Proof.Gen.SguCtx.Launch
public import proofs.«01_k».proof.Proof.Gen.SguCtx.Points
public import proofs.«01_k».proof.Proof.Gen.SguCtx.Frame
public import proofs.«01_k».proof.Proof.Gen.SguCtxIdeal
public import proofs.«01_k».proof.Proof.Gen.SguCtxIdeal.Skeleton
public import proofs.«01_k».proof.Proof.Gen.SguCtxIdeal.Launch
public import proofs.«01_k».proof.Proof.Gen.SguCtxIdeal.Points
public import proofs.«01_k».proof.Proof.Gen.SguCtxIdeal.Frame
public import proofs.«01_k».proof.Proof.Gen.SguCtxReferenceIdeal
public import proofs.«01_k».proof.Proof.Gen.SguCtxIdeal.Value
public import proofs.«01_k».proof.Proof.Gen.SguCtxReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaReferenceIdeal
public import proofs.«01_k».proof.Proof.Gen.AdaIdeal.Value
public import proofs.«01_k».proof.Proof.Gen.AdaReferenceIdeal.Run
public import proofs.«01_k».proof.Proof.NattnClaim
public import proofs.«01_k».proof.Proof.MergeClaim
public import proofs.«01_k».proof.Proof.SguClaim
public import proofs.«01_k».proof.Proof.InProjClaim
public import proofs.«01_k».proof.Proof.OutProjClaim
public import proofs.«01_k».proof.Proof.InProjLastClaim
public import proofs.«01_k».proof.Proof.SguCtxClaim
public import proofs.«01_k».proof.Proof.AdaClaim
public import proofs.«01_k».proof.Proof.InProjCtxClaim
public import proofs.«01_k».proof.Proof.MergeCtxClaim
public import proofs.«01_k».proof.Proof.OutProjCtxClaim
public import Idealize.ShloMosaic.Adequacy
public import Idealize.ShloMosaic.Init
@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.InProj.Gen.facts, Cert.InProjIdeal.Gen.facts, Cert.InProjReferenceIdeal.Gen.facts, Cert.Merge.Gen.facts, Cert.MergeIdeal.Gen.facts, Cert.MergeReferenceIdeal.Gen.facts, Cert.OutProj.Gen.facts, Cert.OutProjIdeal.Gen.facts, Cert.OutProjReferenceIdeal.Gen.facts, Cert.Sgu.Gen.facts, Cert.SguIdeal.Gen.facts, Cert.SguReferenceIdeal.Gen.facts, Cert.InProjCtx.Gen.facts, Cert.InProjCtxIdeal.Gen.facts, Cert.InProjCtxReferenceIdeal.Gen.facts, Cert.MergeCtx.Gen.facts, Cert.MergeCtxIdeal.Gen.facts, Cert.MergeCtxReferenceIdeal.Gen.facts, Cert.OutProjCtx.Gen.facts, Cert.OutProjCtxIdeal.Gen.facts, Cert.OutProjCtxReferenceIdeal.Gen.facts, Cert.InProjLast.Gen.facts, Cert.InProjLastIdeal.Gen.facts, Cert.InProjLastReferenceIdeal.Gen.facts, Cert.SguCtx.Gen.facts, Cert.SguCtxIdeal.Gen.facts, Cert.SguCtxReferenceIdeal.Gen.facts, Cert.Ada.Gen.facts, Cert.AdaIdeal.Gen.facts, Cert.AdaReferenceIdeal.Gen.facts, Nattn.facts_pre,
  Nattn.quiet, Nattn.quiet_ideal, Nattn.quiet_ideal_pre, Nattn.quiet_ref, Nattn.quiet_ref_pre, InProj.quiet, InProj.quiet_ideal, InProj.quiet_ref, Merge.quiet, Merge.quiet_ideal, Merge.quiet_ref, OutProj.quiet, OutProj.quiet_ideal, OutProj.quiet_ref, Sgu.quiet, Sgu.quiet_ideal, Sgu.quiet_ref, InProjCtx.quiet, InProjCtx.quiet_ideal, InProjCtx.quiet_ref, MergeCtx.quiet, MergeCtx.quiet_ideal, MergeCtx.quiet_ref, OutProjCtx.quiet, OutProjCtx.quiet_ideal, OutProjCtx.quiet_ref, InProjLast.quiet, InProjLast.quiet_ideal, InProjLast.quiet_ref, SguCtx.quiet, SguCtx.quiet_ideal, SguCtx.quiet_ref, Ada.quiet, Ada.quiet_ideal, Ada.quiet_ref,
  Nattn.keeps, Nattn.equal, trivial, InProj.equal, trivial, Merge.equal, trivial, OutProj.equal, trivial, Sgu.equal, trivial, InProjCtx.equal, trivial, MergeCtx.equal, trivial, OutProjCtx.equal, trivial, InProjLast.equal, trivial, SguCtx.equal, trivial, Ada.equal⟩

end Cert.Proof

end
